-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite [hPre_finite : Cert.Pre_finite.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite [hPre_finite : Cert.Pre_finite.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Kernel10Ideal_pre_finite [hKernel10Ideal : Cert.Kernel10Ideal.Facts] [hPre_finite : Cert.Pre_finite.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Reference10Ideal_pre_finite [hReference10Ideal : Cert.Reference10Ideal.Facts] [hPre_finite : Cert.Pre_finite.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_v7) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v23) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v58) = v0 c
          ∧ r.2.mem ((c.tc : Thread Cert.Reference4Ideal.nD Cert.Reference4Ideal.τ).loc Cert.Reference4Ideal.main_v60) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v10) = v0 c
          ∧ r.2.mem ((c.tc : Thread Cert.Reference5Ideal.nD Cert.Reference5Ideal.τ).loc Cert.Reference5Ideal.main_v12) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  IdealRules.named_const.Statement Cert.Kernel6Ideal.κ "inv_sqrt_2" .f32 0x3F3504F3#32 (((Real.sqrt 2)⁻¹ : ℝ) : EReal)

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v13) = v0 c
          ∧ r.2.mem ((c.tc : Thread Cert.Reference6Ideal.nD Cert.Reference6Ideal.τ).loc Cert.Reference6Ideal.main_v15) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  IdealRules.named_const.Statement Cert.Kernel7Ideal.κ "inv_sqrt_128" .f32 0x3DB504F3#32 (((Real.sqrt 128)⁻¹ : ℝ) : EReal)

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v5_0)) (v1 : (c : Dev Cert.Kernel7Ideal.nD) → Buf (Elt Ideal) ((c.tc : Thread Cert.Kernel7Ideal.nD Cert.Kernel7Ideal.τ).loc Cert.Kernel7Ideal.main_v5_1)) (v2 : (c : Dev Cert.Kernel7Ideal.nD) → Buf (Elt Ideal) ((c.tc : Thread Cert.Kernel7Ideal.nD Cert.Kernel7Ideal.τ).loc Cert.Kernel7Ideal.main_v5_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5_0) = v0 c
          ∧ r.2.mem ((c.tc : Thread Cert.Kernel7Ideal.nD Cert.Kernel7Ideal.τ).loc Cert.Kernel7Ideal.main_v5_1) = v1 c
          ∧ r.2.mem ((c.tc : Thread Cert.Kernel7Ideal.nD Cert.Kernel7Ideal.τ).loc Cert.Kernel7Ideal.main_v5_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v19) = v0 c
          ∧ r.2.mem ((c.tc : Thread Cert.Reference7Ideal.nD Cert.Reference7Ideal.τ).loc Cert.Reference7Ideal.main_v21) = v1 c
          ∧ r.2.mem ((c.tc : Thread Cert.Reference7Ideal.nD Cert.Reference7Ideal.τ).loc Cert.Reference7Ideal.main_v22) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v3_0)) (v1 : (c : Dev Cert.Kernel8Ideal.nD) → Buf (Elt Ideal) ((c.tc : Thread Cert.Kernel8Ideal.nD Cert.Kernel8Ideal.τ).loc Cert.Kernel8Ideal.main_v3_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3_0) = v0 c
          ∧ r.2.mem ((c.tc : Thread Cert.Kernel8Ideal.nD Cert.Kernel8Ideal.τ).loc Cert.Kernel8Ideal.main_v3_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v28) = v0 c
          ∧ r.2.mem ((c.tc : Thread Cert.Reference8Ideal.nD Cert.Reference8Ideal.τ).loc Cert.Reference8Ideal.main_v30) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  IdealRules.named_const.Statement Cert.Kernel10Ideal.κ "log2_e" .f32 0x3FB8AA3B#32 (((Real.log 2)⁻¹ : ℝ) : EReal)

def algebraic_Kernel10Ideal_Reference10Ideal_pre_finite [hKernel10Ideal : Cert.Kernel10Ideal.Facts] [hReference10Ideal : Cert.Reference10Ideal.Facts] [hPre_finite : Cert.Pre_finite.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v145) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_finite (hKernel10Ideal := hKernel10Ideal) (hPre_finite := hPre_finite)
    ∧ quiescent_Reference10Ideal (hReference10Ideal := hReference10Ideal)
    ∧ quiescent_Reference10Ideal_pre_finite (hReference10Ideal := hReference10Ideal) (hPre_finite := hPre_finite)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_finite (hKernel10Ideal := hKernel10Ideal) (hReference10Ideal := hReference10Ideal) (hPre_finite := hPre_finite)
-- ==== Pre_finite.lean ====
abbrev S8192x4096 : Shape := ⟨2, ![8192, 4096]⟩
abbrev S8192x1024 : Shape := ⟨2, ![8192, 1024]⟩
abbrev S2x2x1024 : Shape := ⟨3, ![2, 2, 1024]⟩
abbrev S1x128 : Shape := ⟨2, ![1, 128]⟩
abbrev S_ : Shape := ⟨0, ![]⟩

class Facts : Prop where
  bitsLt_bf16_f32 : FTy.bits .bf16 < FTy.bits .f32
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S2x2x1024 : S_.BroadcastsInDim S2x2x1024 (![] : Fin 0 → Fin S2x2x1024.rank)
  reducesTo_S2x2x1024_S_d0_1_2 : S2x2x1024.ReducesTo [0, 1, 2] S_

variable [Facts]

def fn {F : FTy → Type} [FloatOps F] (main_arg0 : FVec F S8192x4096 .bf16) (main_arg1 : FVec F S8192x1024 .bf16) (main_arg2 : FVec F S2x2x1024 .f32) (main_arg3 : FVec F S1x128 .f32) : IVec S_ 1 :=
  let main_v0 : FVec F S8192x4096 .f32 := (extf .f32 · bitsLt_bf16_f32) main_arg0
  let main_v1 : FVec F S8192x4096 .f32 := Host.absf main_v0
  let main_cst : FVec F S_ .f32 := constant S_ .f32 0x7F800000#32
  let main_v2 : FVec F S8192x4096 .f32 := broadcastInDim S8192x4096 ![] bcast_S_S8192x4096 main_cst
  let main_v3 : IVec S8192x4096 1 := cmpf .olt main_v1 main_v2
  let main_c : IVec S_ 1 := constantI S_ 1 1#1
  let main_v4 : IVec S_ 1 := (fun x v => Host.reduce IntOp.andi x v reducesTo_S8192x4096_S_d0_1 h_S_) main_v3 main_c
  let main_v5 : FVec F S2x2x1024 .f32 := Host.absf main_arg2
  let main_cst_0 : FVec F S_ .f32 := constant S_ .f32 0x7F800000#32
  let main_v6 : FVec F S2x2x1024 .f32 := broadcastInDim S2x2x1024 ![] bcast_S_S2x2x1024 main_cst_0
  let main_v7 : IVec S2x2x1024 1 := cmpf .olt main_v5 main_v6
  let main_c_1 : IVec S_ 1 := constantI S_ 1 1#1
  let main_v8 : IVec S_ 1 := (fun x v => Host.reduce IntOp.andi x v reducesTo_S2x2x1024_S_d0_1_2 h_S_) main_v7 main_c_1
  let main_v9 : IVec S_ 1 := andi main_v4 main_v8
  main_v9
-- ==== Kernel.lean ====
abbrev S8192x2048 : Shape := ⟨2, ![8192, 2048]⟩
abbrev S1x1024 : Shape := ⟨2, ![1, 1024]⟩
abbrev S1x8x128x128 : Shape := ⟨4, ![1, 8, 128, 128]⟩
abbrev S1x8x128 : Shape := ⟨3, ![1, 8, 128]⟩
abbrev S8x128 : Shape := ⟨2, ![8, 128]⟩
abbrev S128x8 : Shape := ⟨2, ![128, 8]⟩
abbrev S128x8x128 : Shape := ⟨3, ![128, 8, 128]⟩
abbrev S128x1024 : Shape := ⟨2, ![128, 1024]⟩
abbrev S1024 : Shape := ⟨1, ![1024]⟩
abbrev S8x128x128 : Shape := ⟨3, ![8, 128, 128]⟩
abbrev S8192x1024 : Shape := ⟨2, ![8192, 1024]⟩
abbrev S1024x1024 : Shape := ⟨2, ![1024, 1024]⟩
abbrev S1024x1 : Shape := ⟨2, ![1024, 1]⟩
abbrev S1x128x128 : Shape := ⟨3, ![1, 128, 128]⟩
abbrev S128x128 : Shape := ⟨2, ![128, 128]⟩

abbrev nBuf : Space → Nat
  | .hbm => 12
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S1x1024, .f32⟩
  | .hbm, ⟨2, _⟩ => ⟨S1x8x128x128, .f32⟩
  | .hbm, ⟨3, _⟩ => ⟨S1x8x128, .f32⟩
  | .hbm, ⟨4, _⟩ => ⟨S8x128, .f32⟩
  | .hbm, ⟨5, _⟩ => ⟨S128x8, .f32⟩
  | .hbm, ⟨6, _⟩ => ⟨S128x8x128, .f32⟩
  | .hbm, ⟨7, _⟩ => ⟨S128x1024, .f32⟩
  | .hbm, ⟨8, _⟩ => ⟨S1024, .f32⟩
  | .hbm, ⟨9, _⟩ => ⟨S8x128x128, .f32⟩
  | .hbm, ⟨10, _⟩ => ⟨S1x1024, .f32⟩
  | .hbm, ⟨11, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S8x128x128, .f32⟩
  | .local _ .vmem, ⟨6, _⟩ => ⟨S128x1024, .f32⟩
  | .local _ .vmem, ⟨7, _⟩ => ⟨S1024x1024, .bf16⟩
  | .local _ .vmem, ⟨8, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S8192x2048 : Shape := ⟨2, ![8192, 2048]⟩
abbrev S1x1024 : Shape := ⟨2, ![1, 1024]⟩
abbrev S1x8x128x128 : Shape := ⟨4, ![1, 8, 128, 128]⟩
abbrev S1x8x128 : Shape := ⟨3, ![1, 8, 128]⟩
abbrev S2x4096x2048 : Shape := ⟨3, ![2, 4096, 2048]⟩
abbrev S2x4096x1024 : Shape := ⟨3, ![2, 4096, 1024]⟩
abbrev S_ : Shape := ⟨0, ![]⟩
abbrev S2x4096 : Shape := ⟨2, ![2, 4096]⟩
abbrev S2x4096x1 : Shape := ⟨3, ![2, 4096, 1]⟩
abbrev S1024 : Shape := ⟨1, ![1024]⟩
abbrev S1x1x1024 : Shape := ⟨3, ![1, 1, 1024]⟩
abbrev S2x32x128x8x128 : Shape := ⟨5, ![2, 32, 128, 8, 128]⟩
abbrev S8x128x128 : Shape := ⟨3, ![8, 128, 128]⟩
abbrev S8x2x32x128x128 : Shape := ⟨5, ![8, 2, 32, 128, 128]⟩
abbrev S8x128 : Shape := ⟨2, ![8, 128]⟩
abbrev S128x8 : Shape := ⟨2, ![128, 8]⟩
abbrev S1x1x128x8x1 : Shape := ⟨5, ![1, 1, 128, 8, 1]⟩
abbrev S8192x1024 : Shape := ⟨2, ![8192, 1024]⟩

abbrev nBuf : Space → Nat
  | .hbm => 46
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x1024, .f32⟩
  | .hbm, ⟨2, _⟩ => ⟨S1x8x128x128, .f32⟩
  | .hbm, ⟨3, _⟩ => ⟨S1x8x128, .f32⟩
  | .hbm, ⟨4, _⟩ => ⟨S8192x2048, .f32⟩
  | .hbm, ⟨5, _⟩ => ⟨S2x4096x2048, .f32⟩
  | .hbm, ⟨6, _⟩ => ⟨S2x4096x1024, .f32⟩
  | .hbm, ⟨7, _⟩ => ⟨S2x4096x1024, .f32⟩
  | .hbm, ⟨8, _⟩ => ⟨S_, .f32⟩
  | .hbm, ⟨9, _⟩ => ⟨S2x4096, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S2x4096x1024, .f32⟩
  | .hbm, ⟨15, _⟩ => ⟨S2x4096x1024, .f32⟩
  | .hbm, ⟨16, _⟩ => ⟨S2x4096x1024, .f32⟩
  | .hbm, ⟨17, _⟩ => ⟨S_, .f32⟩
  | .hbm, ⟨18, _⟩ => ⟨S2x4096, .f32⟩
  | .hbm, ⟨19, _⟩ => ⟨S2x4096x1, .f32⟩
  | .hbm, ⟨20, _⟩ => ⟨S_, .f32⟩
  | .hbm, ⟨21, _⟩ => ⟨S2x4096x1, .f32⟩
  | .hbm, ⟨22, _⟩ => ⟨S2x4096x1, .f32⟩
  | .hbm, ⟨23, _⟩ => ⟨S_, .f32⟩
  | .hbm, ⟨24, _⟩ => ⟨S2x4096x1, .f32⟩
  | .hbm, ⟨25, _⟩ => ⟨S2x4096x1, .f32⟩
  | .hbm, ⟨26, _⟩ => ⟨S2x4096x1, .f32⟩
  | .hbm, ⟨27, _⟩ => ⟨S2x4096x1024, .f32⟩
  | .hbm, ⟨28, _⟩ => ⟨S2x4096x1024, .f32⟩
  | .hbm, ⟨29, _⟩ => ⟨S1024, .f32⟩
  | .hbm, ⟨30, _⟩ => ⟨S1x1x1024, .f32⟩
  | .hbm, ⟨31, _⟩ => ⟨S2x4096x1024, .f32⟩
  | .hbm, ⟨32, _⟩ => ⟨S2x4096x1024, .f32⟩
  | .hbm, ⟨33, _⟩ => ⟨S2x32x128x8x128, .f32⟩
  | .hbm, ⟨34, _⟩ => ⟨S8x128x128, .f32⟩
  | .hbm, ⟨35, _⟩ => ⟨S8x2x32x128x128, .f32⟩
  | .hbm, ⟨36, _⟩ => ⟨S2x32x128x8x128, .f32⟩
  | .hbm, ⟨37, _⟩ => ⟨S8x128, .f32⟩
  | .hbm, ⟨38, _⟩ => ⟨S128x8, .f32⟩
  | .hbm, ⟨39, _⟩ => ⟨S1x1x128x8x1, .f32⟩
  | .hbm, ⟨40, _⟩ => ⟨S2x32x128x8x128, .f32⟩
  | .hbm, ⟨41, _⟩ => ⟨S2x32x128x8x128, .f32⟩
  | .hbm, ⟨42, _⟩ => ⟨S2x4096x1024, .f32⟩
  | .hbm, ⟨43, _⟩ => ⟨S2x4096x1024, .f32⟩
  | .hbm, ⟨44, _⟩ => ⟨S8192x1024, .f32⟩
  | .hbm, ⟨45, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩

abbrev nD : Nat := 1
abbrev τ : Topo := Topo.v7x

variable {F : FTy → Type} [FloatOps F]
-- ==== Kernel2.lean ====
abbrev S8192x2048 : Shape := ⟨2, ![8192, 2048]⟩
abbrev S1x2048x8192 : Shape := ⟨3, ![1, 2048, 8192]⟩
abbrev S1x8192x2048 : Shape := ⟨3, ![1, 8192, 2048]⟩
abbrev S2048x8192 : Shape := ⟨2, ![2048, 8192]⟩
abbrev S8192x8192 : Shape := ⟨2, ![8192, 8192]⟩
abbrev S2048x2048 : Shape := ⟨2, ![2048, 2048]⟩
abbrev S2048x1024 : Shape := ⟨2, ![2048, 1024]⟩
abbrev S256x2048 : Shape := ⟨2, ![256, 2048]⟩
abbrev S128x2048 : Shape := ⟨2, ![128, 2048]⟩
abbrev S128x1024 : Shape := ⟨2, ![128, 1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S1x2048x8192, .f32⟩
  | .hbm, ⟨2, _⟩ => ⟨S1x8192x2048, .f32⟩
  | .hbm, ⟨3, _⟩ => ⟨S2048x8192, .f32⟩
  | .hbm, ⟨4, _⟩ => ⟨S8192x2048, .f32⟩
  | .hbm, ⟨5, _⟩ => ⟨S8192x8192, .bf16⟩
  | .hbm, ⟨6, _⟩ => ⟨S8192x2048, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .f32⟩
  | .local _ .vmem, ⟨3, _⟩ => ⟨S2048x1024, .f32⟩
  | .local _ .vmem, ⟨4, _⟩ => ⟨S256x2048, .f32⟩
  | .local _ .vmem, ⟨5, _⟩ => ⟨S256x2048, .f32⟩
  | .local _ .vmem, ⟨6, _⟩ => ⟨S2048x1024, .bf16⟩
  | .local _ .vmem, ⟨7, _⟩ => ⟨S2048x1024, .bf16⟩
  | .local _ .vmem, ⟨8, _⟩ => ⟨S256x2048, .bf16⟩
  | .local _ .vmem, ⟨9, _⟩ => ⟨S256x2048, .bf16⟩
  | .local _ .vmem, ⟨10, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi c0_i32 v0
  let c0_i32_0 : BitVec 32 := 0#32
  let c0_i32_1 : BitVec 32 := 0#32
  ![c0_i32_0.toNat, v1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S8192x2048 : Shape := ⟨2, ![8192, 2048]⟩
abbrev S1x2048x8192 : Shape := ⟨3, ![1, 2048, 8192]⟩
abbrev S1x8192x2048 : Shape := ⟨3, ![1, 8192, 2048]⟩
abbrev S2048x8192 : Shape := ⟨2, ![2048, 8192]⟩
abbrev S8192x8192 : Shape := ⟨2, ![8192, 8192]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x8192, .f32⟩
  | .hbm, ⟨2, _⟩ => ⟨S1x8192x2048, .f32⟩
  | .hbm, ⟨3, _⟩ => ⟨S8192x2048, .f32⟩
  | .hbm, ⟨4, _⟩ => ⟨S2048x8192, .f32⟩
  | .hbm, ⟨5, _⟩ => ⟨S8192x8192, .f32⟩
  | .hbm, ⟨6, _⟩ => ⟨S_, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S8192x8192, .bf16⟩
  | .hbm, ⟨11, _⟩ => ⟨S8192x2048, .f32⟩
  | .hbm, ⟨12, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel3.lean ====
abbrev S8192x8192 : Shape := ⟨2, ![8192, 8192]⟩
abbrev S8192x2048 : Shape := ⟨2, ![8192, 2048]⟩
abbrev S2x4x2048 : Shape := ⟨3, ![2, 4, 2048]⟩
abbrev S1x2048 : Shape := ⟨2, ![1, 2048]⟩
abbrev S2048 : Shape := ⟨1, ![2048]⟩
abbrev S1024x2048 : Shape := ⟨2, ![1024, 2048]⟩
abbrev S2048x2048 : Shape := ⟨2, ![2048, 2048]⟩
abbrev S1x4x2048 : Shape := ⟨3, ![1, 4, 2048]⟩
abbrev S_ : Shape := ⟨0, ![]⟩
abbrev S1x1x2048 : Shape := ⟨3, ![1, 1, 2048]⟩
abbrev S128x2048 : Shape := ⟨2, ![128, 2048]⟩
abbrev S128 : Shape := ⟨1, ![128]⟩
abbrev S128x1 : Shape := ⟨2, ![128, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S8192x2048, .f32⟩
  | .hbm, ⟨3, _⟩ => ⟨S2x4x2048, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1x4x2048, .f32⟩
  | .local _ .vmem, ⟨5, _⟩ => ⟨S1x4x2048, .f32⟩
  | .local _ .vmem, ⟨6, _⟩ => ⟨S1x2048, .f32⟩
  | .local _ .vmem, ⟨7, _⟩ => ⟨S1024x2048, .f32⟩
  | .local _ .vmem, ⟨8, _⟩ => ⟨S1024x2048, .f32⟩
  | .local _ .vmem, ⟨9, _⟩ => ⟨S1024x2048, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg0 : BitVec 32 := BitVec.ofNat 32 (i 0).val
  let c1024_i32 : BitVec 32 := 1024#32
  let v0 : BitVec 32 := Scalar.muli arg0 c1024_i32
  v0
def k0_cond1 (i : grid0.Coords) : BitVec 1 :=
  let arg1 : BitVec 32 := BitVec.ofNat 32 (i 1).val
  let c2_i32 : BitVec 32 := 2#32
  let v2 : BitVec 1 := Scalar.cmpi .eq arg1 c2_i32
  let v3 : BitVec 32 := Scalar.extui v2
  let c0_i32 : BitVec 32 := 0#32
  let v4 : BitVec 1 := Scalar.cmpi .ne v3 c0_i32
  v4

def k0_off1 (i : grid0.Coords) : Fin 2 → Nat :=
  let arg0 : BitVec 32 := BitVec.ofNat 32 (i 0).val
  let c1024_i32 : BitVec 32 := 1024#32
  let v0 : BitVec 32 := Scalar.muli arg0 c1024_i32
  let v1 : BitVec 32 := v0
  let c0_i32_6 : BitVec 32 := 0#32
  ![v1.toNat, 0]
def k0_cond4 (i : grid0.Coords) : BitVec 1 :=
  let arg1 : BitVec 32 := BitVec.ofNat 32 (i 1).val
  let c3_i32_4 : BitVec 32 := 3#32
  let v13 : BitVec 1 := Scalar.cmpi .eq arg1 c3_i32_4
  let v14 : BitVec 32 := Scalar.extui v13
  let c0_i32_5 : BitVec 32 := 0#32
  let v15 : BitVec 1 := Scalar.cmpi .ne v14 c0_i32_5
  v15

def k0_off2 (i : grid0.Coords) : Fin 2 → Nat :=
  let arg0 : BitVec 32 := BitVec.ofNat 32 (i 0).val
  let c1024_i32 : BitVec 32 := 1024#32
  let v0 : BitVec 32 := Scalar.muli arg0 c1024_i32
  let v1 : BitVec 32 := v0
  let c0_i32_6 : BitVec 32 := 0#32
  ![v1.toNat, 0]
def k0_cond2 (i : grid0.Coords) : BitVec 1 :=
  let arg1 : BitVec 32 := BitVec.ofNat 32 (i 1).val
  let c0_i32_0 : BitVec 32 := 0#32
  let v5 : BitVec 1 := Scalar.cmpi .eq arg1 c0_i32_0
  let v6 : BitVec 32 := Scalar.extui v5
  let c0_i32_1 : BitVec 32 := 0#32
  let v7 : BitVec 1 := Scalar.cmpi .ne v6 c0_i32_1
  v7

def k0_cond3 (i : grid0.Coords) : BitVec 1 :=
  let arg1 : BitVec 32 := BitVec.ofNat 32 (i 1).val
  let c0_i32_2 : BitVec 32 := 0#32
  let v8 : BitVec 1 := Scalar.cmpi .sgt arg1 c0_i32_2
  let c3_i32 : BitVec 32 := 3#32
  let v9 : BitVec 1 := Scalar.cmpi .slt arg1 c3_i32
  let v10 : BitVec 1 := Scalar.andi v8 v9
  let v11 : BitVec 32 := Scalar.extui v10
  let c0_i32_3 : BitVec 32 := 0#32
  let v12 : BitVec 1 := Scalar.cmpi .ne v11 c0_i32_3
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference3Ideal.lean ====
abbrev S8192x8192 : Shape := ⟨2, ![8192, 8192]⟩
abbrev S8192x2048 : Shape := ⟨2, ![8192, 2048]⟩
abbrev S2x4x2048 : Shape := ⟨3, ![2, 4, 2048]⟩
abbrev S1x2048 : Shape := ⟨2, ![1, 2048]⟩
abbrev S2x1x2048 : Shape := ⟨3, ![2, 1, 2048]⟩
abbrev S2x4096x8192 : Shape := ⟨3, ![2, 4096, 8192]⟩
abbrev S2x4096x2048 : Shape := ⟨3, ![2, 4096, 2048]⟩
abbrev S_ : Shape := ⟨0, ![]⟩
abbrev S2x4096 : Shape := ⟨2, ![2, 4096]⟩
abbrev S2x4096x1 : Shape := ⟨3, ![2, 4096, 1]⟩
abbrev S2048 : Shape := ⟨1, ![2048]⟩
abbrev S1x1x2048 : Shape := ⟨3, ![1, 1, 2048]⟩

abbrev nBuf : Space → Nat
  | .hbm => 32
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S8192x2048, .f32⟩
  | .hbm, ⟨3, _⟩ => ⟨S2x4x2048, .f32⟩
  | .hbm, ⟨4, _⟩ => ⟨S1x2048, .f32⟩
  | .hbm, ⟨5, _⟩ => ⟨S8192x8192, .f32⟩
  | .hbm, ⟨6, _⟩ => ⟨S8192x2048, .f32⟩
  | .hbm, ⟨7, _⟩ => ⟨S2x1x2048, .f32⟩
  | .hbm, ⟨8, _⟩ => ⟨S2x4096x8192, .f32⟩
  | .hbm, ⟨9, _⟩ => ⟨S2x4096x2048, .f32⟩
  | .hbm, ⟨10, _⟩ => ⟨S2x4096x2048, .f32⟩
  | .hbm, ⟨11, _⟩ => ⟨S_, .f32⟩
  | .hbm, ⟨12, _⟩ => ⟨S2x4096, .f32⟩
  | .hbm, ⟨13, _⟩ => ⟨S2x4096x1, .f32⟩
  | .hbm, ⟨14, _⟩ => ⟨S_, .f32⟩
  | .hbm, ⟨15, _⟩ => ⟨S2x4096x1, .f32⟩
  | .hbm, ⟨16, _⟩ => ⟨S2x4096x1, .f32⟩
  | .hbm, ⟨17, _⟩ => ⟨S_, .f32⟩
  | .hbm, ⟨18, _⟩ => ⟨S2x4096x1, .f32⟩
  | .hbm, ⟨19, _⟩ => ⟨S2x4096x1, .f32⟩
  | .hbm, ⟨20, _⟩ => ⟨S2x4096x1, .f32⟩
  | .hbm, ⟨21, _⟩ => ⟨S2x4096x2048, .f32⟩
  | .hbm, ⟨22, _⟩ => ⟨S2x4096x2048, .f32⟩
  | .hbm, ⟨23, _⟩ => ⟨S2048, .f32⟩
  | .hbm, ⟨24, _⟩ => ⟨S1x1x2048, .f32⟩
  | .hbm, ⟨25, _⟩ => ⟨S2x4096x2048, .f32⟩
  | .hbm, ⟨26, _⟩ => ⟨S2x4096x2048, .f32⟩
  | .hbm, ⟨27, _⟩ => ⟨S2x4096x2048, .f32⟩
  | .hbm, ⟨28, _⟩ => ⟨S2x4096x2048, .f32⟩
  | .hbm, ⟨29, _⟩ => ⟨S2x4096x2048, .f32⟩
  | .hbm, ⟨30, _⟩ => ⟨S2x4096x2048, .f32⟩
  | .hbm, ⟨31, _⟩ => ⟨S8192x2048, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Kernel4.lean ====
abbrev S8192x1024 : Shape := ⟨2, ![8192, 1024]⟩
abbrev S8192x4096 : Shape := ⟨2, ![8192, 4096]⟩
abbrev S8192x2048 : Shape := ⟨2, ![8192, 2048]⟩
abbrev S2x4x2048 : Shape := ⟨3, ![2, 4, 2048]⟩
abbrev S1x2048 : Shape := ⟨2, ![1, 2048]⟩
abbrev S1024x2048 : Shape := ⟨2, ![1024, 2048]⟩
abbrev S2048x2048 : Shape := ⟨2, ![2048, 2048]⟩
abbrev S2048 : Shape := ⟨1, ![2048]⟩
abbrev S512x1024 : Shape := ⟨2, ![512, 1024]⟩
abbrev S512x2048 : Shape := ⟨2, ![512, 2048]⟩
abbrev S1x4x2048 : Shape := ⟨3, ![1, 4, 2048]⟩
abbrev S1x1x2048 : Shape := ⟨3, ![1, 1, 2048]⟩
abbrev S384x1024 : Shape := ⟨2, ![384, 1024]⟩
abbrev S384x2048 : Shape := ⟨2, ![384, 2048]⟩
abbrev S128x1024 : Shape := ⟨2, ![128, 1024]⟩
abbrev S128x2048 : Shape := ⟨2, ![128, 2048]⟩
abbrev S384 : Shape := ⟨1, ![384]⟩
abbrev S384x1 : Shape := ⟨2, ![384, 1]⟩
abbrev S128 : Shape := ⟨1, ![128]⟩
abbrev S128x1 : Shape := ⟨2, ![128, 1]⟩

abbrev nBuf : Space → Nat
  | .hbm => 16
  | .vmem => 21
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x4096, .bf16⟩
  | .hbm, ⟨3, _⟩ => ⟨S8192x2048, .f32⟩
  | .hbm, ⟨4, _⟩ => ⟨S2x4x2048, .f32⟩
  | .hbm, ⟨5, _⟩ => ⟨S1x2048, .f32⟩
  | .hbm, ⟨6, _⟩ => ⟨S1x2048, .f32⟩
  | .hbm, ⟨7, _⟩ => ⟨S1024x2048, .bf16⟩
  | .hbm, ⟨8, _⟩ => ⟨S1024x2048, .bf16⟩
  | .hbm, ⟨9, _⟩ => ⟨S2048x2048, .bf16⟩
  | .hbm, ⟨10, _⟩ => ⟨S2048, .f32⟩
  | .hbm, ⟨11, _⟩ => ⟨S2048, .f32⟩
  | .hbm, ⟨12, _⟩ => ⟨S1x2048, .f32⟩
  | .hbm, ⟨13, _⟩ => ⟨S1x2048, .f32⟩
  | .hbm, ⟨14, _⟩ => ⟨S8192x2048, .f32⟩
  | .hbm, ⟨15, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .f32⟩
  | .local _ .vmem, ⟨9, _⟩ => ⟨S512x2048, .f32⟩
  | .local _ .vmem, ⟨10, _⟩ => ⟨S1x4x2048, .f32⟩
  | .local _ .vmem, ⟨11, _⟩ => ⟨S1x4x2048, .f32⟩
  | .local _ .vmem, ⟨12, _⟩ => ⟨S1x2048, .f32⟩
  | .local _ .vmem, ⟨13, _⟩ => ⟨S1x2048, .f32⟩
  | .local _ .vmem, ⟨14, _⟩ => ⟨S1024x2048, .bf16⟩
  | .local _ .vmem, ⟨15, _⟩ => ⟨S1024x2048, .bf16⟩
  | .local _ .vmem, ⟨16, _⟩ => ⟨S2048x2048, .bf16⟩
  | .local _ .vmem, ⟨17, _⟩ => ⟨S512x2048, .f32⟩
  | .local _ .vmem, ⟨18, _⟩ => ⟨S512x2048, .f32⟩
  | .local _ .vmem, ⟨19, _⟩ => ⟨S512x2048, .bf16⟩
  | .local _ .vmem, ⟨20, _⟩ => ⟨S512x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference4Ideal.lean ====
abbrev S8192x1024 : Shape := ⟨2, ![8192, 1024]⟩
abbrev S8192x4096 : Shape := ⟨2, ![8192, 4096]⟩
abbrev S8192x2048 : Shape := ⟨2, ![8192, 2048]⟩
abbrev S2x4x2048 : Shape := ⟨3, ![2, 4, 2048]⟩
abbrev S1x2048 : Shape := ⟨2, ![1, 2048]⟩
abbrev S1024x2048 : Shape := ⟨2, ![1024, 2048]⟩
abbrev S2048x2048 : Shape := ⟨2, ![2048, 2048]⟩
abbrev S2x4096x4096 : Shape := ⟨3, ![2, 4096, 4096]⟩
abbrev S2x1x2048 : Shape := ⟨3, ![2, 1, 2048]⟩
abbrev S2x4096x1024 : Shape := ⟨3, ![2, 4096, 1024]⟩
abbrev S2x4096x2048 : Shape := ⟨3, ![2, 4096, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩

abbrev nBuf : Space → Nat
  | .hbm => 78
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x4096, .bf16⟩
  | .hbm, ⟨3, _⟩ => ⟨S8192x2048, .f32⟩
  | .hbm, ⟨4, _⟩ => ⟨S2x4x2048, .f32⟩
  | .hbm, ⟨5, _⟩ => ⟨S1x2048, .f32⟩
  | .hbm, ⟨6, _⟩ => ⟨S1x2048, .f32⟩
  | .hbm, ⟨7, _⟩ => ⟨S1024x2048, .bf16⟩
  | .hbm, ⟨8, _⟩ => ⟨S1024x2048, .bf16⟩
  | .hbm, ⟨9, _⟩ => ⟨S2048x2048, .bf16⟩
  | .hbm, ⟨10, _⟩ => ⟨S8192x4096, .f32⟩
  | .hbm, ⟨11, _⟩ => ⟨S2x4096x4096, .f32⟩
  | .hbm, ⟨12, _⟩ => ⟨S2x1x2048, .f32⟩
  | .hbm, ⟨13, _⟩ => ⟨S2x1x2048, .f32⟩
  | .hbm, ⟨14, _⟩ => ⟨S2x1x2048, .f32⟩
  | .hbm, ⟨15, _⟩ => ⟨S8192x1024, .f32⟩
  | .hbm, ⟨16, _⟩ => ⟨S2x4096x1024, .f32⟩
  | .hbm, ⟨17, _⟩ => ⟨S1024x2048, .f32⟩
  | .hbm, ⟨18, _⟩ => ⟨S2x4096x2048, .f32⟩
  | .hbm, ⟨19, _⟩ => ⟨S8192x1024, .f32⟩
  | .hbm, ⟨20, _⟩ => ⟨S2x4096x1024, .f32⟩
  | .hbm, ⟨21, _⟩ => ⟨S1024x2048, .f32⟩
  | .hbm, ⟨22, _⟩ => ⟨S2x4096x2048, .f32⟩
  | .hbm, ⟨23, _⟩ => ⟨S2x4096x2048, .f32⟩
  | .hbm, ⟨24, _⟩ => ⟨S2x4096x2048, .f32⟩
  | .hbm, ⟨25, _⟩ => ⟨S2x4096x2048, .f32⟩
  | .hbm, ⟨26, _⟩ => ⟨S2x4096x2048, .f32⟩
  | .hbm, ⟨27, _⟩ => ⟨S2x4096x2048, .f32⟩
  | .hbm, ⟨28, _⟩ => ⟨S2x4096x2048, .f32⟩
  | .hbm, ⟨29, _⟩ => ⟨S2048x2048, .f32⟩
  | .hbm, ⟨30, _⟩ => ⟨S2x4096x2048, .f32⟩
  | .hbm, ⟨31, _⟩ => ⟨S2048, .f32⟩
  | .hbm, ⟨32, _⟩ => ⟨S2x4096x2048, .f32⟩
  | .hbm, ⟨33, _⟩ => ⟨S_, .f32⟩
  | .hbm, ⟨34, _⟩ => ⟨S2x4096, .f32⟩
  | .hbm, ⟨35, _⟩ => ⟨S2x4096x1, .f32⟩
  | .hbm, ⟨36, _⟩ => ⟨S_, .f32⟩
  | .hbm, ⟨37, _⟩ => ⟨S2x4096x1, .f32⟩
  | .hbm, ⟨38, _⟩ => ⟨S2x4096x1, .f32⟩
  | .hbm, ⟨39, _⟩ => ⟨S_, .f32⟩
  | .hbm, ⟨40, _⟩ => ⟨S2x4096x1, .f32⟩
  | .hbm, ⟨41, _⟩ => ⟨S2x4096x1, .f32⟩
  | .hbm, ⟨42, _⟩ => ⟨S2x4096x1, .f32⟩
  | .hbm, ⟨43, _⟩ => ⟨S2x4096x2048, .f32⟩
  | .hbm, ⟨44, _⟩ => ⟨S2x4096x2048, .f32⟩
  | .hbm, ⟨45, _⟩ => ⟨S1x1x2048, .f32⟩
  | .hbm, ⟨46, _⟩ => ⟨S2x4096x2048, .f32⟩
  | .hbm, ⟨47, _⟩ => ⟨S2x4096x2048, .f32⟩
  | .hbm, ⟨48, _⟩ => ⟨S2x4096x2048, .f32⟩
  | .hbm, ⟨49, _⟩ => ⟨S2x4096x2048, .f32⟩
  | .hbm, ⟨50, _⟩ => ⟨S2x4096x2048, .f32⟩
  | .hbm, ⟨51, _⟩ => ⟨S2048, .f32⟩
  | .hbm, ⟨52, _⟩ => ⟨S2x4096x2048, .f32⟩
  | .hbm, ⟨53, _⟩ => ⟨S_, .f32⟩
  | .hbm, ⟨54, _⟩ => ⟨S2x4096, .f32⟩
  | .hbm, ⟨55, _⟩ => ⟨S2x4096x1, .f32⟩
  | .hbm, ⟨56, _⟩ => ⟨S_, .f32⟩
  | .hbm, ⟨57, _⟩ => ⟨S2x4096x1, .f32⟩
  | .hbm, ⟨58, _⟩ => ⟨S2x4096x1, .f32⟩
  | .hbm, ⟨59, _⟩ => ⟨S_, .f32⟩
  | .hbm, ⟨60, _⟩ => ⟨S2x4096x1, .f32⟩
  | .hbm, ⟨61, _⟩ => ⟨S2x4096x1, .f32⟩
  | .hbm, ⟨62, _⟩ => ⟨S2x4096x1, .f32⟩
  | .hbm, ⟨63, _⟩ => ⟨S2x4096x2048, .f32⟩
  | .hbm, ⟨64, _⟩ => ⟨S2x4096x2048, .f32⟩
  | .hbm, ⟨65, _⟩ => ⟨S1x1x2048, .f32⟩
  | .hbm, ⟨66, _⟩ => ⟨S2x4096x2048, .f32⟩
  | .hbm, ⟨67, _⟩ => ⟨S2x4096x2048, .f32⟩
  | .hbm, ⟨68, _⟩ => ⟨S_, .f32⟩
  | .hbm, ⟨69, _⟩ => ⟨S2x1x2048, .f32⟩
  | .hbm, ⟨70, _⟩ => ⟨S2x1x2048, .f32⟩
  | .hbm, ⟨71, _⟩ => ⟨S2x4096x2048, .f32⟩
  | .hbm, ⟨72, _⟩ => ⟨S2x4096x2048, .f32⟩
  | .hbm, ⟨73, _⟩ => ⟨S2x4096x2048, .f32⟩
  | .hbm, ⟨74, _⟩ => ⟨S2x4096x2048, .f32⟩
  | .hbm, ⟨75, _⟩ => ⟨S8192x2048, .f32⟩
  | .hbm, ⟨76, _⟩ => ⟨S8192x2048, .f32⟩
  | .hbm, ⟨77, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst : Ref sig .tc := ⟨.hbm, 33, rfl⟩
abbrev main_v23 : Ref sig .tc := ⟨.hbm, 34, rfl⟩
abbrev main_v24 : Ref sig .tc := ⟨.hbm, 35, rfl⟩
abbrev main_cst_0 : Ref sig .tc := ⟨.hbm, 36, rfl⟩
abbrev main_v25 : Ref sig .tc := ⟨.hbm, 37, rfl⟩
abbrev main_v26 : Ref sig .tc := ⟨.hbm, 38, rfl⟩
abbrev main_cst_1 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_2 : Ref sig .tc := ⟨.hbm, 53, rfl⟩
abbrev main_v40 : Ref sig .tc := ⟨.hbm, 54, rfl⟩
abbrev main_v41 : Ref sig .tc := ⟨.hbm, 55, rfl⟩
abbrev main_cst_3 : Ref sig .tc := ⟨.hbm, 56, rfl⟩
abbrev main_v42 : Ref sig .tc := ⟨.hbm, 57, rfl⟩
abbrev main_v43 : Ref sig .tc := ⟨.hbm, 58, rfl⟩
abbrev main_cst_4 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_5 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩

abbrev nD : Nat := 1
abbrev τ : Topo := Topo.v7x

variable {F : FTy → Type} [FloatOps F]
-- ==== Kernel5.lean ====
abbrev S8192x2048 : Shape := ⟨2, ![8192, 2048]⟩
abbrev S1x2048x11264 : Shape := ⟨3, ![1, 2048, 11264]⟩
abbrev S1x2048x2048 : Shape := ⟨3, ![1, 2048, 2048]⟩
abbrev S2048x11264 : Shape := ⟨2, ![2048, 11264]⟩
abbrev S2048x2048 : Shape := ⟨2, ![2048, 2048]⟩
abbrev S8192x4096 : Shape := ⟨2, ![8192, 4096]⟩
abbrev S2048x1024 : Shape := ⟨2, ![2048, 1024]⟩
abbrev S128x2048 : Shape := ⟨2, ![128, 2048]⟩
abbrev S128x1024 : Shape := ⟨2, ![128, 1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S1x2048x11264, .f32⟩
  | .hbm, ⟨2, _⟩ => ⟨S1x2048x2048, .f32⟩
  | .hbm, ⟨3, _⟩ => ⟨S2048x11264, .f32⟩
  | .hbm, ⟨4, _⟩ => ⟨S2048x2048, .f32⟩
  | .hbm, ⟨5, _⟩ => ⟨S8192x4096, .bf16⟩
  | .hbm, ⟨6, _⟩ => ⟨S2048x2048, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .f32⟩
  | .local _ .vmem, ⟨3, _⟩ => ⟨S2048x1024, .f32⟩
  | .local _ .vmem, ⟨4, _⟩ => ⟨S128x2048, .f32⟩
  | .local _ .vmem, ⟨5, _⟩ => ⟨S128x2048, .f32⟩
  | .local _ .vmem, ⟨6, _⟩ => ⟨S2048x1024, .bf16⟩
  | .local _ .vmem, ⟨7, _⟩ => ⟨S2048x1024, .bf16⟩
  | .local _ .vmem, ⟨8, _⟩ => ⟨S128x2048, .bf16⟩
  | .local _ .vmem, ⟨9, _⟩ => ⟨S128x2048, .bf16⟩
  | .local _ .vmem, ⟨10, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c7_i32 : BitVec 32 := 7#32
  let v1 : BitVec 32 := Scalar.addi c7_i32 v0
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S8192x2048 : Shape := ⟨2, ![8192, 2048]⟩
abbrev S1x2048x11264 : Shape := ⟨3, ![1, 2048, 11264]⟩
abbrev S1x2048x2048 : Shape := ⟨3, ![1, 2048, 2048]⟩
abbrev S2048x11264 : Shape := ⟨2, ![2048, 11264]⟩
abbrev S2048x4096 : Shape := ⟨2, ![2048, 4096]⟩
abbrev S8192x4096 : Shape := ⟨2, ![8192, 4096]⟩
abbrev S_ : Shape := ⟨0, ![]⟩
abbrev S2048x2048 : Shape := ⟨2, ![2048, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x11264, .f32⟩
  | .hbm, ⟨2, _⟩ => ⟨S1x2048x2048, .f32⟩
  | .hbm, ⟨3, _⟩ => ⟨S8192x2048, .f32⟩
  | .hbm, ⟨4, _⟩ => ⟨S2048x11264, .f32⟩
  | .hbm, ⟨5, _⟩ => ⟨S2048x4096, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x4096, .bf16⟩
  | .hbm, ⟨16, _⟩ => ⟨S2048x2048, .f32⟩
  | .hbm, ⟨17, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel6.lean ====
abbrev S8192x2048 : Shape := ⟨2, ![8192, 2048]⟩
abbrev S1x2048x11264 : Shape := ⟨3, ![1, 2048, 11264]⟩
abbrev S1x1024x2048 : Shape := ⟨3, ![1, 1024, 2048]⟩
abbrev S2048x11264 : Shape := ⟨2, ![2048, 11264]⟩
abbrev S1024x2048 : Shape := ⟨2, ![1024, 2048]⟩
abbrev S2048x2048 : Shape := ⟨2, ![2048, 2048]⟩
abbrev S2048x1024 : Shape := ⟨2, ![2048, 1024]⟩
abbrev S128x2048 : Shape := ⟨2, ![128, 2048]⟩
abbrev S128x1024 : Shape := ⟨2, ![128, 1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S1x2048x11264, .f32⟩
  | .hbm, ⟨2, _⟩ => ⟨S1x1024x2048, .f32⟩
  | .hbm, ⟨3, _⟩ => ⟨S2048x11264, .f32⟩
  | .hbm, ⟨4, _⟩ => ⟨S1024x2048, .f32⟩
  | .hbm, ⟨5, _⟩ => ⟨S8192x2048, .bf16⟩
  | .hbm, ⟨6, _⟩ => ⟨S1024x2048, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .f32⟩
  | .local _ .vmem, ⟨3, _⟩ => ⟨S2048x1024, .f32⟩
  | .local _ .vmem, ⟨4, _⟩ => ⟨S128x2048, .f32⟩
  | .local _ .vmem, ⟨5, _⟩ => ⟨S128x2048, .f32⟩
  | .local _ .vmem, ⟨6, _⟩ => ⟨S2048x1024, .bf16⟩
  | .local _ .vmem, ⟨7, _⟩ => ⟨S2048x1024, .bf16⟩
  | .local _ .vmem, ⟨8, _⟩ => ⟨S128x2048, .bf16⟩
  | .local _ .vmem, ⟨9, _⟩ => ⟨S128x2048, .bf16⟩
  | .local _ .vmem, ⟨10, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c5_i32 : BitVec 32 := 5#32
  let v1 : BitVec 32 := Scalar.addi c5_i32 v0
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel6Ideal.lean ====
variable {F : FTy → Type} [FloatOps F] [Named F]
def κ : String → Option EReal := fun
  | "inv_sqrt_2" => some (((Real.sqrt 2)⁻¹ : ℝ) : EReal)
  | _ => none
-- ==== Reference6Ideal.lean ====
abbrev S8192x2048 : Shape := ⟨2, ![8192, 2048]⟩
abbrev S1x2048x11264 : Shape := ⟨3, ![1, 2048, 11264]⟩
abbrev S1x1024x2048 : Shape := ⟨3, ![1, 1024, 2048]⟩
abbrev S2048x11264 : Shape := ⟨2, ![2048, 11264]⟩
abbrev S2048x2048 : Shape := ⟨2, ![2048, 2048]⟩
abbrev S_ : Shape := ⟨0, ![]⟩
abbrev S1024x2048 : Shape := ⟨2, ![1024, 2048]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x11264, .f32⟩
  | .hbm, ⟨2, _⟩ => ⟨S1x1024x2048, .f32⟩
  | .hbm, ⟨3, _⟩ => ⟨S8192x2048, .f32⟩
  | .hbm, ⟨4, _⟩ => ⟨S2048x11264, .f32⟩
  | .hbm, ⟨5, _⟩ => ⟨S2048x2048, .f32⟩
  | .hbm, ⟨6, _⟩ => ⟨S8192x2048, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .bf16⟩
  | .hbm, ⟨20, _⟩ => ⟨S1024x2048, .f32⟩
  | .hbm, ⟨21, _⟩ => ⟨S1024x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel7.lean ====
abbrev S8192x2048 : Shape := ⟨2, ![8192, 2048]⟩
abbrev S1x2048x11264 : Shape := ⟨3, ![1, 2048, 11264]⟩
abbrev S1x1024x2048 : Shape := ⟨3, ![1, 1024, 2048]⟩
abbrev S8x2048 : Shape := ⟨2, ![8, 2048]⟩
abbrev S1x2048x12288 : Shape := ⟨3, ![1, 2048, 12288]⟩
abbrev S1x12288 : Shape := ⟨2, ![1, 12288]⟩
abbrev S2048x11264 : Shape := ⟨2, ![2048, 11264]⟩
abbrev S1024x2048 : Shape := ⟨2, ![1024, 2048]⟩
abbrev S2048x12288 : Shape := ⟨2, ![2048, 12288]⟩
abbrev S12288 : Shape := ⟨1, ![12288]⟩
abbrev S8192x4096 : Shape := ⟨2, ![8192, 4096]⟩
abbrev S8x8192 : Shape := ⟨2, ![8, 8192]⟩
abbrev S2048x2048 : Shape := ⟨2, ![2048, 2048]⟩
abbrev S2048x1024 : Shape := ⟨2, ![2048, 1024]⟩
abbrev S64x2048 : Shape := ⟨2, ![64, 2048]⟩
abbrev S2048x512 : Shape := ⟨2, ![2048, 512]⟩
abbrev S1x512 : Shape := ⟨2, ![1, 512]⟩
abbrev S8x512 : Shape := ⟨2, ![8, 512]⟩
abbrev S128x2048 : Shape := ⟨2, ![128, 2048]⟩
abbrev S128x1024 : Shape := ⟨2, ![128, 1024]⟩

abbrev nBuf : Space → Nat
  | .hbm => 14
  | .vmem => 18
  | .smem => 0
  | _ => 0

abbrev bufTy : (tb : Table) → Fin (tcTables nBuf tb) → BufTy
  | .hbm, ⟨0, _⟩ => ⟨S8192x2048, .bf16⟩
  | .hbm, ⟨1, _⟩ => ⟨S1x2048x11264, .f32⟩
  | .hbm, ⟨2, _⟩ => ⟨S1x1024x2048, .f32⟩
  | .hbm, ⟨3, _⟩ => ⟨S8x2048, .f32⟩
  | .hbm, ⟨4, _⟩ => ⟨S1x2048x12288, .f32⟩
  | .hbm, ⟨5, _⟩ => ⟨S1x12288, .f32⟩
  | .hbm, ⟨6, _⟩ => ⟨S2048x11264, .f32⟩
  | .hbm, ⟨7, _⟩ => ⟨S1024x2048, .f32⟩
  | .hbm, ⟨8, _⟩ => ⟨S2048x12288, .f32⟩
  | .hbm, ⟨9, _⟩ => ⟨S12288, .f32⟩
  | .hbm, ⟨10, _⟩ => ⟨S1x12288, .f32⟩
  | .hbm, ⟨11, _⟩ => ⟨S8192x4096, .bf16⟩
  | .hbm, ⟨12, _⟩ => ⟨S1024x2048, .bf16⟩
  | .hbm, ⟨13, _⟩ => ⟨S8x8192, .f32⟩
  | .local _ .vmem, ⟨0, _⟩ => ⟨S2048x2048, .bf16⟩
  | .local _ .vmem, ⟨1, _⟩ => ⟨S2048x2048, .bf16⟩
  | .local _ .vmem, ⟨2, _⟩ => ⟨S2048x1024, .f32⟩
  | .local _ .vmem, ⟨3, _⟩ => ⟨S2048x1024, .f32⟩
  | .local _ .vmem, ⟨4, _⟩ => ⟨S64x2048, .f32⟩
  | .local _ .vmem, ⟨5, _⟩ => ⟨S64x2048, .f32⟩
  | .local _ .vmem, ⟨6, _⟩ => ⟨S8x2048, .f32⟩
  | .local _ .vmem, ⟨7, _⟩ => ⟨S2048x512, .f32⟩
  | .local _ .vmem, ⟨8, _⟩ => ⟨S2048x512, .f32⟩
  | .local _ .vmem, ⟨9, _⟩ => ⟨S1x512, .f32⟩
  | .local _ .vmem, ⟨10, _⟩ => ⟨S1x512, .f32⟩
  | .local _ .vmem, ⟨11, _⟩ => ⟨S2048x1024, .bf16⟩
  | .local _ .vmem, ⟨12, _⟩ => ⟨S2048x1024, .bf16⟩
  | .local _ .vmem, ⟨13, _⟩ => ⟨S64x2048, .bf16⟩
  | .local _ .vmem, ⟨14, _⟩ => ⟨S64x2048, .bf16⟩
  | .local _ .vmem, ⟨15, _⟩ => ⟨S8x512, .f32⟩
  | .local _ .vmem, ⟨16, _⟩ => ⟨S8x512, .f32⟩
  | .local _ .vmem, ⟨17, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi c0_i32 v0
  let c0_i32_0 : BitVec 32 := 0#32
  let c0_i32_1 : BitVec 32 := 0#32
  ![c0_i32_0.toNat, v1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c8_i32 : BitVec 32 := 8#32
  let v1 : BitVec 32 := Scalar.addi c8_i32 v0
  let v2 : BitVec 32 := Scalar.addi v1 arg1
  let c0_i32 : BitVec 32 := 0#32
  let c0_i32_0 : BitVec 32 := 0#32
  ![c0_i32.toNat, v2.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c8_i32 : BitVec 32 := 8#32
  let v1 : BitVec 32 := Scalar.addi c8_i32 v0
  let v2 : BitVec 32 := Scalar.addi v1 arg1
  let c0_i32 : BitVec 32 := 0#32
  let c0_i32_0 : BitVec 32 := 0#32
  ![c0_i32.toNat, v2.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel7Ideal.lean ====
variable {F : FTy → Type} [FloatOps F] [Named F]
def κ : String → Option EReal := fun
  | "inv_sqrt_128" => some (((Real.sqrt 128)⁻¹ : ℝ) : EReal)
  | _ => none
-- ==== Reference7Ideal.lean ====
abbrev S8192x2048 : Shape := ⟨2, ![8192, 2048]⟩
abbrev S1x2048x11264 : Shape := ⟨3, ![1, 2048, 11264]⟩
abbrev S1x1024x2048 : Shape := ⟨3, ![1, 1024, 2048]⟩
abbrev S8x2048 : Shape := ⟨2, ![8, 2048]⟩
abbrev S1x2048x12288 : Shape := ⟨3, ![1, 2048, 12288]⟩
abbrev S1x12288 : Shape := ⟨2, ![1, 12288]⟩
abbrev S2048x11264 : Shape := ⟨2, ![2048, 11264]⟩
abbrev S2048x4096 : Shape := ⟨2, ![2048, 4096]⟩
abbrev S8192x4096 : Shape := ⟨2, ![8192, 4096]⟩
abbrev S8192x1024 : Shape := ⟨2, ![8192, 1024]⟩
abbrev S_ : Shape := ⟨0, ![]⟩
abbrev S2048x12288 : Shape := ⟨2, ![2048, 12288]⟩
abbrev S8x12288 : Shape := ⟨2, ![8, 12288]⟩
abbrev S12288 : Shape := ⟨1, ![12288]⟩
abbrev S1024x2048 : Shape := ⟨2, ![1024, 2048]⟩
abbrev S8x8192 : Shape := ⟨2, ![8, 8192]⟩

abbrev nBuf : Space → Nat
  | .hbm => 38
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x11264, .f32⟩
  | .hbm, ⟨2, _⟩ => ⟨S1x1024x2048, .f32⟩
  | .hbm, ⟨3, _⟩ => ⟨S8x2048, .f32⟩
  | .hbm, ⟨4, _⟩ => ⟨S1x2048x12288, .f32⟩
  | .hbm, ⟨5, _⟩ => ⟨S1x12288, .f32⟩
  | .hbm, ⟨6, _⟩ => ⟨S8192x2048, .f32⟩
  | .hbm, ⟨7, _⟩ => ⟨S2048x11264, .f32⟩
  | .hbm, ⟨8, _⟩ => ⟨S2048x4096, .f32⟩
  | .hbm, ⟨9, _⟩ => ⟨S8192x4096, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8x2048, .f32⟩
  | .hbm, ⟨19, _⟩ => ⟨S8x2048, .f32⟩
  | .hbm, ⟨20, _⟩ => ⟨S_, .f32⟩
  | .hbm, ⟨21, _⟩ => ⟨S8x2048, .f32⟩
  | .hbm, ⟨22, _⟩ => ⟨S8x2048, .f32⟩
  | .hbm, ⟨23, _⟩ => ⟨S_, .f32⟩
  | .hbm, ⟨24, _⟩ => ⟨S8x2048, .f32⟩
  | .hbm, ⟨25, _⟩ => ⟨S8x2048, .f32⟩
  | .hbm, ⟨26, _⟩ => ⟨S8x2048, .f32⟩
  | .hbm, ⟨27, _⟩ => ⟨S2048x12288, .f32⟩
  | .hbm, ⟨28, _⟩ => ⟨S8x12288, .f32⟩
  | .hbm, ⟨29, _⟩ => ⟨S12288, .f32⟩
  | .hbm, ⟨30, _⟩ => ⟨S1x12288, .f32⟩
  | .hbm, ⟨31, _⟩ => ⟨S8x12288, .f32⟩
  | .hbm, ⟨32, _⟩ => ⟨S8x12288, .f32⟩
  | .hbm, ⟨33, _⟩ => ⟨S8192x4096, .f32⟩
  | .hbm, ⟨34, _⟩ => ⟨S8192x4096, .bf16⟩
  | .hbm, ⟨35, _⟩ => ⟨S1024x2048, .f32⟩
  | .hbm, ⟨36, _⟩ => ⟨S1024x2048, .bf16⟩
  | .hbm, ⟨37, _⟩ => ⟨S8x8192, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩

abbrev nD : Nat := 1
abbrev τ : Topo := Topo.v7x

variable {F : FTy → Type} [FloatOps F]
-- ==== Kernel8.lean ====
abbrev S8192x2048 : Shape := ⟨2, ![8192, 2048]⟩
abbrev S2x2x2048 : Shape := ⟨3, ![2, 2, 2048]⟩
abbrev S1x2048 : Shape := ⟨2, ![1, 2048]⟩
abbrev S1x2048x11264 : Shape := ⟨3, ![1, 2048, 11264]⟩
abbrev S2048 : Shape := ⟨1, ![2048]⟩
abbrev S2048x11264 : Shape := ⟨2, ![2048, 11264]⟩
abbrev S8192x1024 : Shape := ⟨2, ![8192, 1024]⟩
abbrev S1024x2048 : Shape := ⟨2, ![1024, 2048]⟩
abbrev S1x2x2048 : Shape := ⟨3, ![1, 2, 2048]⟩
abbrev S2048x1024 : Shape := ⟨2, ![2048, 1024]⟩
abbrev S1024x1024 : Shape := ⟨2, ![1024, 1024]⟩
abbrev S1x1x2048 : Shape := ⟨3, ![1, 1, 2048]⟩
abbrev S128x2048 : Shape := ⟨2, ![128, 2048]⟩
abbrev S128 : Shape := ⟨1, ![128]⟩
abbrev S128x1 : Shape := ⟨2, ![128, 1]⟩
abbrev S128x1024 : Shape := ⟨2, ![128, 1024]⟩

abbrev nBuf : Space → Nat
  | .hbm => 9
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S2x2x2048, .f32⟩
  | .hbm, ⟨2, _⟩ => ⟨S1x2048, .f32⟩
  | .hbm, ⟨3, _⟩ => ⟨S1x2048x11264, .f32⟩
  | .hbm, ⟨4, _⟩ => ⟨S2048, .f32⟩
  | .hbm, ⟨5, _⟩ => ⟨S2048x11264, .f32⟩
  | .hbm, ⟨6, _⟩ => ⟨S1x2048, .f32⟩
  | .hbm, ⟨7, _⟩ => ⟨S8192x2048, .bf16⟩
  | .hbm, ⟨8, _⟩ => ⟨S8192x1024, .bf16⟩
  | .local _ .vmem, ⟨0, _⟩ => ⟨S1024x2048, .f32⟩
  | .local _ .vmem, ⟨1, _⟩ => ⟨S1024x2048, .f32⟩
  | .local _ .vmem, ⟨2, _⟩ => ⟨S1x2x2048, .f32⟩
  | .local _ .vmem, ⟨3, _⟩ => ⟨S1x2x2048, .f32⟩
  | .local _ .vmem, ⟨4, _⟩ => ⟨S1x2048, .f32⟩
  | .local _ .vmem, ⟨5, _⟩ => ⟨S2048x1024, .f32⟩
  | .local _ .vmem, ⟨6, _⟩ => ⟨S1024x2048, .bf16⟩
  | .local _ .vmem, ⟨7, _⟩ => ⟨S1024x2048, .bf16⟩
  | .local _ .vmem, ⟨8, _⟩ => ⟨S1024x1024, .bf16⟩
  | .local _ .vmem, ⟨9, _⟩ => ⟨S1024x1024, .bf16⟩
  | .local _ .vmem, ⟨10, _⟩ => ⟨S2048x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference8Ideal.lean ====
abbrev S8192x2048 : Shape := ⟨2, ![8192, 2048]⟩
abbrev S2x2x2048 : Shape := ⟨3, ![2, 2, 2048]⟩
abbrev S1x2048 : Shape := ⟨2, ![1, 2048]⟩
abbrev S1x2048x11264 : Shape := ⟨3, ![1, 2048, 11264]⟩
abbrev S2x1x2048 : Shape := ⟨3, ![2, 1, 2048]⟩
abbrev S2x4096x2048 : Shape := ⟨3, ![2, 4096, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2048x11264 : Shape := ⟨2, ![2048, 11264]⟩
abbrev S2048x1024 : Shape := ⟨2, ![2048, 1024]⟩
abbrev S2x4096x1024 : Shape := ⟨3, ![2, 4096, 1024]⟩
abbrev S8192x1024 : Shape := ⟨2, ![8192, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x2x2048, .f32⟩
  | .hbm, ⟨2, _⟩ => ⟨S1x2048, .f32⟩
  | .hbm, ⟨3, _⟩ => ⟨S1x2048x11264, .f32⟩
  | .hbm, ⟨4, _⟩ => ⟨S2x1x2048, .f32⟩
  | .hbm, ⟨5, _⟩ => ⟨S2x1x2048, .f32⟩
  | .hbm, ⟨6, _⟩ => ⟨S2x4096x2048, .f32⟩
  | .hbm, ⟨7, _⟩ => ⟨S2048, .f32⟩
  | .hbm, ⟨8, _⟩ => ⟨S2x4096x2048, .f32⟩
  | .hbm, ⟨9, _⟩ => ⟨S_, .f32⟩
  | .hbm, ⟨10, _⟩ => ⟨S2x4096, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S_, .f32⟩
  | .hbm, ⟨16, _⟩ => ⟨S2x4096x1, .f32⟩
  | .hbm, ⟨17, _⟩ => ⟨S2x4096x1, .f32⟩
  | .hbm, ⟨18, _⟩ => ⟨S2x4096x1, .f32⟩
  | .hbm, ⟨19, _⟩ => ⟨S2x4096x2048, .f32⟩
  | .hbm, ⟨20, _⟩ => ⟨S2x4096x2048, .f32⟩
  | .hbm, ⟨21, _⟩ => ⟨S1x1x2048, .f32⟩
  | .hbm, ⟨22, _⟩ => ⟨S2x4096x2048, .f32⟩
  | .hbm, ⟨23, _⟩ => ⟨S2x4096x2048, .f32⟩
  | .hbm, ⟨24, _⟩ => ⟨S_, .f32⟩
  | .hbm, ⟨25, _⟩ => ⟨S2x1x2048, .f32⟩
  | .hbm, ⟨26, _⟩ => ⟨S2x1x2048, .f32⟩
  | .hbm, ⟨27, _⟩ => ⟨S2x4096x2048, .f32⟩
  | .hbm, ⟨28, _⟩ => ⟨S2x4096x2048, .f32⟩
  | .hbm, ⟨29, _⟩ => ⟨S2x4096x2048, .f32⟩
  | .hbm, ⟨30, _⟩ => ⟨S2x4096x2048, .f32⟩
  | .hbm, ⟨31, _⟩ => ⟨S2048x11264, .f32⟩
  | .hbm, ⟨32, _⟩ => ⟨S2048x1024, .f32⟩
  | .hbm, ⟨33, _⟩ => ⟨S2x4096x1024, .f32⟩
  | .hbm, ⟨34, _⟩ => ⟨S2x4096x1024, .f32⟩
  | .hbm, ⟨35, _⟩ => ⟨S2x4096x1024, .f32⟩
  | .hbm, ⟨36, _⟩ => ⟨S_, .f32⟩
  | .hbm, ⟨37, _⟩ => ⟨S2x4096x1024, .f32⟩
  | .hbm, ⟨38, _⟩ => ⟨S2x4096x1024, .f32⟩
  | .hbm, ⟨39, _⟩ => ⟨S_, .f32⟩
  | .hbm, ⟨40, _⟩ => ⟨S2x4096x1024, .f32⟩
  | .hbm, ⟨41, _⟩ => ⟨S2x4096x1024, .f32⟩
  | .hbm, ⟨42, _⟩ => ⟨S2x4096x1024, .f32⟩
  | .hbm, ⟨43, _⟩ => ⟨S8192x2048, .f32⟩
  | .hbm, ⟨44, _⟩ => ⟨S8192x2048, .bf16⟩
  | .hbm, ⟨45, _⟩ => ⟨S8192x1024, .f32⟩
  | .hbm, ⟨46, _⟩ => ⟨S8192x1024, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel9.lean ====
abbrev S8x2048 : Shape := ⟨2, ![8, 2048]⟩
abbrev S1x2048x12288 : Shape := ⟨3, ![1, 2048, 12288]⟩
abbrev S1x12288 : Shape := ⟨2, ![1, 12288]⟩
abbrev S2048x12288 : Shape := ⟨2, ![2048, 12288]⟩
abbrev S12288 : Shape := ⟨1, ![12288]⟩
abbrev S8x4096 : Shape := ⟨2, ![8, 4096]⟩
abbrev S2048x512 : Shape := ⟨2, ![2048, 512]⟩
abbrev S1x512 : Shape := ⟨2, ![1, 512]⟩
abbrev S8x512 : Shape := ⟨2, ![8, 512]⟩

abbrev nBuf : Space → Nat
  | .hbm => 7
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S1x2048x12288, .f32⟩
  | .hbm, ⟨2, _⟩ => ⟨S1x12288, .f32⟩
  | .hbm, ⟨3, _⟩ => ⟨S2048x12288, .f32⟩
  | .hbm, ⟨4, _⟩ => ⟨S12288, .f32⟩
  | .hbm, ⟨5, _⟩ => ⟨S1x12288, .f32⟩
  | .hbm, ⟨6, _⟩ => ⟨S8x4096, .f32⟩
  | .local _ .vmem, ⟨0, _⟩ => ⟨S8x2048, .f32⟩
  | .local _ .vmem, ⟨1, _⟩ => ⟨S2048x512, .f32⟩
  | .local _ .vmem, ⟨2, _⟩ => ⟨S2048x512, .f32⟩
  | .local _ .vmem, ⟨3, _⟩ => ⟨S1x512, .f32⟩
  | .local _ .vmem, ⟨4, _⟩ => ⟨S1x512, .f32⟩
  | .local _ .vmem, ⟨5, _⟩ => ⟨S8x512, .f32⟩
  | .local _ .vmem, ⟨6, _⟩ => ⟨S8x512, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference9Ideal.lean ====
abbrev S8x2048 : Shape := ⟨2, ![8, 2048]⟩
abbrev S1x2048x12288 : Shape := ⟨3, ![1, 2048, 12288]⟩
abbrev S1x12288 : Shape := ⟨2, ![1, 12288]⟩
abbrev S_ : Shape := ⟨0, ![]⟩
abbrev S2048x12288 : Shape := ⟨2, ![2048, 12288]⟩
abbrev S8x12288 : Shape := ⟨2, ![8, 12288]⟩
abbrev S12288 : Shape := ⟨1, ![12288]⟩
abbrev S8x4096 : Shape := ⟨2, ![8, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S1x2048x12288, .f32⟩
  | .hbm, ⟨2, _⟩ => ⟨S1x12288, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S2048x12288, .f32⟩
  | .hbm, ⟨13, _⟩ => ⟨S8x12288, .f32⟩
  | .hbm, ⟨14, _⟩ => ⟨S12288, .f32⟩
  | .hbm, ⟨15, _⟩ => ⟨S1x12288, .f32⟩
  | .hbm, ⟨16, _⟩ => ⟨S8x12288, .f32⟩
  | .hbm, ⟨17, _⟩ => ⟨S8x12288, .f32⟩
  | .hbm, ⟨18, _⟩ => ⟨S8x4096, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== Kernel10.lean ====
abbrev S8192x4096 : Shape := ⟨2, ![8192, 4096]⟩
abbrev S8192x1024 : Shape := ⟨2, ![8192, 1024]⟩
abbrev S2x2x1024 : Shape := ⟨3, ![2, 2, 1024]⟩
abbrev S1x128 : Shape := ⟨2, ![1, 128]⟩
abbrev S4x1024 : Shape := ⟨2, ![4, 1024]⟩
abbrev S128 : Shape := ⟨1, ![128]⟩
abbrev S4096x256 : Shape := ⟨2, ![4096, 256]⟩
abbrev S4x256 : Shape := ⟨2, ![4, 256]⟩
abbrev S4x128x128 : Shape := ⟨3, ![4, 128, 128]⟩
abbrev S1x256 : Shape := ⟨2, ![1, 256]⟩
abbrev S64x64 : Shape := ⟨2, ![64, 64]⟩
abbrev S64x128 : Shape := ⟨2, ![64, 128]⟩
abbrev S128x128 : Shape := ⟨2, ![128, 128]⟩
abbrev S1x128x128 : Shape := ⟨3, ![1, 128, 128]⟩
abbrev S64 : Shape := ⟨1, ![64]⟩
abbrev S64x1 : Shape := ⟨2, ![64, 1]⟩

abbrev nBuf : Space → Nat
  | .hbm => 8
  | .vmem => 18
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S2x2x1024, .f32⟩
  | .hbm, ⟨3, _⟩ => ⟨S1x128, .f32⟩
  | .hbm, ⟨4, _⟩ => ⟨S4x1024, .f32⟩
  | .hbm, ⟨5, _⟩ => ⟨S128, .f32⟩
  | .hbm, ⟨6, _⟩ => ⟨S1x128, .f32⟩
  | .hbm, ⟨7, _⟩ => ⟨S8192x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S4096x256, .bf16⟩
  | .local _ .vmem, ⟨9, _⟩ => ⟨S4096x256, .bf16⟩
  | .local _ .vmem, ⟨10, _⟩ => ⟨S4x256, .f32⟩
  | .local _ .vmem, ⟨11, _⟩ => ⟨S4x256, .f32⟩
  | .local _ .vmem, ⟨12, _⟩ => ⟨S1x128, .f32⟩
  | .local _ .vmem, ⟨13, _⟩ => ⟨S4096x256, .bf16⟩
  | .local _ .vmem, ⟨14, _⟩ => ⟨S4096x256, .bf16⟩
  | .local _ .vmem, ⟨15, _⟩ => ⟨S4096x256, .f32⟩
  | .local _ .vmem, ⟨16, _⟩ => ⟨S4096x256, .f32⟩
  | .local _ .vmem, ⟨17, _⟩ => ⟨S4x128x128, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 4], ![false, false]⟩

def k0_mult1 : BitVec 32 :=
  let c0_i32 : BitVec 32 := 0#32
  c0_i32
def k0_mult2 : BitVec 32 :=
  let c4032_i32 : BitVec 32 := 4032#32
  c4032_i32
def k0_mult3 : BitVec 32 :=
  let c0_i32_22 : BitVec 32 := 0#32
  c0_i32_22
def k0_mult4 : BitVec 32 :=
  let c4032_i32_25 : BitVec 32 := 4032#32
  c4032_i32_25
def k0_mult5 : BitVec 32 :=
  let c64_i32 : BitVec 32 := 64#32
  c64_i32
def k0_mult6 : BitVec 32 :=
  let c3968_i32 : BitVec 32 := 3968#32
  c3968_i32
def k0_mult7 : BitVec 32 :=
  let c64_i32_35 : BitVec 32 := 64#32
  c64_i32_35
def k0_mult8 : BitVec 32 :=
  let c3968_i32_39 : BitVec 32 := 3968#32
  c3968_i32_39
def k0_mult9 : BitVec 32 :=
  let c128_i32 : BitVec 32 := 128#32
  c128_i32
def k0_mult10 : BitVec 32 :=
  let c3904_i32 : BitVec 32 := 3904#32
  c3904_i32
def k0_mult11 : BitVec 32 :=
  let c128_i32_61 : BitVec 32 := 128#32
  c128_i32_61
def k0_mult12 : BitVec 32 :=
  let c3904_i32_65 : BitVec 32 := 3904#32
  c3904_i32_65
def k0_mult13 : BitVec 32 :=
  let c192_i32 : BitVec 32 := 192#32
  c192_i32
def k0_mult14 : BitVec 32 :=
  let c3840_i32 : BitVec 32 := 3840#32
  c3840_i32
def k0_mult15 : BitVec 32 :=
  let c192_i32_132 : BitVec 32 := 192#32
  c192_i32_132
def k0_mult16 : BitVec 32 :=
  let c3840_i32_136 : BitVec 32 := 3840#32
  c3840_i32_136
def k0_mult17 : BitVec 32 :=
  let c256_i32 : BitVec 32 := 256#32
  c256_i32
def k0_mult18 : BitVec 32 :=
  let c3776_i32 : BitVec 32 := 3776#32
  c3776_i32
def k0_mult19 : BitVec 32 :=
  let c256_i32_206 : BitVec 32 := 256#32
  c256_i32_206
def k0_mult20 : BitVec 32 :=
  let c3776_i32_210 : BitVec 32 := 3776#32
  c3776_i32_210
def k0_mult21 : BitVec 32 :=
  let c320_i32 : BitVec 32 := 320#32
  c320_i32
def k0_mult22 : BitVec 32 :=
  let c3712_i32 : BitVec 32 := 3712#32
  c3712_i32
def k0_mult23 : BitVec 32 :=
  let c320_i32_280 : BitVec 32 := 320#32
  c320_i32_280
def k0_mult24 : BitVec 32 :=
  let c3712_i32_284 : BitVec 32 := 3712#32
  c3712_i32_284
def k0_mult25 : BitVec 32 :=
  let c384_i32 : BitVec 32 := 384#32
  c384_i32
def k0_mult26 : BitVec 32 :=
  let c3648_i32 : BitVec 32 := 3648#32
  c3648_i32
def k0_mult27 : BitVec 32 :=
  let c384_i32_354 : BitVec 32 := 384#32
  c384_i32_354
def k0_mult28 : BitVec 32 :=
  let c3648_i32_358 : BitVec 32 := 3648#32
  c3648_i32_358
def k0_mult29 : BitVec 32 :=
  let c448_i32 : BitVec 32 := 448#32
  c448_i32
def k0_mult30 : BitVec 32 :=
  let c3584_i32 : BitVec 32 := 3584#32
  c3584_i32
def k0_mult31 : BitVec 32 :=
  let c448_i32_428 : BitVec 32 := 448#32
  c448_i32_428
def k0_mult32 : BitVec 32 :=
  let c3584_i32_432 : BitVec 32 := 3584#32
  c3584_i32_432
def k0_mult33 : BitVec 32 :=
  let c512_i32 : BitVec 32 := 512#32
  c512_i32
def k0_mult34 : BitVec 32 :=
  let c3520_i32 : BitVec 32 := 3520#32
  c3520_i32
def k0_mult35 : BitVec 32 :=
  let c512_i32_502 : BitVec 32 := 512#32
  c512_i32_502
def k0_mult36 : BitVec 32 :=
  let c3520_i32_506 : BitVec 32 := 3520#32
  c3520_i32_506
def k0_mult37 : BitVec 32 :=
  let c576_i32 : BitVec 32 := 576#32
  c576_i32
def k0_mult38 : BitVec 32 :=
  let c3456_i32 : BitVec 32 := 3456#32
  c3456_i32
def k0_mult39 : BitVec 32 :=
  let c576_i32_576 : BitVec 32 := 576#32
  c576_i32_576
def k0_mult40 : BitVec 32 :=
  let c3456_i32_580 : BitVec 32 := 3456#32
  c3456_i32_580
def k0_mult41 : BitVec 32 :=
  let c640_i32 : BitVec 32 := 640#32
  c640_i32
def k0_mult42 : BitVec 32 :=
  let c3392_i32 : BitVec 32 := 3392#32
  c3392_i32
def k0_mult43 : BitVec 32 :=
  let c640_i32_650 : BitVec 32 := 640#32
  c640_i32_650
def k0_mult44 : BitVec 32 :=
  let c3392_i32_654 : BitVec 32 := 3392#32
  c3392_i32_654
def k0_mult45 : BitVec 32 :=
  let c704_i32 : BitVec 32 := 704#32
  c704_i32
def k0_mult46 : BitVec 32 :=
  let c3328_i32 : BitVec 32 := 3328#32
  c3328_i32
def k0_mult47 : BitVec 32 :=
  let c704_i32_724 : BitVec 32 := 704#32
  c704_i32_724
def k0_mult48 : BitVec 32 :=
  let c3328_i32_728 : BitVec 32 := 3328#32
  c3328_i32_728
def k0_mult49 : BitVec 32 :=
  let c768_i32 : BitVec 32 := 768#32
  c768_i32
def k0_mult50 : BitVec 32 :=
  let c3264_i32 : BitVec 32 := 3264#32
  c3264_i32
def k0_mult51 : BitVec 32 :=
  let c768_i32_798 : BitVec 32 := 768#32
  c768_i32_798
def k0_mult52 : BitVec 32 :=
  let c3264_i32_802 : BitVec 32 := 3264#32
  c3264_i32_802
def k0_mult53 : BitVec 32 :=
  let c832_i32 : BitVec 32 := 832#32
  c832_i32
def k0_mult54 : BitVec 32 :=
  let c3200_i32 : BitVec 32 := 3200#32
  c3200_i32
def k0_mult55 : BitVec 32 :=
  let c832_i32_872 : BitVec 32 := 832#32
  c832_i32_872
def k0_mult56 : BitVec 32 :=
  let c3200_i32_876 : BitVec 32 := 3200#32
  c3200_i32_876
def k0_mult57 : BitVec 32 :=
  let c896_i32 : BitVec 32 := 896#32
  c896_i32
def k0_mult58 : BitVec 32 :=
  let c3136_i32 : BitVec 32 := 3136#32
  c3136_i32
def k0_mult59 : BitVec 32 :=
  let c896_i32_946 : BitVec 32 := 896#32
  c896_i32_946
def k0_mult60 : BitVec 32 :=
  let c3136_i32_950 : BitVec 32 := 3136#32
  c3136_i32_950
def k0_mult61 : BitVec 32 :=
  let c960_i32 : BitVec 32 := 960#32
  c960_i32
def k0_mult62 : BitVec 32 :=
  let c3072_i32 : BitVec 32 := 3072#32
  c3072_i32
def k0_mult63 : BitVec 32 :=
  let c960_i32_1020 : BitVec 32 := 960#32
  c960_i32_1020
def k0_mult64 : BitVec 32 :=
  let c3072_i32_1024 : BitVec 32 := 3072#32
  c3072_i32_1024
def k0_mult65 : BitVec 32 :=
  let c1024_i32 : BitVec 32 := 1024#32
  c1024_i32
def k0_mult66 : BitVec 32 :=
  let c3008_i32 : BitVec 32 := 3008#32
  c3008_i32
def k0_mult67 : BitVec 32 :=
  let c1024_i32_1094 : BitVec 32 := 1024#32
  c1024_i32_1094
def k0_mult68 : BitVec 32 :=
  let c3008_i32_1098 : BitVec 32 := 3008#32
  c3008_i32_1098
def k0_mult69 : BitVec 32 :=
  let c1088_i32 : BitVec 32 := 1088#32
  c1088_i32
def k0_mult70 : BitVec 32 :=
  let c2944_i32 : BitVec 32 := 2944#32
  c2944_i32
def k0_mult71 : BitVec 32 :=
  let c1088_i32_1168 : BitVec 32 := 1088#32
  c1088_i32_1168
def k0_mult72 : BitVec 32 :=
  let c2944_i32_1172 : BitVec 32 := 2944#32
  c2944_i32_1172
def k0_mult73 : BitVec 32 :=
  let c1152_i32 : BitVec 32 := 1152#32
  c1152_i32
def k0_mult74 : BitVec 32 :=
  let c2880_i32 : BitVec 32 := 2880#32
  c2880_i32
def k0_mult75 : BitVec 32 :=
  let c1152_i32_1242 : BitVec 32 := 1152#32
  c1152_i32_1242
def k0_mult76 : BitVec 32 :=
  let c2880_i32_1246 : BitVec 32 := 2880#32
  c2880_i32_1246
def k0_mult77 : BitVec 32 :=
  let c1216_i32 : BitVec 32 := 1216#32
  c1216_i32
def k0_mult78 : BitVec 32 :=
  let c2816_i32 : BitVec 32 := 2816#32
  c2816_i32
def k0_mult79 : BitVec 32 :=
  let c1216_i32_1316 : BitVec 32 := 1216#32
  c1216_i32_1316
def k0_mult80 : BitVec 32 :=
  let c2816_i32_1320 : BitVec 32 := 2816#32
  c2816_i32_1320
def k0_mult81 : BitVec 32 :=
  let c1280_i32 : BitVec 32 := 1280#32
  c1280_i32
def k0_mult82 : BitVec 32 :=
  let c2752_i32 : BitVec 32 := 2752#32
  c2752_i32
def k0_mult83 : BitVec 32 :=
  let c1280_i32_1390 : BitVec 32 := 1280#32
  c1280_i32_1390
def k0_mult84 : BitVec 32 :=
  let c2752_i32_1394 : BitVec 32 := 2752#32
  c2752_i32_1394
def k0_mult85 : BitVec 32 :=
  let c1344_i32 : BitVec 32 := 1344#32
  c1344_i32
def k0_mult86 : BitVec 32 :=
  let c2688_i32 : BitVec 32 := 2688#32
  c2688_i32
def k0_mult87 : BitVec 32 :=
  let c1344_i32_1464 : BitVec 32 := 1344#32
  c1344_i32_1464
def k0_mult88 : BitVec 32 :=
  let c2688_i32_1468 : BitVec 32 := 2688#32
  c2688_i32_1468
def k0_mult89 : BitVec 32 :=
  let c1408_i32 : BitVec 32 := 1408#32
  c1408_i32
def k0_mult90 : BitVec 32 :=
  let c2624_i32 : BitVec 32 := 2624#32
  c2624_i32
def k0_mult91 : BitVec 32 :=
  let c1408_i32_1538 : BitVec 32 := 1408#32
  c1408_i32_1538
def k0_mult92 : BitVec 32 :=
  let c2624_i32_1542 : BitVec 32 := 2624#32
  c2624_i32_1542
def k0_mult93 : BitVec 32 :=
  let c1472_i32 : BitVec 32 := 1472#32
  c1472_i32
def k0_mult94 : BitVec 32 :=
  let c2560_i32 : BitVec 32 := 2560#32
  c2560_i32
def k0_mult95 : BitVec 32 :=
  let c1472_i32_1612 : BitVec 32 := 1472#32
  c1472_i32_1612
def k0_mult96 : BitVec 32 :=
  let c2560_i32_1616 : BitVec 32 := 2560#32
  c2560_i32_1616
def k0_mult97 : BitVec 32 :=
  let c1536_i32 : BitVec 32 := 1536#32
  c1536_i32
def k0_mult98 : BitVec 32 :=
  let c2496_i32 : BitVec 32 := 2496#32
  c2496_i32
def k0_mult99 : BitVec 32 :=
  let c1536_i32_1686 : BitVec 32 := 1536#32
  c1536_i32_1686
def k0_mult100 : BitVec 32 :=
  let c2496_i32_1690 : BitVec 32 := 2496#32
  c2496_i32_1690
def k0_mult101 : BitVec 32 :=
  let c1600_i32 : BitVec 32 := 1600#32
  c1600_i32
def k0_mult102 : BitVec 32 :=
  let c2432_i32 : BitVec 32 := 2432#32
  c2432_i32
def k0_mult103 : BitVec 32 :=
  let c1600_i32_1760 : BitVec 32 := 1600#32
  c1600_i32_1760
def k0_mult104 : BitVec 32 :=
  let c2432_i32_1764 : BitVec 32 := 2432#32
  c2432_i32_1764
def k0_mult105 : BitVec 32 :=
  let c1664_i32 : BitVec 32 := 1664#32
  c1664_i32
def k0_mult106 : BitVec 32 :=
  let c2368_i32 : BitVec 32 := 2368#32
  c2368_i32
def k0_mult107 : BitVec 32 :=
  let c1664_i32_1834 : BitVec 32 := 1664#32
  c1664_i32_1834
def k0_mult108 : BitVec 32 :=
  let c2368_i32_1838 : BitVec 32 := 2368#32
  c2368_i32_1838
def k0_mult109 : BitVec 32 :=
  let c1728_i32 : BitVec 32 := 1728#32
  c1728_i32
def k0_mult110 : BitVec 32 :=
  let c2304_i32 : BitVec 32 := 2304#32
  c2304_i32
def k0_mult111 : BitVec 32 :=
  let c1728_i32_1908 : BitVec 32 := 1728#32
  c1728_i32_1908
def k0_mult112 : BitVec 32 :=
  let c2304_i32_1912 : BitVec 32 := 2304#32
  c2304_i32_1912
def k0_mult113 : BitVec 32 :=
  let c1792_i32 : BitVec 32 := 1792#32
  c1792_i32
def k0_mult114 : BitVec 32 :=
  let c2240_i32 : BitVec 32 := 2240#32
  c2240_i32
def k0_mult115 : BitVec 32 :=
  let c1792_i32_1982 : BitVec 32 := 1792#32
  c1792_i32_1982
def k0_mult116 : BitVec 32 :=
  let c2240_i32_1986 : BitVec 32 := 2240#32
  c2240_i32_1986
def k0_mult117 : BitVec 32 :=
  let c1856_i32 : BitVec 32 := 1856#32
  c1856_i32
def k0_mult118 : BitVec 32 :=
  let c2176_i32 : BitVec 32 := 2176#32
  c2176_i32
def k0_mult119 : BitVec 32 :=
  let c1856_i32_2056 : BitVec 32 := 1856#32
  c1856_i32_2056
def k0_mult120 : BitVec 32 :=
  let c2176_i32_2060 : BitVec 32 := 2176#32
  c2176_i32_2060
def k0_mult121 : BitVec 32 :=
  let c1920_i32 : BitVec 32 := 1920#32
  c1920_i32
def k0_mult122 : BitVec 32 :=
  let c2112_i32 : BitVec 32 := 2112#32
  c2112_i32
def k0_mult123 : BitVec 32 :=
  let c1920_i32_2130 : BitVec 32 := 1920#32
  c1920_i32_2130
def k0_mult124 : BitVec 32 :=
  let c2112_i32_2134 : BitVec 32 := 2112#32
  c2112_i32_2134
def k0_mult125 : BitVec 32 :=
  let c1984_i32 : BitVec 32 := 1984#32
  c1984_i32
def k0_mult126 : BitVec 32 :=
  let c2048_i32 : BitVec 32 := 2048#32
  c2048_i32
def k0_mult127 : BitVec 32 :=
  let c1984_i32_2204 : BitVec 32 := 1984#32
  c1984_i32_2204
def k0_mult128 : BitVec 32 :=
  let c2048_i32_2208 : BitVec 32 := 2048#32
  c2048_i32_2208
def k0_mult129 : BitVec 32 :=
  let c2048_i32_2380 : BitVec 32 := 2048#32
  c2048_i32_2380
def k0_mult130 : BitVec 32 :=
  let c1984_i32_2384 : BitVec 32 := 1984#32
  c1984_i32_2384
def k0_mult131 : BitVec 32 :=
  let c2048_i32_2388 : BitVec 32 := 2048#32
  c2048_i32_2388
def k0_mult132 : BitVec 32 :=
  let c1984_i32_2392 : BitVec 32 := 1984#32
  c1984_i32_2392
def k0_mult133 : BitVec 32 :=
  let c2112_i32_2396 : BitVec 32 := 2112#32
  c2112_i32_2396
def k0_mult134 : BitVec 32 :=
  let c1920_i32_2400 : BitVec 32 := 1920#32
  c1920_i32_2400
def k0_mult135 : BitVec 32 :=
  let c2112_i32_2404 : BitVec 32 := 2112#32
  c2112_i32_2404
def k0_mult136 : BitVec 32 :=
  let c1920_i32_2408 : BitVec 32 := 1920#32
  c1920_i32_2408
def k0_mult137 : BitVec 32 :=
  let c2176_i32_2424 : BitVec 32 := 2176#32
  c2176_i32_2424
def k0_mult138 : BitVec 32 :=
  let c1856_i32_2428 : BitVec 32 := 1856#32
  c1856_i32_2428
def k0_mult139 : BitVec 32 :=
  let c2176_i32_2432 : BitVec 32 := 2176#32
  c2176_i32_2432
def k0_mult140 : BitVec 32 :=
  let c1856_i32_2436 : BitVec 32 := 1856#32
  c1856_i32_2436
def k0_mult141 : BitVec 32 :=
  let c2240_i32_2528 : BitVec 32 := 2240#32
  c2240_i32_2528
def k0_mult142 : BitVec 32 :=
  let c1792_i32_2532 : BitVec 32 := 1792#32
  c1792_i32_2532
def k0_mult143 : BitVec 32 :=
  let c2240_i32_2536 : BitVec 32 := 2240#32
  c2240_i32_2536
def k0_mult144 : BitVec 32 :=
  let c1792_i32_2540 : BitVec 32 := 1792#32
  c1792_i32_2540
def k0_mult145 : BitVec 32 :=
  let c2304_i32_2632 : BitVec 32 := 2304#32
  c2304_i32_2632
def k0_mult146 : BitVec 32 :=
  let c1728_i32_2636 : BitVec 32 := 1728#32
  c1728_i32_2636
def k0_mult147 : BitVec 32 :=
  let c2304_i32_2640 : BitVec 32 := 2304#32
  c2304_i32_2640
def k0_mult148 : BitVec 32 :=
  let c1728_i32_2644 : BitVec 32 := 1728#32
  c1728_i32_2644
def k0_mult149 : BitVec 32 :=
  let c2368_i32_2736 : BitVec 32 := 2368#32
  c2368_i32_2736
def k0_mult150 : BitVec 32 :=
  let c1664_i32_2740 : BitVec 32 := 1664#32
  c1664_i32_2740
def k0_mult151 : BitVec 32 :=
  let c2368_i32_2744 : BitVec 32 := 2368#32
  c2368_i32_2744
def k0_mult152 : BitVec 32 :=
  let c1664_i32_2748 : BitVec 32 := 1664#32
  c1664_i32_2748
def k0_mult153 : BitVec 32 :=
  let c2432_i32_2840 : BitVec 32 := 2432#32
  c2432_i32_2840
def k0_mult154 : BitVec 32 :=
  let c1600_i32_2844 : BitVec 32 := 1600#32
  c1600_i32_2844
def k0_mult155 : BitVec 32 :=
  let c2432_i32_2848 : BitVec 32 := 2432#32
  c2432_i32_2848
def k0_mult156 : BitVec 32 :=
  let c1600_i32_2852 : BitVec 32 := 1600#32
  c1600_i32_2852
def k0_mult157 : BitVec 32 :=
  let c2496_i32_2944 : BitVec 32 := 2496#32
  c2496_i32_2944
def k0_mult158 : BitVec 32 :=
  let c1536_i32_2948 : BitVec 32 := 1536#32
  c1536_i32_2948
def k0_mult159 : BitVec 32 :=
  let c2496_i32_2952 : BitVec 32 := 2496#32
  c2496_i32_2952
def k0_mult160 : BitVec 32 :=
  let c1536_i32_2956 : BitVec 32 := 1536#32
  c1536_i32_2956
def k0_mult161 : BitVec 32 :=
  let c2560_i32_3048 : BitVec 32 := 2560#32
  c2560_i32_3048
def k0_mult162 : BitVec 32 :=
  let c1472_i32_3052 : BitVec 32 := 1472#32
  c1472_i32_3052
def k0_mult163 : BitVec 32 :=
  let c2560_i32_3056 : BitVec 32 := 2560#32
  c2560_i32_3056
def k0_mult164 : BitVec 32 :=
  let c1472_i32_3060 : BitVec 32 := 1472#32
  c1472_i32_3060
def k0_mult165 : BitVec 32 :=
  let c2624_i32_3152 : BitVec 32 := 2624#32
  c2624_i32_3152
def k0_mult166 : BitVec 32 :=
  let c1408_i32_3156 : BitVec 32 := 1408#32
  c1408_i32_3156
def k0_mult167 : BitVec 32 :=
  let c2624_i32_3160 : BitVec 32 := 2624#32
  c2624_i32_3160
def k0_mult168 : BitVec 32 :=
  let c1408_i32_3164 : BitVec 32 := 1408#32
  c1408_i32_3164
def k0_mult169 : BitVec 32 :=
  let c2688_i32_3256 : BitVec 32 := 2688#32
  c2688_i32_3256
def k0_mult170 : BitVec 32 :=
  let c1344_i32_3260 : BitVec 32 := 1344#32
  c1344_i32_3260
def k0_mult171 : BitVec 32 :=
  let c2688_i32_3264 : BitVec 32 := 2688#32
  c2688_i32_3264
def k0_mult172 : BitVec 32 :=
  let c1344_i32_3268 : BitVec 32 := 1344#32
  c1344_i32_3268
def k0_mult173 : BitVec 32 :=
  let c2752_i32_3360 : BitVec 32 := 2752#32
  c2752_i32_3360
def k0_mult174 : BitVec 32 :=
  let c1280_i32_3364 : BitVec 32 := 1280#32
  c1280_i32_3364
def k0_mult175 : BitVec 32 :=
  let c2752_i32_3368 : BitVec 32 := 2752#32
  c2752_i32_3368
def k0_mult176 : BitVec 32 :=
  let c1280_i32_3372 : BitVec 32 := 1280#32
  c1280_i32_3372
def k0_mult177 : BitVec 32 :=
  let c2816_i32_3464 : BitVec 32 := 2816#32
  c2816_i32_3464
def k0_mult178 : BitVec 32 :=
  let c1216_i32_3468 : BitVec 32 := 1216#32
  c1216_i32_3468
def k0_mult179 : BitVec 32 :=
  let c2816_i32_3472 : BitVec 32 := 2816#32
  c2816_i32_3472
def k0_mult180 : BitVec 32 :=
  let c1216_i32_3476 : BitVec 32 := 1216#32
  c1216_i32_3476
def k0_mult181 : BitVec 32 :=
  let c2880_i32_3568 : BitVec 32 := 2880#32
  c2880_i32_3568
def k0_mult182 : BitVec 32 :=
  let c1152_i32_3572 : BitVec 32 := 1152#32
  c1152_i32_3572
def k0_mult183 : BitVec 32 :=
  let c2880_i32_3576 : BitVec 32 := 2880#32
  c2880_i32_3576
def k0_mult184 : BitVec 32 :=
  let c1152_i32_3580 : BitVec 32 := 1152#32
  c1152_i32_3580
def k0_mult185 : BitVec 32 :=
  let c2944_i32_3672 : BitVec 32 := 2944#32
  c2944_i32_3672
def k0_mult186 : BitVec 32 :=
  let c1088_i32_3676 : BitVec 32 := 1088#32
  c1088_i32_3676
def k0_mult187 : BitVec 32 :=
  let c2944_i32_3680 : BitVec 32 := 2944#32
  c2944_i32_3680
def k0_mult188 : BitVec 32 :=
  let c1088_i32_3684 : BitVec 32 := 1088#32
  c1088_i32_3684
def k0_mult189 : BitVec 32 :=
  let c3008_i32_3776 : BitVec 32 := 3008#32
  c3008_i32_3776
def k0_mult190 : BitVec 32 :=
  let c1024_i32_3780 : BitVec 32 := 1024#32
  c1024_i32_3780
def k0_mult191 : BitVec 32 :=
  let c3008_i32_3784 : BitVec 32 := 3008#32
  c3008_i32_3784
def k0_mult192 : BitVec 32 :=
  let c1024_i32_3788 : BitVec 32 := 1024#32
  c1024_i32_3788
def k0_mult193 : BitVec 32 :=
  let c3072_i32_3880 : BitVec 32 := 3072#32
  c3072_i32_3880
def k0_mult194 : BitVec 32 :=
  let c960_i32_3884 : BitVec 32 := 960#32
  c960_i32_3884
def k0_mult195 : BitVec 32 :=
  let c3072_i32_3888 : BitVec 32 := 3072#32
  c3072_i32_3888
def k0_mult196 : BitVec 32 :=
  let c960_i32_3892 : BitVec 32 := 960#32
  c960_i32_3892
def k0_mult197 : BitVec 32 :=
  let c3136_i32_3984 : BitVec 32 := 3136#32
  c3136_i32_3984
def k0_mult198 : BitVec 32 :=
  let c896_i32_3988 : BitVec 32 := 896#32
  c896_i32_3988
def k0_mult199 : BitVec 32 :=
  let c3136_i32_3992 : BitVec 32 := 3136#32
  c3136_i32_3992
def k0_mult200 : BitVec 32 :=
  let c896_i32_3996 : BitVec 32 := 896#32
  c896_i32_3996
def k0_mult201 : BitVec 32 :=
  let c3200_i32_4088 : BitVec 32 := 3200#32
  c3200_i32_4088
def k0_mult202 : BitVec 32 :=
  let c832_i32_4092 : BitVec 32 := 832#32
  c832_i32_4092
def k0_mult203 : BitVec 32 :=
  let c3200_i32_4096 : BitVec 32 := 3200#32
  c3200_i32_4096
def k0_mult204 : BitVec 32 :=
  let c832_i32_4100 : BitVec 32 := 832#32
  c832_i32_4100
def k0_mult205 : BitVec 32 :=
  let c3264_i32_4192 : BitVec 32 := 3264#32
  c3264_i32_4192
def k0_mult206 : BitVec 32 :=
  let c768_i32_4196 : BitVec 32 := 768#32
  c768_i32_4196
def k0_mult207 : BitVec 32 :=
  let c3264_i32_4200 : BitVec 32 := 3264#32
  c3264_i32_4200
def k0_mult208 : BitVec 32 :=
  let c768_i32_4204 : BitVec 32 := 768#32
  c768_i32_4204
def k0_mult209 : BitVec 32 :=
  let c3328_i32_4296 : BitVec 32 := 3328#32
  c3328_i32_4296
def k0_mult210 : BitVec 32 :=
  let c704_i32_4300 : BitVec 32 := 704#32
  c704_i32_4300
def k0_mult211 : BitVec 32 :=
  let c3328_i32_4304 : BitVec 32 := 3328#32
  c3328_i32_4304
def k0_mult212 : BitVec 32 :=
  let c704_i32_4308 : BitVec 32 := 704#32
  c704_i32_4308
def k0_mult213 : BitVec 32 :=
  let c3392_i32_4400 : BitVec 32 := 3392#32
  c3392_i32_4400
def k0_mult214 : BitVec 32 :=
  let c640_i32_4404 : BitVec 32 := 640#32
  c640_i32_4404
def k0_mult215 : BitVec 32 :=
  let c3392_i32_4408 : BitVec 32 := 3392#32
  c3392_i32_4408
def k0_mult216 : BitVec 32 :=
  let c640_i32_4412 : BitVec 32 := 640#32
  c640_i32_4412
def k0_mult217 : BitVec 32 :=
  let c3456_i32_4504 : BitVec 32 := 3456#32
  c3456_i32_4504
def k0_mult218 : BitVec 32 :=
  let c576_i32_4508 : BitVec 32 := 576#32
  c576_i32_4508
def k0_mult219 : BitVec 32 :=
  let c3456_i32_4512 : BitVec 32 := 3456#32
  c3456_i32_4512
def k0_mult220 : BitVec 32 :=
  let c576_i32_4516 : BitVec 32 := 576#32
  c576_i32_4516
def k0_mult221 : BitVec 32 :=
  let c3520_i32_4608 : BitVec 32 := 3520#32
  c3520_i32_4608
def k0_mult222 : BitVec 32 :=
  let c512_i32_4612 : BitVec 32 := 512#32
  c512_i32_4612
def k0_mult223 : BitVec 32 :=
  let c3520_i32_4616 : BitVec 32 := 3520#32
  c3520_i32_4616
def k0_mult224 : BitVec 32 :=
  let c512_i32_4620 : BitVec 32 := 512#32
  c512_i32_4620
def k0_mult225 : BitVec 32 :=
  let c3584_i32_4712 : BitVec 32 := 3584#32
  c3584_i32_4712
def k0_mult226 : BitVec 32 :=
  let c448_i32_4716 : BitVec 32 := 448#32
  c448_i32_4716
def k0_mult227 : BitVec 32 :=
  let c3584_i32_4720 : BitVec 32 := 3584#32
  c3584_i32_4720
def k0_mult228 : BitVec 32 :=
  let c448_i32_4724 : BitVec 32 := 448#32
  c448_i32_4724
def k0_mult229 : BitVec 32 :=
  let c3648_i32_4816 : BitVec 32 := 3648#32
  c3648_i32_4816
def k0_mult230 : BitVec 32 :=
  let c384_i32_4820 : BitVec 32 := 384#32
  c384_i32_4820
def k0_mult231 : BitVec 32 :=
  let c3648_i32_4824 : BitVec 32 := 3648#32
  c3648_i32_4824
def k0_mult232 : BitVec 32 :=
  let c384_i32_4828 : BitVec 32 := 384#32
  c384_i32_4828
def k0_mult233 : BitVec 32 :=
  let c3712_i32_4920 : BitVec 32 := 3712#32
  c3712_i32_4920
def k0_mult234 : BitVec 32 :=
  let c320_i32_4924 : BitVec 32 := 320#32
  c320_i32_4924
def k0_mult235 : BitVec 32 :=
  let c3712_i32_4928 : BitVec 32 := 3712#32
  c3712_i32_4928
def k0_mult236 : BitVec 32 :=
  let c320_i32_4932 : BitVec 32 := 320#32
  c320_i32_4932
def k0_mult237 : BitVec 32 :=
  let c3776_i32_5024 : BitVec 32 := 3776#32
  c3776_i32_5024
def k0_mult238 : BitVec 32 :=
  let c256_i32_5028 : BitVec 32 := 256#32
  c256_i32_5028
def k0_mult239 : BitVec 32 :=
  let c3776_i32_5032 : BitVec 32 := 3776#32
  c3776_i32_5032
def k0_mult240 : BitVec 32 :=
  let c256_i32_5036 : BitVec 32 := 256#32
  c256_i32_5036
def k0_mult241 : BitVec 32 :=
  let c3840_i32_5128 : BitVec 32 := 3840#32
  c3840_i32_5128
def k0_mult242 : BitVec 32 :=
  let c192_i32_5132 : BitVec 32 := 192#32
  c192_i32_5132
def k0_mult243 : BitVec 32 :=
  let c3840_i32_5136 : BitVec 32 := 3840#32
  c3840_i32_5136
def k0_mult244 : BitVec 32 :=
  let c192_i32_5140 : BitVec 32 := 192#32
  c192_i32_5140
def k0_mult245 : BitVec 32 :=
  let c3904_i32_5232 : BitVec 32 := 3904#32
  c3904_i32_5232
def k0_mult246 : BitVec 32 :=
  let c128_i32_5236 : BitVec 32 := 128#32
  c128_i32_5236
def k0_mult247 : BitVec 32 :=
  let c3904_i32_5240 : BitVec 32 := 3904#32
  c3904_i32_5240
def k0_mult248 : BitVec 32 :=
  let c128_i32_5244 : BitVec 32 := 128#32
  c128_i32_5244
def k0_mult249 : BitVec 32 :=
  let c3968_i32_5336 : BitVec 32 := 3968#32
  c3968_i32_5336
def k0_mult250 : BitVec 32 :=
  let c64_i32_5340 : BitVec 32 := 64#32
  c64_i32_5340
def k0_mult251 : BitVec 32 :=
  let c3968_i32_5344 : BitVec 32 := 3968#32
  c3968_i32_5344
def k0_mult252 : BitVec 32 :=
  let c64_i32_5348 : BitVec 32 := 64#32
  c64_i32_5348
def k0_mult253 : BitVec 32 :=
  let c4032_i32_5440 : BitVec 32 := 4032#32
  c4032_i32_5440
def k0_mult254 : BitVec 32 :=
  let c0_i32_5444 : BitVec 32 := 0#32
  c0_i32_5444
def k0_mult255 : BitVec 32 :=
  let c4032_i32_5448 : BitVec 32 := 4032#32
  c4032_i32_5448
def k0_mult256 : BitVec 32 :=
  let c0_i32_5452 : BitVec 32 := 0#32
  c0_i32_5452
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S4096x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel10Ideal.lean ====
variable {F : FTy → Type} [FloatOps F] [Named F]
def κ : String → Option EReal := fun
  | "log2_e" => some (((Real.log 2)⁻¹ : ℝ) : EReal)
  | _ => none
-- ==== Reference10Ideal.lean ====
abbrev S8192x4096 : Shape := ⟨2, ![8192, 4096]⟩
abbrev S8192x1024 : Shape := ⟨2, ![8192, 1024]⟩
abbrev S2x2x1024 : Shape := ⟨3, ![2, 2, 1024]⟩
abbrev S1x128 : Shape := ⟨2, ![1, 128]⟩
abbrev S2x4096x4x8x128 : Shape := ⟨5, ![2, 4096, 4, 8, 128]⟩
abbrev S2x4096x1x8x128 : Shape := ⟨5, ![2, 4096, 1, 8, 128]⟩
abbrev S2x4096x8x128 : Shape := ⟨4, ![2, 4096, 8, 128]⟩
abbrev S2x1x1024 : Shape := ⟨3, ![2, 1, 1024]⟩
abbrev S2x1024 : Shape := ⟨2, ![2, 1024]⟩
abbrev S2x8x128 : Shape := ⟨3, ![2, 8, 128]⟩
abbrev S4096 : Shape := ⟨1, ![4096]⟩
abbrev S4096x1 : Shape := ⟨2, ![4096, 1]⟩
abbrev S1x4096 : Shape := ⟨2, ![1, 4096]⟩
abbrev S1x8x128 : Shape := ⟨3, ![1, 8, 128]⟩
abbrev S8x128 : Shape := ⟨2, ![8, 128]⟩
abbrev S4096x4096 : Shape := ⟨2, ![4096, 4096]⟩
abbrev S_ : Shape := ⟨0, ![]⟩
abbrev S1x1x8x128 : Shape := ⟨4, ![1, 1, 8, 128]⟩
abbrev S2x8x128x4096 : Shape := ⟨4, ![2, 8, 128, 4096]⟩
abbrev S2x1x4096x8x128 : Shape := ⟨5, ![2, 1, 4096, 8, 128]⟩
abbrev S2x4096x4096x8x128 : Shape := ⟨5, ![2, 4096, 4096, 8, 128]⟩
abbrev S2x4096x4096x8 : Shape := ⟨4, ![2, 4096, 4096, 8]⟩
abbrev S4096x4096x1 : Shape := ⟨3, ![4096, 4096, 1]⟩
abbrev S2x4096x8 : Shape := ⟨3, ![2, 4096, 8]⟩
abbrev S2x4096x8x1 : Shape := ⟨4, ![2, 4096, 8, 1]⟩
abbrev S128 : Shape := ⟨1, ![128]⟩
abbrev S1x1x1x128 : Shape := ⟨4, ![1, 1, 1, 128]⟩

abbrev nBuf : Space → Nat
  | .hbm => 175
  | .vmem => 0
  | .smem => 0
  | _ => 0

abbrev hbmTy0_0 (i : Nat) : BufTy := match i % 128 with
  | 0 => ⟨S8192x4096, .bf16⟩
  | 1 => ⟨S8192x1024, .bf16⟩
  | 2 => ⟨S2x2x1024, .f32⟩
  | 3 => ⟨S1x128, .f32⟩
  | 4 => ⟨S8192x4096, .f32⟩
  | 5 => ⟨S2x4096x4x8x128, .f32⟩
  | 6 => ⟨S2x4096x1x8x128, .f32⟩
  | 7 => ⟨S2x4096x8x128, .f32⟩
  | 8 => ⟨S2x4096x1x8x128, .f32⟩
  | 9 => ⟨S2x4096x8x128, .f32⟩
  | 10 => ⟨S2x4096x1x8x128, .f32⟩
  | 11 => ⟨S2x4096x8x128, .f32⟩
  | 12 => ⟨S2x4096x1x8x128, .f32⟩
  | 13 => ⟨S2x4096x8x128, .f32⟩
  | 14 => ⟨S2x2x1024, .f32⟩
  | 15 => ⟨S2x1x1024, .f32⟩
  | 16 => ⟨S2x1024, .f32⟩
  | 17 => ⟨S2x1x1024, .f32⟩
  | 18 => ⟨S2x1024, .f32⟩
  | 19 => ⟨S2x1x1024, .f32⟩
  | 20 => ⟨S2x1024, .f32⟩
  | 21 => ⟨S2x1024, .f32⟩
  | 22 => ⟨S2x1024, .f32⟩
  | 23 => ⟨S2x8x128, .f32⟩
  | 24 => ⟨S4096, .i32⟩
  | 25 => ⟨S4096x1, .i32⟩
  | 26 => ⟨S4096, .i32⟩
  | 27 => ⟨S1x4096, .i32⟩
  | 28 => ⟨S1x8x128, .f32⟩
  | 29 => ⟨S8x128, .f32⟩
  | 30 => ⟨S4096x4096, .i32⟩
  | 31 => ⟨S4096x4096, .i32⟩
  | 32 => ⟨S4096x4096, .i1⟩
  | 33 => ⟨S_, .f32⟩
  | 34 => ⟨S8x128, .f32⟩
  | 35 => ⟨S8x128, .f32⟩
  | 36 => ⟨S2x4096x8x128, .f32⟩
  | 37 => ⟨S2x4096x8x128, .f32⟩
  | 38 => ⟨S_, .f32⟩
  | 39 => ⟨S2x4096x8x128, .f32⟩
  | 40 => ⟨S2x4096x8x128, .f32⟩
  | 41 => ⟨S_, .f32⟩
  | 42 => ⟨S2x4096x8x128, .f32⟩
  | 43 => ⟨S2x4096x8x128, .f32⟩
  | 44 => ⟨S1x1x8x128, .f32⟩
  | 45 => ⟨S2x4096x8x128, .f32⟩
  | 46 => ⟨S2x4096x8x128, .f32⟩
  | 47 => ⟨S1x1x8x128, .f32⟩
  | 48 => ⟨S2x4096x8x128, .f32⟩
  | 49 => ⟨S2x4096x8x128, .f32⟩
  | 50 => ⟨S2x4096x8x128, .f32⟩
  | 51 => ⟨S_, .f32⟩
  | 52 => ⟨S8x128, .f32⟩
  | 53 => ⟨S8x128, .f32⟩
  | 54 => ⟨S2x4096x8x128, .f32⟩
  | 55 => ⟨S2x4096x8x128, .f32⟩
  | 56 => ⟨S2x4096x8x128, .f32⟩
  | 57 => ⟨S_, .f32⟩
  | 58 => ⟨S2x4096x8x128, .f32⟩
  | 59 => ⟨S2x4096x8x128, .f32⟩
  | 60 => ⟨S_, .f32⟩
  | 61 => ⟨S2x4096x8x128, .f32⟩
  | 62 => ⟨S2x4096x8x128, .f32⟩
  | 63 => ⟨S1x1x8x128, .f32⟩
  | 64 => ⟨S2x4096x8x128, .f32⟩
  | 65 => ⟨S2x4096x8x128, .f32⟩
  | 66 => ⟨S4096x4096, .f32⟩
  | 67 => ⟨S2x8x128x4096, .f32⟩
  | 68 => ⟨S2x4096x8x128, .f32⟩
  | 69 => ⟨S2x4096x1x8x128, .f32⟩
  | 70 => ⟨S2x1x4096x8x128, .f32⟩
  | 71 => ⟨S2x4096x4096x8x128, .f32⟩
  | 72 => ⟨S2x4096x4096x8x128, .f32⟩
  | 73 => ⟨S2x4096x4096x8x128, .f32⟩
  | 74 => ⟨S2x4096x1x8x128, .f32⟩
  | 75 => ⟨S2x1x4096x8x128, .f32⟩
  | 76 => ⟨S2x4096x4096x8x128, .f32⟩
  | 77 => ⟨S2x4096x4096x8x128, .f32⟩
  | 78 => ⟨S2x4096x4096x8x128, .f32⟩
  | 79 => ⟨S2x4096x4096x8x128, .f32⟩
  | 80 => ⟨S2x4096x4096x8x128, .f32⟩
  | 81 => ⟨S_, .f32⟩
  | 82 => ⟨S2x4096x4096x8, .f32⟩
  | 83 => ⟨S4096x4096x1, .i1⟩
  | 84 => ⟨S_, .f32⟩
  | 85 => ⟨S_, .f32⟩
  | 86 => ⟨S2x4096x4096x8, .i1⟩
  | 87 => ⟨S2x4096x4096x8, .f32⟩
  | 88 => ⟨S2x4096x4096x8, .f32⟩
  | 89 => ⟨S2x8x128x4096, .f32⟩
  | 90 => ⟨S2x4096x8x128, .f32⟩
  | 91 => ⟨S1x8x128, .f32⟩
  | 92 => ⟨S8x128, .f32⟩
  | 93 => ⟨S4096x4096, .i32⟩
  | 94 => ⟨S4096x4096, .i32⟩
  | 95 => ⟨S4096x4096, .i1⟩
  | 96 => ⟨S_, .f32⟩
  | 97 => ⟨S8x128, .f32⟩
  | 98 => ⟨S8x128, .f32⟩
  | 99 => ⟨S2x4096x8x128, .f32⟩
  | 100 => ⟨S2x4096x8x128, .f32⟩
  | 101 => ⟨S_, .f32⟩
  | 102 => ⟨S2x4096x8x128, .f32⟩
  | 103 => ⟨S2x4096x8x128, .f32⟩
  | 104 => ⟨S_, .f32⟩
  | 105 => ⟨S2x4096x8x128, .f32⟩
  | 106 => ⟨S2x4096x8x128, .f32⟩
  | 107 => ⟨S1x1x8x128, .f32⟩
  | 108 => ⟨S2x4096x8x128, .f32⟩
  | 109 => ⟨S2x4096x8x128, .f32⟩
  | 110 => ⟨S1x1x8x128, .f32⟩
  | 111 => ⟨S2x4096x8x128, .f32⟩
  | 112 => ⟨S2x4096x8x128, .f32⟩
  | 113 => ⟨S2x4096x8x128, .f32⟩
  | 114 => ⟨S_, .f32⟩
  | 115 => ⟨S8x128, .f32⟩
  | 116 => ⟨S8x128, .f32⟩
  | 117 => ⟨S2x4096x8x128, .f32⟩
  | 118 => ⟨S2x4096x8x128, .f32⟩
  | 119 => ⟨S2x4096x8x128, .f32⟩
  | 120 => ⟨S_, .f32⟩
  | 121 => ⟨S2x4096x8x128, .f32⟩
  | 122 => ⟨S2x4096x8x128, .f32⟩
  | 123 => ⟨S_, .f32⟩
  | 124 => ⟨S2x4096x8x128, .f32⟩
  | 125 => ⟨S2x4096x8x128, .f32⟩
  | 126 => ⟨S1x1x8x128, .f32⟩
  | 127 => ⟨S2x4096x8x128, .f32⟩
  | _ => ⟨S8192x4096, .bf16⟩

abbrev hbmTy0_1 (i : Nat) : BufTy := match i % 128 with
  | 0 => ⟨S2x4096x8x128, .f32⟩
  | 1 => ⟨S4096x4096, .f32⟩
  | 2 => ⟨S2x8x128x4096, .f32⟩
  | 3 => ⟨S2x4096x8x128, .f32⟩
  | 4 => ⟨S2x4096x1x8x128, .f32⟩
  | 5 => ⟨S2x1x4096x8x128, .f32⟩
  | 6 => ⟨S2x4096x4096x8x128, .f32⟩
  | 7 => ⟨S2x4096x4096x8x128, .f32⟩
  | 8 => ⟨S2x4096x4096x8x128, .f32⟩
  | 9 => ⟨S2x4096x1x8x128, .f32⟩
  | 10 => ⟨S2x1x4096x8x128, .f32⟩
  | 11 => ⟨S2x4096x4096x8x128, .f32⟩
  | 12 => ⟨S2x4096x4096x8x128, .f32⟩
  | 13 => ⟨S2x4096x4096x8x128, .f32⟩
  | 14 => ⟨S2x4096x4096x8x128, .f32⟩
  | 15 => ⟨S2x4096x4096x8x128, .f32⟩
  | 16 => ⟨S_, .f32⟩
  | 17 => ⟨S2x4096x4096x8, .f32⟩
  | 18 => ⟨S4096x4096x1, .i1⟩
  | 19 => ⟨S_, .f32⟩
  | 20 => ⟨S_, .f32⟩
  | 21 => ⟨S2x4096x4096x8, .i1⟩
  | 22 => ⟨S2x4096x4096x8, .f32⟩
  | 23 => ⟨S2x4096x4096x8, .f32⟩
  | 24 => ⟨S2x8x128x4096, .f32⟩
  | 25 => ⟨S2x4096x8x128, .f32⟩
  | 26 => ⟨S2x4096x8x128, .f32⟩
  | 27 => ⟨S2x4096x8x128, .f32⟩
  | 28 => ⟨S_, .f32⟩
  | 29 => ⟨S2x4096x8, .f32⟩
  | 30 => ⟨S2x4096x8x1, .f32⟩
  | 31 => ⟨S_, .f32⟩
  | 32 => ⟨S2x4096x8x1, .f32⟩
  | 33 => ⟨S2x4096x8x1, .f32⟩
  | 34 => ⟨S_, .f32⟩
  | 35 => ⟨S2x4096x8x1, .f32⟩
  | 36 => ⟨S2x4096x8x1, .f32⟩
  | 37 => ⟨S2x4096x8x1, .f32⟩
  | 38 => ⟨S2x4096x8x128, .f32⟩
  | 39 => ⟨S2x4096x8x128, .f32⟩
  | 40 => ⟨S128, .f32⟩
  | 41 => ⟨S1x1x1x128, .f32⟩
  | 42 => ⟨S2x4096x8x128, .f32⟩
  | 43 => ⟨S2x4096x8x128, .f32⟩
  | 44 => ⟨S8192x1024, .f32⟩
  | 45 => ⟨S8192x1024, .bf16⟩
  | 46 => ⟨S8192x1024, .bf16⟩
  | _ => ⟨S8192x4096, .bf16⟩

abbrev hbmTy (i : Nat) : BufTy := match i / 128 with
  | 0 => hbmTy0_0 i
  | 1 => hbmTy0_1 i
  | _ => ⟨S8192x4096, .bf16⟩

abbrev bufTy : (tb : Table) → Fin (tcTables nBuf tb) → BufTy
  | .hbm, ⟨i, _⟩ => hbmTy i
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_cst : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_0 : Ref sig .tc := ⟨.hbm, 38, rfl⟩
abbrev main_v33 : Ref sig .tc := ⟨.hbm, 39, rfl⟩
abbrev main_v34 : Ref sig .tc := ⟨.hbm, 40, rfl⟩
abbrev main_cst_1 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_cst_2 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_cst_3 : Ref sig .tc := ⟨.hbm, 57, rfl⟩
abbrev main_v49 : Ref sig .tc := ⟨.hbm, 58, rfl⟩
abbrev main_v50 : Ref sig .tc := ⟨.hbm, 59, rfl⟩
abbrev main_cst_4 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_cst_5 : Ref sig .tc := ⟨.hbm, 81, rfl⟩
abbrev main_v71 : Ref sig .tc := ⟨.hbm, 82, rfl⟩
abbrev main_v72 : Ref sig .tc := ⟨.hbm, 83, rfl⟩
abbrev main_cst_6 : Ref sig .tc := ⟨.hbm, 84, rfl⟩
abbrev main_call0_v0 : Ref sig .tc := ⟨.hbm, 85, rfl⟩
abbrev main_call0_v1 : Ref sig .tc := ⟨.hbm, 86, rfl⟩
abbrev main_call0_v2 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_cst_7 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_cst_8 : Ref sig .tc := ⟨.hbm, 101, rfl⟩
abbrev main_v85 : Ref sig .tc := ⟨.hbm, 102, rfl⟩
abbrev main_v86 : Ref sig .tc := ⟨.hbm, 103, rfl⟩
abbrev main_cst_9 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_cst_10 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_cst_11 : Ref sig .tc := ⟨.hbm, 120, rfl⟩
abbrev main_v101 : Ref sig .tc := ⟨.hbm, 121, rfl⟩
abbrev main_v102 : Ref sig .tc := ⟨.hbm, 122, rfl⟩
abbrev main_cst_12 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_cst_13 : Ref sig .tc := ⟨.hbm, 144, rfl⟩
abbrev main_v123 : Ref sig .tc := ⟨.hbm, 145, rfl⟩
abbrev main_v124 : Ref sig .tc := ⟨.hbm, 146, rfl⟩
abbrev main_cst_14 : Ref sig .tc := ⟨.hbm, 147, rfl⟩
abbrev main_call1_v0 : Ref sig .tc := ⟨.hbm, 148, rfl⟩
abbrev main_call1_v1 : Ref sig .tc := ⟨.hbm, 149, rfl⟩
abbrev main_call1_v2 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_cst_15 : Ref sig .tc := ⟨.hbm, 156, rfl⟩
abbrev main_v130 : Ref sig .tc := ⟨.hbm, 157, rfl⟩
abbrev main_v131 : Ref sig .tc := ⟨.hbm, 158, rfl⟩
abbrev main_cst_16 : Ref sig .tc := ⟨.hbm, 159, rfl⟩
abbrev main_v132 : Ref sig .tc := ⟨.hbm, 160, rfl⟩
abbrev main_v133 : Ref sig .tc := ⟨.hbm, 161, rfl⟩
abbrev main_cst_17 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩

abbrev nD : Nat := 1
abbrev τ : Topo := Topo.v7x

variable {F : FTy → Type} [FloatOps F]
-- ==== Proof.Ff2Body.lean ====
/-
  The second feed-forward call, run by hand: its body starts a transfer of its own at the third of every four points
  (a block of the residual, left in HBM, into a scratch buffer) and waits for it at the fourth, so that between the
  two the scratch and the lent block belong to the transfer in flight. Here: the body's triple in its four cases,
  the invariant with the transfer in flight, the launch, and the frame.
-/
module

public import proofs.«01_k».proof.Proof.Gen.Kernel3Ideal.Frame
public import proofs.«01_k».proof.Proof.Gen.Kernel3Ideal.Skeleton
public import Idealize.ShloMosaic.Lib.Pipeline.Frame
public import Idealize.ShloMosaic.Lib.Pipeline.Value
public import Idealize.ShloMosaic.Lib.Tactic
public import Idealize.ShloMosaic.Lib.Transfers
public import Idealize.ShloMosaic.Lib.WordCmp

@[expose] public section

set_option maxRecDepth 16384

noncomputable section

namespace Cert.Kernel3Ideal.Ff2

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## Which case a point is in -/

theorem coord1 (t : Fin cfg0.N) : (grid0.coords t 1).val = t.val / 1 % 4 := Pipeline.Grid.coords_val t 1 (by decide) rfl

/-- The transfer is started at the third of every four points, -/
theorem start_iff (t : Fin cfg0.N) : k0_cond1 (grid0.coords t) = 1#1 ↔ t.val % 4 = 2 := by
  have ht : t.val < 32 := Nat.lt_of_lt_of_eq t.isLt N_0
  have e1 := coord1 t
  simp only [k0_cond1, e1]
  word_cmp

/-- the output's block is set at the first, -/
theorem first_iff (t : Fin cfg0.N) : k0_cond2 (grid0.coords t) = 1#1 ↔ t.val % 4 = 0 := by
  have ht : t.val < 32 := Nat.lt_of_lt_of_eq t.isLt N_0
  have e1 := coord1 t
  simp only [k0_cond2, e1]
  word_cmp

/-- added to at the two between, -/
theorem middle_iff (t : Fin cfg0.N) : k0_cond3 (grid0.coords t) = 1#1 ↔ t.val % 4 = 1 ∨ t.val % 4 = 2 := by
  have ht : t.val < 32 := Nat.lt_of_lt_of_eq t.isLt N_0
  have e1 := coord1 t
  simp only [k0_cond3, e1]
  word_cmp

/-- and finished at the last. -/
theorem last_iff (t : Fin cfg0.N) : k0_cond4 (grid0.coords t) = 1#1 ↔ t.val % 4 = 3 := by
  have ht : t.val < 32 := Nat.lt_of_lt_of_eq t.isLt N_0
  have e1 := coord1 t
  simp only [k0_cond4, e1]
  word_cmp

/-! ## The operands the body is handed -/

abbrev ms0_0 (t : Fin cfg0.N) : Memref sig .tc .vmem S1024x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x2048 .f32 := win0_4.stage (cfg0.slots t 4)
abbrev hs0_4 (t : Fin cfg0.N) : (ms0_4 t).IsWhole := hstage0_4 ((cfg0.slots t 4).cast nbuf0_4)
/-- The scratch the residual's block is brought into, and the residual left in HBM, whole. -/
abbrev scM : Memref sig .tc .vmem S1024x2048 .f32 := Memref.whole cc0_scratch0
abbrev hsM : scM.IsWhole := Memref.isWhole_whole _
abbrev hbM : Memref sig .tc .hbm S8192x2048 .f32 := Memref.whole main_arg2

/-- A whole buffer on core `c` held at `f`. -/
abbrev hbPt (c : Dev nD) {sp : Space} {S : Shape} {e : EltTy} (M : Memref sig .tc sp S e) (f : Buf (Elt F) (M.view.loc (c : Thread nD τ))) : sProp 𝕄 :=
  M.view.loc (c : Thread nD τ) ↦{fullShare} f

/-- A rectangle that is the whole block starts at nought. -/
theorem hz : (![0, 0] : Fin 2 → Nat) = fun _ => 0 := funext fun a => by fin_cases a <;> rfl

/-- One store of the whole block leaves what it stored. -/
theorem read_store {S : Shape} {e : EltTy} {sp : Space} {off : Fin S.rank → Nat} (h : off = fun _ => 0) (v : View sig .tc sp S e) (f : v.ty.Contents (Elt F))
    (inb : ∀ a, off a + S.size a ≤ S.size a) (x : S.Idx → Elt F e) :
    v.read (Elt F) (v.writes (Elt F) f [⟨Rect.unit off S.size inb, x⟩]) = x := by
  rw [View.read_writes_eq_canon _ _ _ (fun y => ⟨_, List.mem_singleton.mpr rfl, View.mem_set_unit_zero h inb y⟩), View.canon_unit_zero h]

/-- The same of a store through the whole rectangle. -/
theorem read_whole {S : Shape} {e : EltTy} {sp : Space} (v : View sig .tc sp S e) (f : v.ty.Contents (Elt F)) (x : S.Idx → Elt F e) :
    v.read (Elt F) (v.writes (Elt F) f [⟨Rect.whole S, x⟩]) = x :=
  read_store rfl v f (fun a => (Nat.zero_add _).le) x

/-! ## The body, case by case -/

/-- The first of the four points: the output's block is set to the product. -/
theorem runA (c : Dev nD) (i : grid0.Coords) (arg2 : Memref sig .tc .vmem S1024x2048 .bf16) (harg2 : arg2.IsWhole) (arg3 : Memref sig .tc .vmem S2048x2048 .bf16) (harg3 : arg3.IsWhole) (arg5 : Memref sig .tc .vmem S1x4x2048 .f32) (harg5 : arg5.IsWhole) (arg6 : Memref sig .tc .vmem S1x2048 .f32) (harg6 : arg6.IsWhole) (arg7 : Memref sig .tc .vmem S1024x2048 .f32) (harg7 : arg7.IsWhole)
    (h1 : ¬k0_cond1 i = 1#1) (h2 : k0_cond2 i = 1#1) (h3 : ¬k0_cond3 i = 1#1) (h4 : ¬k0_cond4 i = 1#1)
    (x0 : Vec F S1024x2048 .bf16) (x1 : Vec F S2048x2048 .bf16) (K : PUnit → sProp 𝕄) :
    iprop(owns (c : Thread nD τ) arg2 fullShare x0 ∗ owns (c : Thread nD τ) arg3 fullShare x1 ∗ (∃ d, owns (c : Thread nD τ) arg7 fullShare d)
        ∗ (iprop(owns (c : Thread nD τ) arg2 fullShare x0 ∗ owns (c : Thread nD τ) arg3 fullShare x1 ∗ owns (c : Thread nD τ) arg7 fullShare (k0_pay1 x0 x1)) -∗ K ⟨⟩))
      ⊢ wp frame (wpE (defs₀ (F := F)) Variants.none c none) Set.univ (cc0_ff2 i arg2 harg2 arg3 harg3 hbM (Memref.isWhole_whole _) arg5 harg5 arg6 harg6 arg7 harg7 scM (Memref.isWhole_whole _) cc0_scratch1) K := by
  simp only [cc0_ff2_eq_skeleton]; unfold cc0_ff2_skel
  unfold owns
  iintro ⟨⟨%f0, %hf0, H0⟩, ⟨%f1, %hf1, H1⟩, ⟨%d4, %f4, -, H4⟩, Hk⟩
  obtain rfl := harg2.eq_unread hf0; obtain rfl := harg3.eq_unread hf1
  sl_exec (disch := first | sl_exact h1 | sl_exact h2 | sl_exact h3 | sl_exact h4)
  sl_step
  iapply Hk
  isplitl [H0]
  · iexists _; isplitr; · ipureintro; exact harg2.read_unread _
    iexact H0
  isplitl [H1]
  · iexists _; isplitr; · ipureintro; exact harg3.read_unread _
    iexact H1
  iexists _; isplitr; swap; · iexact H4
  ipureintro
  rw [read_store hz]
  simp only [View.readAt_eq_ld, harg2.read_unread, harg3.read_unread, View.ld_unit_zero (S := S1024x2048) hz, View.ld_unit_zero (S := S2048x2048) hz]

/-- The second: the product is added to it. -/
theorem runB (c : Dev nD) (i : grid0.Coords) (arg2 : Memref sig .tc .vmem S1024x2048 .bf16) (harg2 : arg2.IsWhole) (arg3 : Memref sig .tc .vmem S2048x2048 .bf16) (harg3 : arg3.IsWhole) (arg5 : Memref sig .tc .vmem S1x4x2048 .f32) (harg5 : arg5.IsWhole) (arg6 : Memref sig .tc .vmem S1x2048 .f32) (harg6 : arg6.IsWhole) (arg7 : Memref sig .tc .vmem S1024x2048 .f32) (harg7 : arg7.IsWhole)
    (h1 : ¬k0_cond1 i = 1#1) (h2 : ¬k0_cond2 i = 1#1) (h3 : k0_cond3 i = 1#1) (h4 : ¬k0_cond4 i = 1#1)
    (x0 : Vec F S1024x2048 .bf16) (x1 : Vec F S2048x2048 .bf16) (x4 : Vec F S1024x2048 .f32) (K : PUnit → sProp 𝕄) :
    iprop(owns (c : Thread nD τ) arg2 fullShare x0 ∗ owns (c : Thread nD τ) arg3 fullShare x1 ∗ owns (c : Thread nD τ) arg7 fullShare x4
        ∗ (iprop(owns (c : Thread nD τ) arg2 fullShare x0 ∗ owns (c : Thread nD τ) arg3 fullShare x1 ∗ owns (c : Thread nD τ) arg7 fullShare (k0_pay2 x4 x0 x1)) -∗ K ⟨⟩))
      ⊢ wp frame (wpE (defs₀ (F := F)) Variants.none c none) Set.univ (cc0_ff2 i arg2 harg2 arg3 harg3 hbM (Memref.isWhole_whole _) arg5 harg5 arg6 harg6 arg7 harg7 scM (Memref.isWhole_whole _) cc0_scratch1) K := by
  simp only [cc0_ff2_eq_skeleton]; unfold cc0_ff2_skel
  unfold owns
  iintro ⟨⟨%f0, %hf0, H0⟩, ⟨%f1, %hf1, H1⟩, ⟨%f4, %hf4, H4⟩, Hk⟩
  obtain rfl := harg2.eq_unread hf0; obtain rfl := harg3.eq_unread hf1; obtain rfl := harg7.eq_unread hf4
  sl_exec (disch := first | sl_exact h1 | sl_exact h2 | sl_exact h3 | sl_exact h4)
  sl_step
  iapply Hk
  isplitl [H0]
  · iexists _; isplitr; · ipureintro; exact harg2.read_unread _
    iexact H0
  isplitl [H1]
  · iexists _; isplitr; · ipureintro; exact harg3.read_unread _
    iexact H1
  iexists _; isplitr; swap; · iexact H4
  ipureintro
  rw [read_store hz]
  simp only [View.readAt_eq_ld, harg2.read_unread, harg3.read_unread, harg7.read_unread, View.ld_unit_zero (S := S1024x2048) hz, View.ld_unit_zero (S := S2048x2048) hz]

/-- The residual's block at a point lies inside the array. -/
theorem off_in (i : grid0.Coords) : ∀ a, k0_off1 i a + S1024x2048.size a ≤ S8192x2048.size a := by
  have h0 : (i 0).val < 8 := (i 0).isLt
  intro a
  fin_cases a
  · show (BitVec.ofNat 32 (i 0).val * 1024#32).toNat + 1024 ≤ 8192
    simp only [BitVec.toNat_mul, BitVec.toNat_ofNat]
    omega
  · show 0 + 2048 ≤ 2048
    exact Nat.le_refl _

/-- The block of the residual a point's output rows add. -/
abbrev srcM (i : grid0.Coords) : Memref sig .tc .hbm S1024x2048 .f32 :=
  hbM.slice (Rect.unit (s := S8192x2048) (k0_off1 i) S1024x2048.size (off_in i)) (fun _ => rfl)

/-- The transfer in flight: at the wait it delivers the scratch with the residual's block, and the lent elements of the residual back. -/
def InFlight (c : Dev nD) (i : grid0.Coords) (fh : Buf (Elt F) (hbM.view.loc (c : Thread nD τ))) : sProp 𝕄 :=
  iprop(Transfers.Flight countersEmb (c : Thread nD τ) (SemLoc.dma 9) () 262144
      iprop(owns (c : Thread nD τ) scM fullShare ((srcM i).view.read (Elt F) fh)
        ∗ (hbM.view.loc (c : Thread nD τ) ↦[(srcM i).view.set]{fullShare} fh))
    ∗ (hbM.view.loc (c : Thread nD τ) ↦[Finset.univ \ (srcM i).view.set]{fullShare} fh))

/-- The third: the transfer is started, and the product added. -/
theorem runC (c : Dev nD) (i : grid0.Coords) (arg2 : Memref sig .tc .vmem S1024x2048 .bf16) (harg2 : arg2.IsWhole) (arg3 : Memref sig .tc .vmem S2048x2048 .bf16) (harg3 : arg3.IsWhole) (arg5 : Memref sig .tc .vmem S1x4x2048 .f32) (harg5 : arg5.IsWhole) (arg6 : Memref sig .tc .vmem S1x2048 .f32) (harg6 : arg6.IsWhole) (arg7 : Memref sig .tc .vmem S1024x2048 .f32) (harg7 : arg7.IsWhole)
    (h1 : k0_cond1 i = 1#1) (h2 : ¬k0_cond2 i = 1#1) (h3 : k0_cond3 i = 1#1) (h4 : ¬k0_cond4 i = 1#1)
    (x0 : Vec F S1024x2048 .bf16) (x1 : Vec F S2048x2048 .bf16) (x4 : Vec F S1024x2048 .f32) (fh : Buf (Elt F) (hbM.view.loc (c : Thread nD τ))) (K : PUnit → sProp 𝕄) :
    iprop(owns (c : Thread nD τ) arg2 fullShare x0 ∗ owns (c : Thread nD τ) arg3 fullShare x1 ∗ owns (c : Thread nD τ) arg7 fullShare x4
        ∗ (∃ d, owns (c : Thread nD τ) scM fullShare d) ∗ semVal ((c : Thread nD τ), SemLoc.dma 9) 0 ∗ hbPt c hbM fh
        ∗ (iprop(owns (c : Thread nD τ) arg2 fullShare x0 ∗ owns (c : Thread nD τ) arg3 fullShare x1 ∗ owns (c : Thread nD τ) arg7 fullShare (k0_pay2 x4 x0 x1) ∗ InFlight c i fh) -∗ K ⟨⟩))
      ⊢ wp frame (wpE (defs₀ (F := F)) Variants.none c none) Set.univ (cc0_ff2 i arg2 harg2 arg3 harg3 hbM (Memref.isWhole_whole _) arg5 harg5 arg6 harg6 arg7 harg7 scM (Memref.isWhole_whole _) cc0_scratch1) K := by
  simp only [cc0_ff2_eq_skeleton]; unfold cc0_ff2_skel
  unfold owns
  iintro ⟨⟨%f0, %hf0, H0⟩, ⟨%f1, %hf1, H1⟩, ⟨%f4, %hf4, H4⟩, ⟨%ds, %fs, -, HS⟩, Hq, Hh, Hk⟩
  obtain rfl := harg2.eq_unread hf0; obtain rfl := harg3.eq_unread hf1; obtain rfl := harg7.eq_unread hf4
  sl_exec (disch := first | sl_exact h1 | sl_exact h2 | sl_exact h3 | sl_exact h4)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; swap; · iexact H4
    ipureintro
    rw [read_store hz]
    simp only [View.readAt_eq_ld, harg2.read_unread, harg3.read_unread, harg7.read_unread, View.ld_unit_zero (S := S1024x2048) hz, View.ld_unit_zero (S := S2048x2048) hz]
  unfold InFlight owns
  isplitl [Hq]
  · iapply (Transfers.Flight_mono (EC := countersEmb) ?_) $$ Hq
    iintro ⟨HS, Hl⟩
    isplitl [HS]
    · iexists _; isplitr; swap; · iexact HS
      ipureintro; exact read_whole scM.view fs _
    iexact Hl
  iexact Hh

set_option maxHeartbeats 6400000 in
/-- The last: the transfer is waited for, and the block finished in eight stretches of rows; what the stores leave, as pieces, with the triple. -/
noncomputable def runD (c : Dev nD) (i : grid0.Coords) (arg2 : Memref sig .tc .vmem S1024x2048 .bf16) (harg2 : arg2.IsWhole) (arg3 : Memref sig .tc .vmem S2048x2048 .bf16) (harg3 : arg3.IsWhole) (arg5 : Memref sig .tc .vmem S1x4x2048 .f32) (harg5 : arg5.IsWhole) (arg6 : Memref sig .tc .vmem S1x2048 .f32) (harg6 : arg6.IsWhole) (arg7 : Memref sig .tc .vmem S1024x2048 .f32) (harg7 : arg7.IsWhole)
    (h1 : ¬k0_cond1 i = 1#1) (h2 : ¬k0_cond2 i = 1#1) (h3 : ¬k0_cond3 i = 1#1) (h4 : k0_cond4 i = 1#1)
    (x0 : Vec F S1024x2048 .bf16) (x1 : Vec F S2048x2048 .bf16) (x2 : Vec F S1x4x2048 .f32) (x3 : Vec F S1x2048 .f32) (x4 : Vec F S1024x2048 .f32) (xs : Vec F S1024x2048 .f32) :
    { L : List (View.Piece (Elt F) S1024x2048 .f32) //
      ∀ (I : Finset (Idx (hbM.view.loc (c : Thread nD τ)))) (fh : Buf (Elt F) (hbM.view.loc (c : Thread nD τ))) (W : Waits sig Unit) (K : PUnit → sProp 𝕄),
        iprop(owns (c : Thread nD τ) arg2 fullShare x0 ∗ owns (c : Thread nD τ) arg3 fullShare x1 ∗ owns (c : Thread nD τ) arg5 fullShare x2 ∗ owns (c : Thread nD τ) arg6 fullShare x3 ∗ owns (c : Thread nD τ) arg7 fullShare x4
            ∗ Transfers.Flight countersEmb (c : Thread nD τ) (SemLoc.dma 9) () 262144
                iprop(owns (c : Thread nD τ) scM fullShare xs ∗ (hbM.view.loc (c : Thread nD τ) ↦[I]{fullShare} fh))
            ∗ (hbM.view.loc (c : Thread nD τ) ↦[Finset.univ \ I]{fullShare} fh)
            ∗ owes (c : Thread nD τ) 0 W
            ∗ (iprop(owns (c : Thread nD τ) arg2 fullShare x0 ∗ owns (c : Thread nD τ) arg3 fullShare x1 ∗ owns (c : Thread nD τ) arg5 fullShare x2 ∗ owns (c : Thread nD τ) arg6 fullShare x3
                ∗ (∃ f, arg7.view.loc (c : Thread nD τ) ↦[arg7.view.set]{fullShare} arg7.view.writes (Elt F) f L)
                ∗ (∃ d, owns (c : Thread nD τ) scM fullShare d) ∗ semVal ((c : Thread nD τ), SemLoc.dma 9) 0 ∗ hbPt c hbM fh ∗ ∃ W', owes (c : Thread nD τ) 0 W') -∗ K ⟨⟩))
          ⊢ wp frame (wpE (defs₀ (F := F)) Variants.none c none) Set.univ (cc0_ff2 i arg2 harg2 arg3 harg3 hbM (Memref.isWhole_whole _) arg5 harg5 arg6 harg6 arg7 harg7 scM (Memref.isWhole_whole _) cc0_scratch1) K } := by
  refine ⟨?_, fun I fh W K => ?run⟩
  case run =>
    simp only [cc0_ff2_eq_skeleton]; unfold cc0_ff2_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, Hq, Hh, HO, Hk⟩
    obtain rfl := harg2.eq_unread hf0; obtain rfl := harg3.eq_unread hf1; obtain rfl := harg5.eq_unread hf2; obtain rfl := harg6.eq_unread hf3; obtain rfl := harg7.eq_unread hf4
    sl_exec (disch := first | sl_exact h1 | sl_exact h2 | sl_exact h3 | sl_exact h4)
    icases Hq_dst with ⟨%fs, %hfs, HS⟩
    obtain rfl := hsM.eq_unread hfs
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; iexact H4
    isplitl [HS]
    · iexists _, _; isplitr; swap; · iexact HS
      ipureintro; rfl
    isplitl [Hq]; · iexact Hq
    isplitl [Hh]; · iexact Hh
    iexists _; iexact HO

/-- The eight stores of the last point tile the block. -/
theorem coverD (c : Dev nD) (i : grid0.Coords) (arg2 : Memref sig .tc .vmem S1024x2048 .bf16) (harg2 : arg2.IsWhole) (arg3 : Memref sig .tc .vmem S2048x2048 .bf16) (harg3 : arg3.IsWhole) (arg5 : Memref sig .tc .vmem S1x4x2048 .f32) (harg5 : arg5.IsWhole) (arg6 : Memref sig .tc .vmem S1x2048 .f32) (harg6 : arg6.IsWhole) (arg7 : Memref sig .tc .vmem S1024x2048 .f32) (harg7 : arg7.IsWhole)
    (h1 : ¬k0_cond1 i = 1#1) (h2 : ¬k0_cond2 i = 1#1) (h3 : ¬k0_cond3 i = 1#1) (h4 : k0_cond4 i = 1#1)
    (x0 : Vec F S1024x2048 .bf16) (x1 : Vec F S2048x2048 .bf16) (x2 : Vec F S1x4x2048 .f32) (x3 : Vec F S1x2048 .f32) (x4 : Vec F S1024x2048 .f32) (xs : Vec F S1024x2048 .f32) (y : S1024x2048.Idx) :
    ∃ pc ∈ (runD c i arg2 harg2 arg3 harg3 arg5 harg5 arg6 harg6 arg7 harg7 h1 h2 h3 h4 x0 x1 x2 x3 x4 xs).1, y ∈ pc.1.set :=
  View.cover_of_tiledL (runD c i arg2 harg2 arg3 harg3 arg5 harg5 arg6 harg6 arg7 harg7 h1 h2 h3 h4 x0 x1 x2 x3 x4 xs).1 S128x2048.size (by sl_kernel_rfl) y

/-! ## What each point leaves in the output's block -/

theorem notStart {t : Fin cfg0.N} (h : t.val % 4 ≠ 2) : ¬k0_cond1 (grid0.coords t) = 1#1 := fun e => h ((start_iff t).mp e)
theorem notFirst {t : Fin cfg0.N} (h : t.val % 4 ≠ 0) : ¬k0_cond2 (grid0.coords t) = 1#1 := fun e => h ((first_iff t).mp e)
theorem notMiddle {t : Fin cfg0.N} (h : t.val % 4 = 0 ∨ t.val % 4 = 3) : ¬k0_cond3 (grid0.coords t) = 1#1 := fun e => by
  have := (middle_iff t).mp e
  omega
theorem notLast {t : Fin cfg0.N} (h : t.val % 4 ≠ 3) : ¬k0_cond4 (grid0.coords t) = 1#1 := fun e => h ((last_iff t).mp e)

/-- The output's block is stored at every point. -/
theorem live (i : grid0.Coords) : cfg0.idle 4 i = false := by
  have hi : (i 1).val < 4 := (i 1).isLt
  show (!(k0_cond2 i == 1#1) && !(k0_cond3 i == 1#1) && !(k0_cond4 i == 1#1)) = false
  simp only [k0_cond2, k0_cond3, k0_cond4]
  generalize (i 1).val = v at hi
  exact match v, hi with
    | 0, _ => rfl
    | 1, _ => rfl
    | 2, _ => rfl
    | 3, _ => rfl
    | n + 4, h => absurd h (by omega)

/-- The point before a point. -/
abbrev prev (t : Fin cfg0.N) : Fin cfg0.N := ⟨t.val - 1, Nat.lt_of_le_of_lt (Nat.sub_le _ _) t.isLt⟩

/-- What the last of the four points leaves, over what the point before left. -/
def lastOut (c : Dev nD) (t : Fin cfg0.N) (h : t.val % 4 = 3) (x4 : Vec F S1024x2048 .f32) : Vec F S1024x2048 .f32 :=
  View.canon (runD c (grid0.coords t) (ms0_0 t) (hs0_0 t) (ms0_1 t) (hs0_1 t) (ms0_2 t) (hs0_2 t) (ms0_3 t) (hs0_3 t) (ms0_4 t) (hs0_4 t)
    (notStart (by omega)) (notFirst (by omega)) (notMiddle (by omega)) ((last_iff t).mpr h)
    (iblk m c 0 t) (iblk m c 1 t) (iblk m c 2 t) (iblk m c 3 t) x4 ((srcM (grid0.coords (prev t))).view.read (Elt F) (V m c main_arg2))).1

/-- What the body leaves in the output's block after point `n`. -/
def outs (c : Dev nD) : (n : ℕ) → n < cfg0.N → Vec F S1024x2048 .f32
  | 0, hn => k0_pay1 (iblk m c 0 ⟨0, hn⟩) (iblk m c 1 ⟨0, hn⟩)
  | n + 1, hn =>
    if (n + 1) % 4 = 0 then k0_pay1 (iblk m c 0 ⟨n + 1, hn⟩) (iblk m c 1 ⟨n + 1, hn⟩)
    else if h : (n + 1) % 4 = 3 then lastOut m c ⟨n + 1, hn⟩ h (outs c n (Nat.lt_of_succ_lt hn))
    else k0_pay2 (outs c n (Nat.lt_of_succ_lt hn)) (iblk m c 0 ⟨n + 1, hn⟩) (iblk m c 1 ⟨n + 1, hn⟩)

theorem outs_first (c : Dev nD) (t : Fin cfg0.N) (h : t.val % 4 = 0) :
    outs m c t.val t.isLt = k0_pay1 (iblk m c 0 t) (iblk m c 1 t) := by
  obtain ⟨n, hn⟩ := t
  cases n with
  | zero => exact rfl
  | succ n => exact if_pos h

theorem outs_middle (c : Dev nD) (t : Fin cfg0.N) (h : t.val % 4 ≠ 0) (h' : t.val % 4 ≠ 3) :
    outs m c t.val t.isLt = k0_pay2 (outs m c (prev t).val (prev t).isLt) (iblk m c 0 t) (iblk m c 1 t) := by
  obtain ⟨n, hn⟩ := t
  cases n with
  | zero => exact absurd (Nat.zero_mod 4) h
  | succ n => exact (if_neg h).trans (dif_neg h')

theorem outs_last (c : Dev nD) (t : Fin cfg0.N) (h : t.val % 4 = 3) :
    outs m c t.val t.isLt = lastOut m c t h (outs m c (prev t).val (prev t).isLt) := by
  obtain ⟨n, hn⟩ := t
  cases n with
  | zero => exact absurd ((Nat.zero_mod 4).symm.trans h) (by decide)
  | succ n => exact (if_neg (fun e => absurd (e.symm.trans h) (by decide))).trans (dif_pos h)

/-! ## The kernel's own semaphore and the array it reads itself -/

abbrev osem0 : Fin 1 → SemLoc sig := fun j => (![SemLoc.dma 9] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 9) 0) := by
  rw [Pipeline.ownSems0_eq_of_list c osem0 [0] (by decide) (by decide)]; rfl
def H0 : Finset (Ref sig .tc) := {main_arg2}
theorem H0_sub : H0 ⊆ Pipeline.restRefs sig spec0 := by decide
theorem hbmPts0_eq (c : Dev nD) :
    (bigSep H0 (fun b => ((c : Thread nD τ).loc b) ↦{fullShare} V m c b) : sProp 𝕄) = iprop(hbPt c hbM (V m c main_arg2)) := by
  rw [BI.bigSep_eq_bigSepL_of_eq [main_arg2] (by decide) (by decide)]; rfl

/-- With no transfer in flight: the scratch at some contents, the generator register at some state, the cell at nought, the residual whole. -/
theorem PhiD0_eq (c : Dev nD) :
    (Pipeline.ΦD osem0 spec0 H0 (V m) c : sProp 𝕄)
      = iprop(iprop((∃ d, owns (c : Thread nD τ) scM fullShare d)) ∗ (∃ r, prngReg c r)
          ∗ iprop(semVal ((c : Thread nD τ), SemLoc.dma 9) 0)
          ∗ iprop(hbPt c hbM (V m c main_arg2))) := by
  rw [Pipeline.ΦD_eq, scopedRest0_eq, ownSems00_eq, hbmPts0_eq]; simp only [scM, owns_whole]; try rfl

theorem pred_lt {n : ℕ} (h : n % 4 = 3) (hn : n ≤ cfg0.N) : n - 1 < grid0.N :=
  Nat.lt_of_lt_of_le (by omega : n - 1 < n) hn

/-- What holds before point `n`: before the last of the four, the transfer in flight; otherwise everything at rest. -/
def Phi (c : Dev nD) (n : ℕ) (hn : n ≤ cfg0.N) : sProp 𝕄 :=
  if h : n % 4 = 3 then iprop((∃ r, prngReg c r) ∗ InFlight c (grid0.coords ⟨n - 1, pred_lt h hn⟩) (V m c main_arg2))
  else Pipeline.ΦD osem0 spec0 H0 (V m) c

theorem Phi_rest (c : Dev nD) (n : ℕ) (hn : n ≤ cfg0.N) (h : n % 4 ≠ 3) : Phi m c n hn = Pipeline.ΦD osem0 spec0 H0 (V m) c := dif_neg h
theorem Phi_flight (c : Dev nD) (n : ℕ) (hn : n ≤ cfg0.N) (h : n % 4 = 3) :
    Phi m c n hn = iprop((∃ r, prngReg c r) ∗ InFlight c (grid0.coords ⟨n - 1, pred_lt h hn⟩) (V m c main_arg2)) := dif_pos h

/-! ## The proof data and the body obligation -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outs m c t.val t.isLt
  Φ t := Phi m c t.val (Nat.le_of_lt_succ t.isLt)
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outs m c t.val t.isLt := by dsimp only [dats]

/-- An input the body leaves in place is its block of the array. -/
theorem keep_in (c : Dev nD) (w : Fin cfg0.W) (t : Fin cfg0.N) : (dats m 0 c).blockOf w t = iblk m c w t := by
  unfold Dat.blockOf iblk
  rw [A_eq m c w]

/-- Each input's staging buffer holds its block at every point. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0, keep_in]) t d).trans
    (by unfold Dat.fetched; rw [keep_in]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1, keep_in]) t d).trans
    (by unfold Dat.fetched; rw [keep_in]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2, keep_in]) t d).trans
    (by unfold Dat.fetched; rw [keep_in]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3, keep_in]) t d).trans
    (by unfold Dat.fetched; rw [keep_in]; try rfl)
/-- The output's holds, at a point that is not the first of its four, what the point before left. -/
theorem before0_4 (c : Dev nD) (t : Fin cfg0.N) (h : t.val % 4 ≠ 0) (d) :
    (dats m 0 c).before 4 t d = outs m c (prev t).val (prev t).isLt := by
  rw [(dats m 0 c).before_out_kept 4 rfl t (fun e => h (by rw [e])) (by
      rw [← Bool.not_eq_true]
      intro e
      have e' := (flush0_4 _).mp e
      dsimp only at e'
      omega) live (fun _ _ => rfl) d, after0_4]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 3200000 in
/-- The body at any point, by which of its four it is. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4,
    show (dats m 0 c).Φ t.castSucc = Phi m c t.val (Nat.le_of_lt t.isLt) from rfl,
    show (dats m 0 c).Φ t.succ = Phi m c (t.val + 1) t.isLt from rfl]
  by_cases h0 : t.val % 4 = 0
  · rw [Phi_rest m c t.val _ (by omega), Phi_rest m c (t.val + 1) _ (by omega), outs_first m c t h0]
    iintro ⟨HΦ, Ho, ⟨%d0, H0⟩, ⟨%d1, H1⟩, ⟨%d2, H2⟩, ⟨%d3, H3⟩, ⟨%d4, H4⟩⟩
    iapply (runA c (grid0.coords t) _ _ _ _ _ _ _ _ _ _ (notStart (by omega)) ((first_iff t).mpr h0) (notMiddle (.inl h0)) (notLast (by omega)) (iblk m c 0 t) (iblk m c 1 t) _)
    isplitl [H0]; · iexact H0
    isplitl [H1]; · iexact H1
    isplitl [H4]; · iexists _; iexact H4
    iintro ⟨H0, H1, H4⟩
    isplitl [HΦ]; · iexact HΦ
    isplitl [Ho]; · iexact Ho
    isplitl [H0]; · iexact H0
    isplitl [H1]; · iexact H1
    isplitl [H2]; · iexact H2
    isplitl [H3]; · iexact H3
    iexact H4
  · simp only [before0_4 m c t h0]
    by_cases h1 : t.val % 4 = 3
    · rw [Phi_flight m c t.val _ h1, Phi_rest m c (t.val + 1) _ (by omega), outs_last m c t h1, PhiD0_eq]
      unfold lastOut InFlight Dat.owesAt Pipeline.owesWithin
      rw [show (dats m 0 c).owed t.castSucc = 0 from rfl]
      iintro ⟨⟨Hg, Hq, Hh⟩, ⟨%W, %hW, HO⟩, ⟨%d0, H0⟩, ⟨%d1, H1⟩, ⟨%d2, H2⟩, ⟨%d3, H3⟩, ⟨%d4, H4⟩⟩
      iapply ((runD c (grid0.coords t) _ _ _ _ _ _ _ _ _ _ (notStart (by omega)) (notFirst (by omega)) (notMiddle (.inr h1)) ((last_iff t).mpr h1) (iblk m c 0 t) (iblk m c 1 t) (iblk m c 2 t) (iblk m c 3 t) _ _).2 _ (V m c main_arg2) W _)
      isplitl [H0]; · iexact H0
      isplitl [H1]; · iexact H1
      isplitl [H2]; · iexact H2
      isplitl [H3]; · iexact H3
      isplitl [H4]; · iexact H4
      isplitl [Hq]; · iexact Hq
      isplitl [Hh]; · iexact Hh
      isplitl [HO]; · iexact HO
      iintro ⟨H0, H1, H2, H3, ⟨%e4, H4⟩, HS, Hq, Hh, ⟨%W', HO⟩⟩
      isplitl [HS Hg Hq Hh]
      · isplitl [HS]; · iexact HS
        isplitl [Hg]; · iexact Hg
        isplitl [Hq]; · iexact Hq
        iexact Hh
      isplitl [HO]
      · iexists W'; isplitr; · ipureintro; exact fun _ _ => Or.inl trivial
        iexact HO
      isplitl [H0]; · iexact H0
      isplitl [H1]; · iexact H1
      isplitl [H2]; · iexact H2
      isplitl [H3]; · iexact H3
      unfold owns; iexists _; isplitr
      swap; · iexact H4
      ipureintro; exact View.read_writes_eq_canon _ _ _ (coverD c _ _ _ _ _ _ _ _ _ _ _ _ _ _ _ _ _ _ _ _ _)
    · rw [outs_middle m c t h0 h1]
      by_cases h2 : t.val % 4 = 2
      · rw [Phi_rest m c t.val _ h1, Phi_flight m c (t.val + 1) _ (by omega), PhiD0_eq]
        iintro ⟨⟨HS, Hg, Hq, Hh⟩, Ho, ⟨%d0, H0⟩, ⟨%d1, H1⟩, ⟨%d2, H2⟩, ⟨%d3, H3⟩, ⟨%d4, H4⟩⟩
        iapply (runC c (grid0.coords t) _ _ _ _ _ _ _ _ _ _ ((start_iff t).mpr h2) (notFirst h0) ((middle_iff t).mpr (.inr h2)) (notLast h1) (iblk m c 0 t) (iblk m c 1 t) (outs m c (prev t).val (prev t).isLt) (V m c main_arg2) _)
        isplitl [H0]; · iexact H0
        isplitl [H1]; · iexact H1
        isplitl [H4]; · iexact H4
        isplitl [HS]; · iexact HS
        isplitl [Hq]; · iexact Hq
        isplitl [Hh]; · iexact Hh
        iintro ⟨H0, H1, H4, HF⟩
        isplitl [Hg HF]
        · isplitl [Hg]; · iexact Hg
          iexact HF
        isplitl [Ho]; · iexact Ho
        isplitl [H0]; · iexact H0
        isplitl [H1]; · iexact H1
        isplitl [H2]; · iexact H2
        isplitl [H3]; · iexact H3
        iexact H4
      · rw [Phi_rest m c t.val _ h1, Phi_rest m c (t.val + 1) _ (by omega)]
        iintro ⟨HΦ, Ho, ⟨%d0, H0⟩, ⟨%d1, H1⟩, ⟨%d2, H2⟩, ⟨%d3, H3⟩, ⟨%d4, H4⟩⟩
        iapply (runB c (grid0.coords t) _ _ _ _ _ _ _ _ _ _ (notStart h2) (notFirst h0) ((middle_iff t).mpr (.inl (by omega))) (notLast h1) (iblk m c 0 t) (iblk m c 1 t) (outs m c (prev t).val (prev t).isLt) _)
        isplitl [H0]; · iexact H0
        isplitl [H1]; · iexact H1
        isplitl [H4]; · iexact H4
        iintro ⟨H0, H1, H4⟩
        isplitl [HΦ]; · iexact HΦ
        isplitl [Ho]; · iexact Ho
        isplitl [H0]; · iexact H0
        isplitl [H1]; · iexact H1
        isplitl [H2]; · iexact H2
        isplitl [H3]; · iexact H3
        iexact H4

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  simp only [show idle0 4 (grid0.coords t) = false from live _]
  exact .rfl

/-! ## The launch and the frame -/

theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem hin (c : Dev nD) : Pipeline.ΦD osem0 spec0 H0 (V m) c ⊢ (dats m 0 c).Φ 0 := by
  rw [show (dats m 0 c).Φ 0 = Phi m c 0 (Nat.zero_le _) from rfl, Phi_rest m c 0 _ (by decide)]
theorem hout (c : Dev nD) : (dats m 0 c).Φ (Fin.last cfg0.N) ⊢ Pipeline.ΦD osem0 spec0 H0 (V m) c := by
  rw [show (dats m 0 c).Φ (Fin.last cfg0.N) = Phi m c cfg0.N (Nat.le_refl _) from rfl, Phi_rest m c cfg0.N _ (by decide)]

set_option backward.isDefEq.respectTransparency.types false in
/-- The run: every array at what the proof data say, every other buffer as it was, every counter at nought. -/
theorem run_main :
    θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmainD m Variants.none) (hA := A_eq m) (hin := hin m) (hout := hout m)

/-- The same, with the arguments as they were. -/
theorem run_both : θ_run defs (onTc (τ := τ) (main (F := F))) ⟨m, fun _ => 0, ρ⟩ (fun r => (Pipeline.FramePost cfgs (dats m) 0 (V m) r ∧ r.2.sem = fun _ => 0) ∧ (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨h, fun c => ⟨((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).2 main_arg2 (Pipeline.mem_restRefs_of main_arg2 (by decide) (by decide))).trans (V_main_arg2 m c),
      ((h.1 c).1 2).trans (((dats m 0 c).arrAt_in 2 rfl _).trans ((A_eq m c 2).trans (V_main_arg3 m c))),
      ((h.1 c).2 main_arg4 (Pipeline.mem_restRefs_of main_arg4 (by decide) (by decide))).trans (V_main_arg4 m c)⟩, h.2⟩) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => h.2) (run_both m ρ)

end Cert.Kernel3Ideal.Ff2

end
-- ==== Proof.Ff2Bits.lean ====
/-
  The frame of the second feed-forward call at the stated formats: the program printed for the ideal reals is the same
  program, written over any formats, so its frame serves here too.
-/
module

public import proofs.«01_k».proof.Proof.Ff2Body
public import proofs.«01_k».proof.Proof.Gen.Kernel3.Frame

@[expose] public section

noncomputable section

namespace Cert.Kernel3.Ff2

open Cert.Kernel3 Cert.Kernel3.Gen
open Idealize.ShloMosaic Idealize.ShloMosaic.TcCoe Idealize.ShloMosaic.Tactic
open Idealize.SL Idealize.SL.Sem

variable {F : FTy → Type} [FloatOps F]
variable (m : (ℓ : Loc nD τ sig) → Buf (Elt F) ℓ) (ρ : Dev nD → PrngReg)

/-- The two body tables run the same body at their one label. -/
theorem defs_eq : Cert.Kernel3.defs (F := F) = Cert.Kernel3Ideal.defs (F := F) := by
  have e : Cert.Kernel3.defs₀ (F := F) = Cert.Kernel3Ideal.defs₀ (F := F) :=
    congrArg Defs.onTc (funext fun l => match l with
      | 0 => rfl
      | ⟨_ + 1, h⟩ => absurd h (Nat.not_lt.2 (Nat.le_add_left _ _)))
  exact congrArg (Pipeline.defs Cert.Kernel3.pcfgs) e

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  rw [defs_eq]
  exact Cert.Kernel3Ideal.Ff2.frame m ρ

end Cert.Kernel3.Ff2
-- ==== Proof.SguBlock.lean ====
/-
  The spatial gating call, one grid point: what the body's 64 stores leave in the output block, read at an index.
-/
module

public import proofs.«01_k».proof.Proof.Gen.KernelIdeal.Value
public import Idealize.ShloMosaic.Lib.Pointwise
public import Idealize.ShloMosaic.Lib.Pipeline.Value

@[expose] public section

noncomputable section

open Idealize.ShloMosaic Idealize.ShloMosaic.TcCoe Idealize.SL.Sem

namespace Cert.KernelIdeal.Sgu

open Cert.KernelIdeal Cert.KernelIdeal.Gen

/-- The gate of one block: the gated half times the mixed, normalized half `Y` plus the bias. Row `i 0` of the
    block is position `i 0 % 128` of its chunk of 128 rows, and column `i 1` belongs to channel group `i 1 / 128`. -/
def gate (u Y : FVec Ideal S1024x1024 .bf16) (w : FVec Ideal S8x128x128 .f32) (b : FVec Ideal S128x1024 .f32) :
    FVec Ideal S1024x1024 .bf16 := fun i =>
  have h0 : (i 0).val < 1024 := (i 0).isLt
  have h1 : (i 1).val < 1024 := (i 1).isLt
  u i * ((∑ k : Fin 128, w (ix3 ⟨(i 1).val / 128, by omega⟩ ⟨(i 0).val % 128, by omega⟩ k)
            * Y (ix2 ⟨(i 0).val / 128 * 128 + k.val, by omega⟩ (i 1)))
          + b (ix2 ⟨(i 0).val % 128, by omega⟩ (i 1)))

/-- One store of the body: a 128 by 128 tile at row `o0`, column `o1`, of channel group `g`. -/
def tile (Y : FVec Ideal S1024x1024 .bf16) (w : Vec Ideal S1x128x128 .f32) (b : Vec Ideal S128x128 .f32)
    (u : Vec Ideal S128x128 .bf16) (o0 o1 : Nat) (h : S1024x1024.Slices ![o0, o1] S128x128) : FVec Ideal S128x128 .bf16 :=
  truncf .bf16 (mulf (extf .f32 u bitsLt_bf16_f32)
    (addf (matmul dot_S128x128_S128x128_S128x128_1_0_0_1_n_n none
        (truncf .bf16 (shapeCast S128x128 w shapeCasts_S1x128x128_S128x128) bitsLt_bf16_f32)
        (extractStridedSlice S128x128 ![o0, o1] Y h) (constant S128x128 .f32 0x00000000#32))
      (shapeCast S128x128 b shapeCasts_S128x128_S128x128))) bitsLt_bf16_f32

/-- A tile is the gate at the tile's place in the block. -/
theorem tile_eq (u Y : FVec Ideal S1024x1024 .bf16) (w : FVec Ideal S8x128x128 .f32) (b : FVec Ideal S128x1024 .f32)
    (o0 o1 g : Nat) (h0 : o0 % 128 = 0) (h1 : o1 = 128 * g) (hs : S1024x1024.Slices ![o0, o1] S128x128)
    (iw : ∀ a, (![g, 0, 0] : Fin 3 → Nat) a + S1x128x128.size a ≤ S8x128x128.size a)
    (ib : ∀ a, (![0, o1] : Fin 2 → Nat) a + S128x128.size a ≤ S128x1024.size a)
    (iu : ∀ a, (![o0, o1] : Fin 2 → Nat) a + S128x128.size a ≤ S1024x1024.size a) (x : S128x128.Idx) :
    tile Y (View.ld w (Rect.unit (s := S8x128x128) ![g, 0, 0] S1x128x128.size iw))
      (View.ld b (Rect.unit (s := S128x1024) ![0, o1] S128x128.size ib))
      (View.ld u (Rect.unit (s := S1024x1024) ![o0, o1] S128x128.size iu)) o0 o1 hs x
      = gate u Y w b ((Rect.unit (s := S1024x1024) ![o0, o1] S128x128.size iu).emb x) := by
  have e0 : o0 + 128 ≤ 1024 := iu 0
  have e1 : o1 + 128 ≤ 1024 := iu 1
  have hx0 : (x 0).val < 128 := (x 0).isLt
  have hx1 : (x 1).val < 128 := (x 1).isLt
  have he : (Rect.unit (s := S1024x1024) ![o0, o1] S128x128.size iu).emb x
      = ix2 ⟨o0 + (x 0).val, by omega⟩ ⟨o1 + (x 1).val, by omega⟩ := by
    funext a
    match a with
    | ⟨0, _⟩ => exact Fin.ext (by show o0 + 1 * (x 0).val = _; rw [Nat.one_mul]; rfl)
    | ⟨1, _⟩ => exact Fin.ext (by show o1 + 1 * (x 1).val = _; rw [Nat.one_mul]; rfl)
  rw [he]
  unfold tile gate
  pointwise
  have q0 : (o0 + (x 0).val) % 128 = (x 0).val := by omega
  have q0' : (o0 + (x 0).val) / 128 * 128 = o0 := by omega
  have q1 : (o1 + (x 1).val) / 128 = g := by omega
  simp only [q0, q0', q1]
  rfl

/-- The block after the body: its 64 stores are the tiles of the gate, with the normalized half as the body binds it. -/
theorem out_apply (x0 x1 : FVec Ideal S1024x1024 .bf16) (x2 : FVec Ideal S1x1024 .f32) (x3 : FVec Ideal S8x128x128 .f32)
    (x4 : FVec Ideal S128x1024 .f32) (i : S1024x1024.Idx) :
    out0_5 (F := Ideal) x0 x1 x2 x3 x4 i = gate x0 (k0_pay79 (F := Ideal) x0 x1 x2 x3 x4) x3 x4 i := by
  unfold out0_5
  refine View.canon_apply_of_pieces (Val := Elt Ideal) (e := .bf16) (gate x0 (k0_pay79 (F := Ideal) x0 x1 x2 x3 x4) x3 x4) _ ?_ i (cover0_5 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ i)
  iterate 64 refine List.forall_mem_cons.mpr ⟨fun x => tile_eq x0 _ x3 x4 _ _ _ (by rfl) (by rfl) _ _ _ _ x, ?_⟩
  exact fun p hp => absurd hp List.not_mem_nil

/-- A row less its mean, over the root of its variance plus the small constant, scaled: entry `c`. -/
def layerNorm (f g : Fin 1024 → EReal) (c : Fin 1024) : EReal :=
  (f c - Ideal.div (∑ k, f k) (Ideal.ofBits .f32 0x44800000#32))
    * Ideal.rsqrt (Ideal.div (∑ k, (f k - Ideal.div (∑ k, f k) (Ideal.ofBits .f32 0x44800000#32))
        * (f k - Ideal.div (∑ k, f k) (Ideal.ofBits .f32 0x44800000#32))) (Ideal.ofBits .f32 0x44800000#32)
      + Ideal.ofBits .f32 0x358637BD#32)
    * g c

/-- The normalized half as the body computes it: every row of the block normalized and scaled. -/
theorem norm_apply (v : FVec Ideal S1024x1024 .bf16) (g : FVec Ideal S1x1024 .f32) (r c : Fin 1024) :
    k0_pay2 (F := Ideal) v g (ix2 r c) = layerNorm (fun k => v (ix2 r k)) (fun k => g (ix2 0 k)) c := by
  unfold layerNorm
  pointwise [k0_pay2]

/-- The same value under the name the frame gives it, over the blocks as staged. -/
theorem half_apply (x0 x1 : FVec Ideal S1024x1024 .bf16) (x2 : FVec Ideal S1x1024 .f32) (x3 : FVec Ideal S8x128x128 .f32)
    (x4 : FVec Ideal S128x1024 .f32) (r c : Fin 1024) :
    k0_pay79 (F := Ideal) x0 x1 x2 x3 x4 (ix2 r c)
      = layerNorm (fun k => x1 (ix2 r k)) (fun k => x2 (ix2 0 k)) c := by
  have hz : (![0, 0] : Fin 2 → Nat) = fun _ => 0 := funext fun a => by fin_cases a <;> rfl
  unfold k0_pay79
  rw [norm_apply, View.ld_unit_zero hz, View.ld_unit_zero hz]

end Cert.KernelIdeal.Sgu

end
-- ==== Proof.SguRef.lean ====
/-
  The spatial gating reference read at an index.
-/
module

public import proofs.«01_k».proof.Proof.SguBlock
public import proofs.«01_k».proof.Proof.Gen.ReferenceIdeal.Read

@[expose] public section

noncomputable section

open Idealize.ShloMosaic Idealize.ShloMosaic.TcCoe Idealize.SL.Sem

namespace Cert.Sgu

open Cert.ReferenceIdeal Cert.ReferenceIdeal.Read

/-- The layer's spatial gating at row `r`, column `c`: the first half times the mixed, normalized second half of the
    chunk of 128 rows that `r` lies in, plus the bias of channel group `c / 128` at the row's place in its chunk. -/
def spec (z : FVec Ideal S8192x2048 .bf16) (g : FVec Ideal S1x1024 .f32) (w : FVec Ideal S1x8x128x128 .f32)
    (b : FVec Ideal S1x8x128 .f32) (r : Fin 8192) (c : Fin 1024) : EReal :=
  z (ix2 r ⟨c.val, by omega⟩) * ((∑ k : Fin 128, w (ix4 0 ⟨c.val / 128, by omega⟩ ⟨r.val % 128, by omega⟩ k)
      * KernelIdeal.Sgu.layerNorm (fun j => z (ix2 ⟨r.val / 128 * 128 + k.val, by omega⟩ ⟨1024 + j.val, by omega⟩))
          (fun j => g (ix2 0 j)) c)
    + b (ix3 0 ⟨c.val / 128, by omega⟩ ⟨r.val % 128, by omega⟩))

/-- The reference's normalized half: row `r`, column `c` of the array seen as two sequences of 4096 rows. -/
theorem ref_half (z : FVec Ideal S8192x2048 .bf16) (g : FVec Ideal S1x1024 .f32) (a : Fin 2) (r : Fin 4096) (c : Fin 1024) :
    val_main_v23 (F := Ideal) z g (ix3 a r c)
      = KernelIdeal.Sgu.layerNorm (fun j => z (ix2 ⟨a.val * 4096 + r.val, by omega⟩ ⟨1024 + j.val, by omega⟩))
          (fun j => g (ix2 0 j)) c := by
  unfold KernelIdeal.Sgu.layerNorm
  pointwise [val_main_v23, val_main_v22, val_main_v21, val_main_v20, val_main_v19, val_main_v18, val_main_v17, val_main_v16,
    val_main_v15, val_main_v14, val_main_v13, val_main_v12, val_main_v11, val_main_v10, val_main_v9, val_main_v8, val_main_v7,
    val_main_v6, val_main_v5, val_main_v4, val_main_v3, val_main_v1, val_main_v0, val_main_cst, val_main_cst_0, val_main_cst_1,
    val_main_cst_2, val_main_cst_3]

/-- The reference's result is the layer's spatial gating. -/
theorem ref_apply (z : FVec Ideal S8192x2048 .bf16) (g : FVec Ideal S1x1024 .f32) (w : FVec Ideal S1x8x128x128 .f32)
    (b : FVec Ideal S1x8x128 .f32) (r : Fin 8192) (c : Fin 1024) :
    val_main_v36 (F := Ideal) z g w b (ix2 r c) = spec z g w b r c := by
  pointwise [val_main_v36, val_main_v35, val_main_v34, val_main_v33, val_main_v32, val_main_v31, val_main_v30, val_main_v29,
    val_main_v28, val_main_v27, val_main_v26, val_main_v25, val_main_v24, val_main_v2, val_main_v1, val_main_v0]
  have q : r.val % 4096 % 128 = r.val % 128 := by omega
  have q' : ∀ k : Fin 128, r.val / 4096 * 4096 + (r.val % 4096 / 128 * 128 + k.val) = r.val / 128 * 128 + k.val := by omega
  unfold spec
  simp only [ref_half, q, q']
  congr 2
  exact Finset.sum_congr rfl fun k _ => mul_comm _ _

end Cert.Sgu

end
-- ==== Proof.SguArray.lean ====
/-
  The spatial gating call: its result array, read at an index, from the argument arrays.
-/
module

public import proofs.«01_k».proof.Proof.SguRef
public import Idealize.ShloMosaic.Lib.Pipeline.ValueKit
public import Idealize.ShloMosaic.Lib.StableHlo.ReadAt

@[expose] public section

noncomputable section

open Idealize.ShloMosaic Idealize.ShloMosaic.TcCoe Idealize.SL.Sem

namespace Cert.KernelIdeal.Sgu

open Cert.KernelIdeal Cert.KernelIdeal.Gen

variable (m : (ℓ : Loc nD τ sig) → Buf (Elt Ideal) ℓ) (c : Dev nD)

theorem e0 : ∀ t : Fin cfg0.N, win0_0.index t = ![t.val, 0] := by decide +kernel
theorem e1 : ∀ t : Fin cfg0.N, win0_1.index t = ![t.val, 1] := by decide +kernel
theorem e2 : ∀ t : Fin cfg0.N, win0_2.index t = ![0, 0] := by decide +kernel
theorem e3 : ∀ t : Fin cfg0.N, win0_3.index t = ![0, 0, 0] := by decide +kernel
theorem e4 : ∀ t : Fin cfg0.N, win0_4.index t = ![0, 0] := by decide +kernel
theorem e5 : ∀ t : Fin cfg0.N, win0_5.index t = ![t.val, 0] := by decide +kernel

theorem congr_sum (u b : EReal) {s s' : EReal} (h : s = s') : u * (s + b) = u * (s' + b) := by rw [h]

theorem congr_mul (u : EReal) {s s' : EReal} (h : s = s') : u * s = u * s' := by rw [h]

theorem gate_apply (u Y : FVec Ideal S1024x1024 .bf16) (w : FVec Ideal S8x128x128 .f32) (b : FVec Ideal S128x1024 .f32)
    (r k : Fin 1024) : gate u Y w b (ix2 r k)
      = u (ix2 r k) * ((∑ j : Fin 128, w (ix3 ⟨k.val / 128, by omega⟩ ⟨r.val % 128, by omega⟩ j)
          * Y (ix2 ⟨r.val / 128 * 128 + j.val, by omega⟩ k)) + b (ix2 ⟨r.val % 128, by omega⟩ k)) := rfl

/-- The bias as the host lays it out: the channel group's row, repeated over the group's 128 columns. -/
theorem V_bias (r : Fin 128) (k : Fin 1024) : V m c main_v3 (ix2 r k)
    = m ((c : Thread nD τ).loc main_arg3) (ix3 0 ⟨k.val / 128, by omega⟩ r) := by
  unfold V
  after_reads_at

theorem V_mix (g : Fin 8) (r k : Fin 128) : V m c main_v5 (ix3 g r k)
    = m ((c : Thread nD τ).loc main_arg2) (ix4 0 g r k) := by
  unfold V
  after_reads_at

theorem V_scale (a : Fin 1) (k : Fin 1024) : V m c main_v6 (ix2 a k)
    = m ((c : Thread nD τ).loc main_arg1) (ix2 0 k) := by
  unfold V
  after_reads_at

theorem u_apply (t : Fin cfg0.N) (r k : Fin 1024) (h : t.val * 1024 + r.val < 8192) : iblk m c 0 t (ix2 r k)
    = m ((c : Thread nD τ).loc main_arg0) (ix2 ⟨t.val * 1024 + r.val, h⟩ ⟨k.val, by omega⟩) := by
  rw [← V_main_arg0 m c]
  blk_ext [iblk, e0]

theorem v_apply (t : Fin cfg0.N) (r k : Fin 1024) (h : t.val * 1024 + r.val < 8192) : iblk m c 1 t (ix2 r k)
    = m ((c : Thread nD τ).loc main_arg0) (ix2 ⟨t.val * 1024 + r.val, h⟩ ⟨1024 + k.val, by omega⟩) := by
  rw [← V_main_arg0 m c]
  blk_ext [iblk, e1]

theorem g_apply (t : Fin cfg0.N) (k : Fin 1024) : iblk m c 2 t (ix2 0 k) = m ((c : Thread nD τ).loc main_arg1) (ix2 0 k) := by
  rw [← V_scale m c 0]
  blk_ext [iblk, e2]

theorem w_apply (t : Fin cfg0.N) (g : Fin 8) (r k : Fin 128) :
    iblk m c 3 t (ix3 g r k) = m ((c : Thread nD τ).loc main_arg2) (ix4 0 g r k) := by
  rw [← V_mix m c]
  blk_ext [iblk, e3]

theorem b_apply (t : Fin cfg0.N) (r : Fin 128) (k : Fin 1024) :
    iblk m c 4 t (ix2 r k) = m ((c : Thread nD τ).loc main_arg3) (ix3 0 ⟨k.val / 128, by omega⟩ r) := by
  rw [← V_bias m c]
  blk_ext [iblk, e4]

theorem final : (dats m 0 c).arrAt 5 cfg0.N = fun i => Cert.Sgu.spec (m ((c : Thread nD τ).loc main_arg0))
    (m ((c : Thread nD τ).loc main_arg1)) (m ((c : Thread nD τ).loc main_arg2)) (m ((c : Thread nD τ).loc main_arg3))
    (i 0) (i 1) := by
  refine (dats m 0 c).arrAt_eq_of_covers 5 _ (by decide +kernel) fun t hf y => ?_
  have ht : t.val < 8 := t.isLt
  obtain ⟨r, k, rfl⟩ : ∃ (r k : Fin 1024), y = ix2 r k := ⟨y 0, y 1, eq_ix2 _⟩
  have h0 : (win0_5.blk t).view.emb (ix2 r k) 0 = (⟨t.val * 1024 + r.val, by omega⟩ : Fin 8192) := by
    apply Fin.ext; blk_simp [e5]
  have h1 : (win0_5.blk t).view.emb (ix2 r k) 1 = k := by
    apply Fin.ext; blk_simp [e5]
  blk_simp
  rw [after0_5, out_apply, h0, h1, gate_apply, u_apply m c t r k (by omega), b_apply]
  unfold Cert.Sgu.spec
  have q : (t.val * 1024 + r.val) % 128 = r.val % 128 := by omega
  have q' : ∀ k : Fin 128, (t.val * 1024 + r.val) / 128 * 128 + k.val = t.val * 1024 + (r.val / 128 * 128 + k.val) := by omega
  simp only [q, q']
  refine congr_sum _ _ (Finset.sum_congr rfl fun k _ => ?_)
  rw [w_apply, half_apply]
  simp only [g_apply]
  refine congr_mul _ (congrArg (layerNorm · _ _) (funext fun j => ?_))
  exact v_apply m c t _ j (by show t.val * 1024 + (r.val / 128 * 128 + _) < 8192; omega)

end Cert.KernelIdeal.Sgu

end
-- ==== Proof.SguClaim.lean ====
/-
  The spatial gating call computes its reference: both runs end at the layer's spatial gating of the arguments.
-/
module

public import proofs.«01_k».proof.Proof.SguArray
public import proofs.«01_k».proof.Defs

@[expose] public section

noncomputable section

open Idealize.ShloMosaic Idealize.ShloMosaic.TcCoe Idealize.SL.Sem

namespace Cert.Sgu

theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c i => spec (m ((c.tc : Thread _ _).loc Cert.KernelIdeal.main_arg0)) (m ((c.tc : Thread _ _).loc Cert.KernelIdeal.main_arg1))
    (m ((c.tc : Thread _ _).loc Cert.KernelIdeal.main_arg2)) (m ((c.tc : Thread _ _).loc Cert.KernelIdeal.main_arg3)) (i 0) (i 1), ?_, ?_⟩
  · exact (θ_run _ _ _).mono (fun _ h c => ⟨(h c).1.trans (Cert.KernelIdeal.Sgu.final m c), (h c).2⟩)
      (Cert.KernelIdeal.Value.run_blocks m g)
  · refine (θ_run _ _ _).mono (fun _ h c => ⟨(h c).1.trans ?_, (h c).2⟩) (Cert.ReferenceIdeal.Value.run m' g')
    refine (Cert.ReferenceIdeal.Read.val_main_v36_eq _ _ _ _).trans ?_
    rw [(hagree c).1, (hagree c).2.1, (hagree c).2.2.1, (hagree c).2.2.2]
    funext i
    obtain ⟨r, k, rfl⟩ : ∃ (r : Fin 8192) (k : Fin 1024), i = ix2 r k := ⟨i 0, i 1, eq_ix2 _⟩
    exact ref_apply _ _ _ _ r k

end Cert.Sgu

end
-- ==== Proof.Ff1Block.lean ====
/-
  The feed-forward part's first product, one grid point: what the body leaves in its output blocks and in its scratch.
-/
module

public import proofs.«01_k».proof.Proof.Gen.Kernel2Ideal.Value
public import Idealize.ShloMosaic.Lib.Pointwise
public import Idealize.ShloMosaic.Lib.Pipeline.Value

@[expose] public section

noncomputable section

open Idealize.ShloMosaic Idealize.ShloMosaic.TcCoe Idealize.SL.Sem

namespace Cert.Kernel2Ideal.Ff1

open Cert.Kernel2Ideal Cert.Kernel2Ideal.Gen

theorem hz : (![0, 0] : Fin 2 → Nat) = fun _ => 0 := funext fun a => by fin_cases a <;> rfl

/-- The square of the positive part. -/
def sq (s : EReal) : EReal := max s (Ideal.ofBits .f32 0x00000000#32) * max s (Ideal.ofBits .f32 0x00000000#32)

/-- The block's values: the squared positive part of the rows of `a` times the columns of `w`. -/
def prod (a : FVec Ideal S2048x2048 .bf16) (w : FVec Ideal S2048x1024 .bf16) : FVec Ideal S2048x1024 .bf16 := fun i =>
  sq (∑ k : Fin 2048, a (ix2 (i 0) k) * w (ix2 k (i 1)))

/-- One store of the body: 128 rows of the block. -/
def tile (a : Vec Ideal S128x2048 .bf16) (w : Vec Ideal S2048x1024 .bf16) : FVec Ideal S128x1024 .bf16 :=
  k0_pay1 (F := Ideal) a w

theorem rows_in {o : Nat} (ia : ∀ b, (![o, 0] : Fin 2 → Nat) b + S128x2048.size b ≤ S2048x2048.size b) :
    ∀ b, (![o, 0] : Fin 2 → Nat) b + S128x1024.size b ≤ S2048x1024.size b
  | ⟨0, _⟩ => ia 0
  | ⟨1, _⟩ => Nat.le_refl 1024

theorem tile_eq (a : FVec Ideal S2048x2048 .bf16) (w : FVec Ideal S2048x1024 .bf16) (o : Nat)
    (ia : ∀ b, (![o, 0] : Fin 2 → Nat) b + S128x2048.size b ≤ S2048x2048.size b) (x : S128x1024.Idx) :
    tile (View.ld a (Rect.unit (s := S2048x2048) ![o, 0] S128x2048.size ia)) w x
      = prod a w ((Rect.unit (s := S2048x1024) ![o, 0] S128x1024.size (rows_in ia)).emb x) := by
  have e0 : o + 128 ≤ 2048 := ia 0
  have hx0 : (x 0).val < 128 := (x 0).isLt
  have he : (Rect.unit (s := S2048x1024) ![o, 0] S128x1024.size (rows_in ia)).emb x = ix2 ⟨o + (x 0).val, by omega⟩ (x 1) := by
    funext a
    match a with
    | ⟨0, _⟩ => exact Fin.ext (by show o + 1 * (x 0).val = _; rw [Nat.one_mul]; rfl)
    | ⟨1, _⟩ => exact Fin.ext (by show 0 + 1 * (x 1).val = _; rw [Nat.one_mul, Nat.zero_add]; rfl)
  rw [he]
  unfold tile prod sq
  pointwise [k0_pay1]

/-- The rounded block of weights, stored to the scratch. -/
theorem cast_block (w : FVec Ideal S2048x1024 .f32) : k0_pay5 (F := Ideal) w = w := by
  unfold k0_pay5
  simp only [shapeCast_self]
  rfl

variable (c : Dev nD) (i : grid0.Coords) (a2 : Memref sig .tc .vmem S2048x2048 .bf16) (h2 : a2.IsWhole)
  (a3 : Memref sig .tc .vmem S2048x1024 .f32) (h3 : a3.IsWhole) (a4 : Memref sig .tc .vmem S256x2048 .f32) (h4 : a4.IsWhole)
  (a5 : Memref sig .tc .vmem S2048x1024 .bf16) (h5 : a5.IsWhole) (a6 : Memref sig .tc .vmem S256x2048 .bf16) (h6 : a6.IsWhole)
  (a7 : Memref sig .tc .vmem S2048x1024 .bf16) (h7 : a7.IsWhole)
  (x0 : FVec Ideal S2048x2048 .bf16) (x1 : FVec Ideal S2048x1024 .f32) (x2 : FVec Ideal S256x2048 .f32)

/-- A point that keeps the scratch: its block is the product with what the scratch holds. -/
theorem out_B (hc : ¬cond0_0 i) (w : FVec Ideal S2048x1024 .bf16) (y : S2048x1024.Idx) :
    out0_B_3 (F := Ideal) c i a2 h2 a3 h3 a4 h4 a5 h5 a6 h6 a7 h7 hc x0 x1 x2 w y = prod x0 w y := by
  unfold out0_B_3
  rw [View.read_writes_eq_canon _ _ _ (cover0_B_3 (F := Ideal) c i a2 h2 a3 h3 a4 h4 a5 h5 a6 h6 a7 h7 hc x0 x1 x2 w)]
  refine View.canon_apply_of_pieces (Val := Elt Ideal) (e := .bf16) (prod x0 w) _ ?_ y
    (cover0_B_3 (F := Ideal) c i a2 h2 a3 h3 a4 h4 a5 h5 a6 h6 a7 h7 hc x0 x1 x2 w y)
  unfold kernelRun0_B
  dsimp only
  sl_unfold_words
  simp only [View.readAt_eq_ld, h2.read_unread, h7.read_unread, View.ld_unit_zero (S := S2048x1024) hz]
  iterate 16 refine List.forall_mem_cons.mpr ⟨fun x => tile_eq x0 w _ _ x, ?_⟩
  exact fun p hp => absurd hp List.not_mem_nil

/-- A point that fills the scratch: its block is the product with the block of weights. -/
theorem out_A (hc : cond0_0 i) (y : S2048x1024.Idx) :
    out0_A_3 (F := Ideal) c i a2 h2 a3 h3 a4 h4 a5 h5 a6 h6 a7 h7 hc x0 x1 x2 y = prod x0 x1 y := by
  unfold out0_A_3
  rw [View.read_writes_eq_canon _ _ _ (cover0_A_3 (F := Ideal) c i a2 h2 a3 h3 a4 h4 a5 h5 a6 h6 a7 h7 hc x0 x1 x2)]
  refine View.canon_apply_of_pieces (Val := Elt Ideal) (e := .bf16) (prod x0 x1) _ ?_ y
    (cover0_A_3 (F := Ideal) c i a2 h2 a3 h3 a4 h4 a5 h5 a6 h6 a7 h7 hc x0 x1 x2 y)
  unfold kernelRun0_A
  dsimp only
  sl_unfold_words
  simp only [View.readAt_eq_ld, h2.read_unread, h3.read_unread, View.ld_unit_zero (S := S2048x1024) hz,
    View.readCov_unit_zero (S := S2048x1024) _ hz, cast_block]
  iterate 16 refine List.forall_mem_cons.mpr ⟨fun x => tile_eq x0 x1 _ _ x, ?_⟩
  exact fun p hp => absurd hp List.not_mem_nil

/-- … and the scratch then holds that block of weights. -/
theorem scratch_A (hc : cond0_0 i) :
    sout0_A_0 (F := Ideal) c i a2 h2 a3 h3 a4 h4 a5 h5 a6 h6 a7 h7 hc x0 x1 x2 = x1 := by
  unfold sout0_A_0
  rw [View.read_writes_eq_canon _ _ _ (scover0_A_0 (F := Ideal) c i a2 h2 a3 h3 a4 h4 a5 h5 a6 h6 a7 h7 hc x0 x1 x2)]
  unfold kernelRun0_A
  dsimp only
  sl_unfold_words
  rw [View.canon_unit_zero hz]
  unfold k0_pay5
  simp only [View.readAt_eq_ld, h3.read_unread, View.ld_unit_zero (S := S2048x1024) hz, shapeCast_self]
  rfl

/-- The second output's block is the block of the other weights, rounded. -/
theorem side_A (hc : cond0_0 i) :
    out0_A_4 (F := Ideal) c i a2 h2 a3 h3 a4 h4 a5 h5 a6 h6 a7 h7 hc x0 x1 x2 = x2 := by
  unfold out0_A_4
  rw [View.read_writes_eq_canon _ _ _ (cover0_A_4 (F := Ideal) c i a2 h2 a3 h3 a4 h4 a5 h5 a6 h6 a7 h7 hc x0 x1 x2)]
  unfold kernelRun0_A
  dsimp only
  sl_unfold_words
  rw [View.canon_unit_zero hz]
  unfold k0_pay4
  simp only [View.readAt_eq_ld, h4.read_unread, View.ld_unit_zero (S := S256x2048) hz, shapeCast_self]
  rfl

theorem side_B (hc : ¬cond0_0 i) (w : FVec Ideal S2048x1024 .bf16) :
    out0_B_4 (F := Ideal) c i a2 h2 a3 h3 a4 h4 a5 h5 a6 h6 a7 h7 hc x0 x1 x2 w = x2 := by
  unfold out0_B_4
  rw [View.read_writes_eq_canon _ _ _ (cover0_B_4 (F := Ideal) c i a2 h2 a3 h3 a4 h4 a5 h5 a6 h6 a7 h7 hc x0 x1 x2 w)]
  unfold kernelRun0_B
  dsimp only
  sl_unfold_words
  rw [View.canon_unit_zero hz]
  unfold k0_pay4
  simp only [View.readAt_eq_ld, h4.read_unread, View.ld_unit_zero (S := S256x2048) hz, shapeCast_self]
  rfl

end Cert.Kernel2Ideal.Ff1

end
-- ==== Proof.Ff1Ref.lean ====
/-
  The reference of the feed-forward part's first product, read at an index.
-/
module

public import proofs.«01_k».proof.Proof.Ff1Block
public import proofs.«01_k».proof.Proof.Gen.Reference2Ideal.Read

@[expose] public section

noncomputable section

open Idealize.ShloMosaic Idealize.ShloMosaic.TcCoe Idealize.SL.Sem

namespace Cert.Ff1

open Cert.Reference2Ideal Cert.Reference2Ideal.Read

/-- The first product at row `r`, column `j`: the squared positive part of a row of `a` times a column of `w`. -/
def spec (a : FVec Ideal S8192x2048 .bf16) (w : FVec Ideal S1x2048x8192 .f32) (r j : Fin 8192) : EReal :=
  Kernel2Ideal.Ff1.sq (∑ k : Fin 2048, a (ix2 r k) * w (ix3 0 k j))

theorem ref_apply (a : FVec Ideal S8192x2048 .bf16) (w : FVec Ideal S1x2048x8192 .f32) (r j : Fin 8192) :
    val_main_v5 (F := Ideal) a w (ix2 r j) = spec a w r j := by
  unfold spec Kernel2Ideal.Ff1.sq
  pointwise [val_main_v5, val_main_v4, val_main_v3, val_main_v2, val_main_v1, val_main_v0, val_main_call0_v0, val_main_call0_cst]

theorem ref_side (w : FVec Ideal S1x8192x2048 .f32) (r : Fin 8192) (j : Fin 2048) :
    val_main_v7 (F := Ideal) w (ix2 r j) = w (ix3 0 r j) := by
  pointwise [val_main_v7, val_main_v6]

end Cert.Ff1

end
-- ==== Proof.Ff1Array.lean ====
/-
  The feed-forward part's first product: its result arrays, read at an index, from the argument arrays.
-/
module

public import proofs.«01_k».proof.Proof.Ff1Ref
public import Idealize.ShloMosaic.Lib.Pipeline.ValueKit
public import Idealize.ShloMosaic.Lib.StableHlo.ReadAt

@[expose] public section

noncomputable section

open Idealize.ShloMosaic Idealize.ShloMosaic.TcCoe Idealize.SL.Sem

namespace Cert.Kernel2Ideal.Ff1

open Cert.Kernel2Ideal Cert.Kernel2Ideal.Gen

variable (m : (ℓ : Loc nD τ sig) → Buf (Elt Ideal) ℓ) (c : Dev nD)

theorem e0 : ∀ t : Fin cfg0.N, win0_0.index t = ![t.val % 4, 0] := by decide +kernel
theorem e1 : ∀ t : Fin cfg0.N, win0_1.index t = ![0, t.val / 4] := by decide +kernel
theorem e2 : ∀ t : Fin cfg0.N, win0_2.index t = ![t.val, 0] := by decide +kernel
theorem e3 : ∀ t : Fin cfg0.N, win0_3.index t = ![t.val % 4, t.val / 4] := by decide +kernel
theorem e4 : ∀ t : Fin cfg0.N, win0_4.index t = ![t.val, 0] := by decide +kernel

theorem V_w (r : Fin 2048) (j : Fin 8192) : V m c main_v0 (ix2 r j)
    = m ((c : Thread nD τ).loc main_arg1) (ix3 0 r j) := by
  unfold V
  after_reads_at

theorem V_side (r : Fin 8192) (j : Fin 2048) : V m c main_v1 (ix2 r j)
    = m ((c : Thread nD τ).loc main_arg2) (ix3 0 r j) := by
  unfold V
  after_reads_at

theorem a_apply (t : Fin cfg0.N) (r k : Fin 2048) (h : t.val % 4 * 2048 + r.val < 8192) : iblk m c 0 t (ix2 r k)
    = m ((c : Thread nD τ).loc main_arg0) (ix2 ⟨t.val % 4 * 2048 + r.val, h⟩ k) := by
  rw [← V_main_arg0 m c]
  blk_ext [iblk, e0]

theorem w_apply (t : Fin cfg0.N) (k : Fin 2048) (j : Fin 1024) (h : t.val / 4 * 1024 + j.val < 8192) :
    iblk m c 1 t (ix2 k j) = m ((c : Thread nD τ).loc main_arg1) (ix3 0 k ⟨t.val / 4 * 1024 + j.val, h⟩) := by
  rw [← V_w m c]
  blk_ext [iblk, e1]

theorem side_apply (t : Fin cfg0.N) (r : Fin 256) (j : Fin 2048) (h : t.val * 256 + r.val < 8192) :
    iblk m c 2 t (ix2 r j) = m ((c : Thread nD τ).loc main_arg2) (ix3 0 ⟨t.val * 256 + r.val, h⟩ j) := by
  rw [← V_side m c]
  blk_ext [iblk, e2]

theorem keep (t : Fin cfg0.N) (h0 : ¬t.val % 4 = 0) : (outsAt0 (F := Ideal) m c t.val t.isLt).2.2
    = (outsAt0 (F := Ideal) m c (t.val - 1) (Nat.lt_of_le_of_lt (Nat.sub_le _ _) t.isLt)).2.2 := by
  rw [outsAt0_B m c t h0]
  dsimp only [sout0_B_0]

/-- The scratch after a point holds the block of weights of the point's column of blocks. -/
theorem scratch (n : ℕ) : ∀ h : n < cfg0.N, ∀ (k : Fin 2048) (j : Fin 1024) (hj : n / 4 * 1024 + j.val < 8192),
    (outsAt0 (F := Ideal) m c n h).2.2 (ix2 k j)
      = m ((c : Thread nD τ).loc main_arg1) (ix3 0 k ⟨n / 4 * 1024 + j.val, hj⟩) := by
  induction n with
  | zero =>
    intro h k j hj
    rw [outsAt0_A m c ⟨0, h⟩ rfl]
    dsimp only
    rw [scratch_A]
    exact w_apply m c ⟨0, h⟩ k j hj
  | succ n ih =>
    intro h k j hj
    by_cases h0 : (n + 1) % 4 = 0
    · rw [outsAt0_A m c ⟨n + 1, h⟩ h0]
      dsimp only
      rw [scratch_A]
      exact w_apply m c ⟨n + 1, h⟩ k j hj
    · have hk := congrFun (keep m c ⟨n + 1, h⟩ h0) (ix2 k j)
      have q : (n + 1) / 4 = n / 4 := by omega
      have hj' : n / 4 * 1024 + j.val < 8192 := by omega
      refine hk.trans ((ih (Nat.lt_of_succ_lt h) k j hj').trans ?_)
      simp only [q]

/-- The first output's block after a point is the product with what the scratch then holds. -/
theorem out_apply (t : Fin cfg0.N) (y : S2048x1024.Idx) :
    (outsAt0 (F := Ideal) m c t.val t.isLt).1 y = prod (iblk m c 0 t) (outsAt0 (F := Ideal) m c t.val t.isLt).2.2 y := by
  by_cases h0 : t.val % 4 = 0
  · rw [outsAt0_A m c t h0]
    dsimp only
    rw [scratch_A, out_A]
  · rw [outsAt0_B m c t h0]
    dsimp only
    rw [out_B]
    rfl

theorem out_side (t : Fin cfg0.N) : (outsAt0 (F := Ideal) m c t.val t.isLt).2.1 = iblk m c 2 t := by
  by_cases h0 : t.val % 4 = 0
  · rw [outsAt0_A m c t h0]
    dsimp only
    rw [side_A]
  · rw [outsAt0_B m c t h0]
    dsimp only
    rw [side_B]

theorem prod_apply (a : FVec Ideal S2048x2048 .bf16) (w : FVec Ideal S2048x1024 .bf16) (r : Fin 2048) (j : Fin 1024) :
    prod a w (ix2 r j) = sq (∑ k : Fin 2048, a (ix2 r k) * w (ix2 k j)) := rfl

theorem mul_congr {a a' b b' : EReal} (h : a = a') (h' : b = b') : a * b = a' * b' := by rw [h, h']

theorem final : (dats m 0 c).arrAt 3 cfg0.N = fun i => Cert.Ff1.spec (m ((c : Thread nD τ).loc main_arg0))
    (m ((c : Thread nD τ).loc main_arg1)) (i 0) (i 1) := by
  refine (dats m 0 c).arrAt_eq_of_covers 3 _ (by decide +kernel) fun t hf y => ?_
  have ht : t.val < 32 := t.isLt
  obtain ⟨r, j, rfl⟩ : ∃ (r : Fin 2048) (j : Fin 1024), y = ix2 r j := ⟨y 0, y 1, eq_ix2 _⟩
  have hr : t.val % 4 * 2048 + r.val < 8192 := by omega
  have hj : t.val / 4 * 1024 + j.val < 8192 := by omega
  have h0 : (win0_3.blk t).view.emb (ix2 r j) 0 = (⟨t.val % 4 * 2048 + r.val, hr⟩ : Fin 8192) := by
    apply Fin.ext; blk_simp [e3]
  have h1 : (win0_3.blk t).view.emb (ix2 r j) 1 = (⟨t.val / 4 * 1024 + j.val, hj⟩ : Fin 8192) := by
    apply Fin.ext; blk_simp [e3]
  blk_simp
  rw [after0_3, out_apply, h0, h1, prod_apply]
  unfold Cert.Ff1.spec
  exact congrArg sq (Finset.sum_congr rfl fun k _ => mul_congr (a_apply m c t r k hr) (scratch m c t.val t.isLt k j hj))

theorem final_side : (dats m 0 c).arrAt 4 cfg0.N = fun i => m ((c : Thread nD τ).loc main_arg2) (ix3 0 (i 0) (i 1)) := by
  refine (dats m 0 c).arrAt_eq_of_covers 4 _ (by decide +kernel) fun t hf y => ?_
  have ht : t.val < 32 := t.isLt
  obtain ⟨r, j, rfl⟩ : ∃ (r : Fin 256) (j : Fin 2048), y = ix2 r j := ⟨y 0, y 1, eq_ix2 _⟩
  have hr : t.val * 256 + r.val < 8192 := by omega
  have h0 : (win0_4.blk t).view.emb (ix2 r j) 0 = (⟨t.val * 256 + r.val, hr⟩ : Fin 8192) := by
    apply Fin.ext; blk_simp [e4]
  have h1 : (win0_4.blk t).view.emb (ix2 r j) 1 = j := by
    apply Fin.ext; blk_simp [e4]
  blk_simp
  rw [after0_4, out_side, h0, h1]
  exact side_apply m c t r j hr

end Cert.Kernel2Ideal.Ff1

end
-- ==== Proof.Ff1Claim.lean ====
/-
  The feed-forward part's first product computes its reference.
-/
module

public import proofs.«01_k».proof.Proof.Ff1Array
public import proofs.«01_k».proof.Defs

@[expose] public section

noncomputable section

open Idealize.ShloMosaic Idealize.ShloMosaic.TcCoe Idealize.SL.Sem

namespace Cert.Ff1

theorem algebraic : Cert.algebraic_Kernel2Ideal_Reference2Ideal (hKernel2Ideal := Cert.Kernel2Ideal.Gen.facts)
    (hReference2Ideal := Cert.Reference2Ideal.Gen.facts) := by
  intro m g m' g' _ hagree
  refine ⟨fun c i => spec (m ((c.tc : Thread _ _).loc Cert.Kernel2Ideal.main_arg0))
    (m ((c.tc : Thread _ _).loc Cert.Kernel2Ideal.main_arg1)) (i 0) (i 1),
    fun c i => m ((c.tc : Thread _ _).loc Cert.Kernel2Ideal.main_arg2) (ix3 0 (i 0) (i 1)), ?_, ?_⟩
  · exact (θ_run _ _ _).mono (fun _ h c => ⟨(h c).1.trans (Cert.Kernel2Ideal.Ff1.final m c),
        (h c).2.1.trans (Cert.Kernel2Ideal.Ff1.final_side m c), (h c).2.2⟩)
      (Cert.Kernel2Ideal.Value.run_blocks m g)
  · refine (θ_run _ _ _).mono (fun _ h c => ⟨(h c).1.trans ?_, (h c).2.1.trans ?_, (h c).2.2⟩)
      (Cert.Reference2Ideal.Value.run m' g')
    · refine (Cert.Reference2Ideal.Read.val_main_v5_eq _ _).trans ?_
      rw [(hagree c).1, (hagree c).2.1]
      funext i
      obtain ⟨r, k, rfl⟩ : ∃ (r k : Fin 8192), i = ix2 r k := ⟨i 0, i 1, eq_ix2 _⟩
      exact ref_apply _ _ r k
    · refine (Cert.Reference2Ideal.Read.val_main_v7_eq _).trans ?_
      rw [(hagree c).2.2]
      funext i
      obtain ⟨r, k, rfl⟩ : ∃ (r : Fin 8192) (k : Fin 2048), i = ix2 r k := ⟨i 0, i 1, eq_ix2 _⟩
      exact ref_side _ r k

end Cert.Ff1

end
-- ==== Proof.Ff2Row.lean ====
/-
  The second feed-forward product with its norm and residual, one row at a time: the row functions both programs compute.
-/
module

public import Idealize.ShloMosaic.Lib.Pointwise

@[expose] public section

noncomputable section

open Idealize.ShloMosaic Idealize.ShloMosaic.TcCoe Idealize.SL.Sem

namespace Cert.Ff2

/-- A row over the root of its mean square plus the small constant: entry `j`. -/
def norm (f : Fin 2048 → EReal) (j : Fin 2048) : EReal :=
  f j * Ideal.rsqrt (Ideal.div (∑ k, f k * f k) (Ideal.ofBits .f32 0x45000000#32) + Ideal.ofBits .f32 0x358637BD#32)

/-- The residual row: the input plus the scaled, normalized row. -/
def res (x p s : Fin 2048 → EReal) (j : Fin 2048) : EReal := x j + norm p j * s j

end Cert.Ff2

end
-- ==== Proof.Ff2Block.lean ====
/-
  The second feed-forward call, one grid point: what the body leaves in the output's block.
-/
module

public import proofs.«01_k».proof.Proof.Ff2Body
public import proofs.«01_k».proof.Proof.Ff2Row
public import Idealize.ShloMosaic.Lib.Pipeline.Value

@[expose] public section

noncomputable section

open Idealize.ShloMosaic Idealize.ShloMosaic.TcCoe Idealize.SL.Sem

namespace Cert.Kernel3Ideal.Ff2

open Cert.Kernel3Ideal Cert.Kernel3Ideal.Gen

theorem hz2 : (![0, 0] : Fin 2 → Nat) = fun _ => 0 := funext fun a => by fin_cases a <;> rfl

/-- The first point's block: the product of the two blocks. -/
theorem pay1_apply (a : FVec Ideal S1024x2048 .bf16) (w : FVec Ideal S2048x2048 .bf16) (r : Fin 1024) (j : Fin 2048) :
    k0_pay1 (F := Ideal) a w (ix2 r j) = ∑ q : Fin 2048, a (ix2 r q) * w (ix2 q j) := by
  pointwise [k0_pay1]

/-- The next points': that added to what is there. -/
theorem pay2_apply (p : FVec Ideal S1024x2048 .f32) (a : FVec Ideal S1024x2048 .bf16) (w : FVec Ideal S2048x2048 .bf16) (r : Fin 1024) (j : Fin 2048) :
    k0_pay2 (F := Ideal) p a w (ix2 r j) = p (ix2 r j) + ∑ q : Fin 2048, a (ix2 r q) * w (ix2 q j) := by
  pointwise [k0_pay2]

/-- The last point's block: the residual plus the scaled, normalized rows of the finished sums. -/
def lastB (x0 : FVec Ideal S1024x2048 .bf16) (x1 : FVec Ideal S2048x2048 .bf16) (x2 : FVec Ideal S1x4x2048 .f32)
    (x3 : FVec Ideal S1x2048 .f32) (x4 xs : FVec Ideal S1024x2048 .f32) : FVec Ideal S1024x2048 .f32 := fun y =>
  Cert.Ff2.res (fun k => xs (ix2 (y 0) k)) (fun k => x4 (ix2 (y 0) k) + ∑ q : Fin 2048, x0 (ix2 (y 0) q) * x1 (ix2 q k))
    (fun k => x2 (ix3 0 3 k) * x3 (ix2 0 k)) (y 1)

/-- One store of the last point: 128 rows of the block. -/
def tile (x1 : Vec Ideal S2048x2048 .bf16) (g : FVec Ideal S1x2048 .f32) (p : Vec Ideal S128x2048 .f32) (a : Vec Ideal S128x2048 .bf16)
    (x : Vec Ideal S128x2048 .f32) : FVec Ideal S128x2048 .f32 := k0_pay4 (F := Ideal) x1 g p a x

theorem tile_eq (x0 : FVec Ideal S1024x2048 .bf16) (x1 : FVec Ideal S2048x2048 .bf16) (x2 : FVec Ideal S1x4x2048 .f32)
    (x3 : FVec Ideal S1x2048 .f32) (x4 xs : FVec Ideal S1024x2048 .f32) (o : Nat)
    (ia : ∀ b, (![o, 0] : Fin 2 → Nat) b + S128x2048.size b ≤ S1024x2048.size b) (x : S128x2048.Idx) :
    tile x1 (k0_pay5 (F := Ideal) (View.ld x2 (Rect.unit (s := S1x4x2048) ![0, 3, 0] S1x1x2048.size inb_S1x4x2048_S1x1x2048_0_3_0)) x3)
      (View.ld x4 (Rect.unit (s := S1024x2048) ![o, 0] S128x2048.size ia)) (View.ld x0 (Rect.unit (s := S1024x2048) ![o, 0] S128x2048.size ia))
      (View.ld xs (Rect.unit (s := S1024x2048) ![o, 0] S128x2048.size ia)) x
      = lastB x0 x1 x2 x3 x4 xs ((Rect.unit (s := S1024x2048) ![o, 0] S128x2048.size ia).emb x) := by
  have e0 : o + 128 ≤ 1024 := ia 0
  have hx0 : (x 0).val < 128 := (x 0).isLt
  have he : (Rect.unit (s := S1024x2048) ![o, 0] S128x2048.size ia).emb x = ix2 ⟨o + (x 0).val, by omega⟩ (x 1) := by
    funext a
    match a with
    | ⟨0, _⟩ => exact Fin.ext (by show o + 1 * (x 0).val = _; rw [Nat.one_mul]; rfl)
    | ⟨1, _⟩ => exact Fin.ext (by show 0 + 1 * (x 1).val = _; rw [Nat.one_mul, Nat.zero_add]; rfl)
  rw [he]
  unfold tile lastB Cert.Ff2.res Cert.Ff2.norm
  pointwise [k0_pay4, k0_pay5]

theorem out_D (c : Dev nD) (i : grid0.Coords) (a2 : Memref sig .tc .vmem S1024x2048 .bf16) (g2 : a2.IsWhole)
    (a3 : Memref sig .tc .vmem S2048x2048 .bf16) (g3 : a3.IsWhole) (a5 : Memref sig .tc .vmem S1x4x2048 .f32) (g5 : a5.IsWhole)
    (a6 : Memref sig .tc .vmem S1x2048 .f32) (g6 : a6.IsWhole) (a7 : Memref sig .tc .vmem S1024x2048 .f32) (g7 : a7.IsWhole)
    (h1 : ¬k0_cond1 i = 1#1) (h2 : ¬k0_cond2 i = 1#1) (h3 : ¬k0_cond3 i = 1#1) (h4 : k0_cond4 i = 1#1)
    (x0 : FVec Ideal S1024x2048 .bf16) (x1 : FVec Ideal S2048x2048 .bf16) (x2 : FVec Ideal S1x4x2048 .f32)
    (x3 : FVec Ideal S1x2048 .f32) (x4 xs : FVec Ideal S1024x2048 .f32) (y : S1024x2048.Idx) :
    View.canon (runD (F := Ideal) c i a2 g2 a3 g3 a5 g5 a6 g6 a7 g7 h1 h2 h3 h4 x0 x1 x2 x3 x4 xs).1 y = lastB x0 x1 x2 x3 x4 xs y := by
  refine View.canon_apply_of_pieces (Val := Elt Ideal) (e := .f32) (lastB x0 x1 x2 x3 x4 xs) _ ?_ y
    (coverD (F := Ideal) c i a2 g2 a3 g3 a5 g5 a6 g6 a7 g7 h1 h2 h3 h4 x0 x1 x2 x3 x4 xs y)
  unfold runD
  dsimp only
  sl_unfold_words
  simp only [View.readAt_eq_ld, g2.read_unread, g3.read_unread, g5.read_unread, g6.read_unread, g7.read_unread, hsM.read_unread,
    View.ld_unit_zero (S := S2048x2048) hz2, View.ld_unit_zero (S := S1x2048) hz2]
  iterate 8 refine List.forall_mem_cons.mpr ⟨fun x => tile_eq x0 x1 x2 x3 x4 xs _ _ x, ?_⟩
  exact fun p hp => absurd hp List.not_mem_nil

end Cert.Kernel3Ideal.Ff2

end
-- ==== Proof.Ff2Ref.lean ====
/-
  The reference of the second feed-forward product with its norm and residual, read at an index.
-/
module

public import proofs.«01_k».proof.Proof.Ff2Row
public import proofs.«01_k».proof.Proof.Gen.Reference3Ideal.Read

@[expose] public section

noncomputable section

open Idealize.ShloMosaic Idealize.ShloMosaic.TcCoe Idealize.SL.Sem

namespace Cert.Ff2

open Cert.Reference3Ideal Cert.Reference3Ideal.Read

section rows

variable (x0 : FVec Ideal S8192x8192 .bf16) (x1 : FVec Ideal S8192x2048 .bf16) (x2 : FVec Ideal S8192x2048 .f32)
  (x3 : FVec Ideal S2x4x2048 .f32) (x4 : FVec Ideal S1x2048 .f32)

/-- Entry `(r, j)` of the product. -/
def dotRow (r : Fin 8192) (j : Fin 2048) : EReal := ∑ q : Fin 8192, x0 (ix2 r q) * x1 (ix2 q j)

/-- The result: the residual plus the gated, normalized product. -/
def spec (r : Fin 8192) (j : Fin 2048) : EReal :=
  res (fun k => x2 (ix2 r k)) (dotRow x0 x1 r) (fun k => x3 (ix3 ⟨r.val / 4096, by omega⟩ 3 k) * x4 (ix2 0 k)) j

theorem ref_dot (b : Fin 2) (s : Fin 4096) (r : Fin 8192) (hr : b.val * 4096 + s.val = r.val) (j : Fin 2048) :
    val_main_v4 (F := Ideal) x0 x1 (ix3 b s j) = dotRow x0 x1 r j := by
  unfold dotRow
  pointwise [val_main_v4, val_main_v3, val_main_v1, val_main_v0]
  simp only [hr]

theorem res_assoc (x n g p : EReal) : x + g * (n * p) = x + n * (g * p) := by
  rw [mul_left_comm]

theorem ref_res (b : Fin 2) (s : Fin 4096) (r : Fin 8192) (hr : b.val * 4096 + s.val = r.val) (j : Fin 2048) :
    val_main_v22 (F := Ideal) x0 x1 x2 x3 x4 (ix3 b s j) = spec x0 x1 x2 x3 x4 r j := by
  have hb : r.val / 4096 = b.val := by omega
  unfold spec res norm
  rw [← res_assoc]
  simp only [← ref_dot x0 x1 b s r hr]
  pointwise [val_main_v22, val_main_v21, val_main_v20, val_main_v19, val_main_v18, val_main_v17, val_main_v16, val_main_v15,
    val_main_v14, val_main_v13, val_main_v12, val_main_v11, val_main_v10, val_main_v9, val_main_v8, val_main_v7, val_main_v6,
    val_main_v5, val_main_v2, val_main_cst, val_main_cst_0, val_main_cst_1]
  simp only [hr, hb]

theorem ref_apply (r : Fin 8192) (j : Fin 2048) :
    val_main_v23 (F := Ideal) x0 x1 x2 x3 x4 (ix2 r j) = spec x0 x1 x2 x3 x4 r j := by
  pointwise [val_main_v23]
  exact ref_res _ _ _ _ _ _ _ r (by show r.val / 4096 * 4096 + r.val % 4096 = _; omega) j

end rows

end Cert.Ff2

end
-- ==== Proof.Ff2Array.lean ====
/-
  The second feed-forward call: its result array, read at an index, from the argument arrays.
-/
module

public import proofs.«01_k».proof.Proof.Ff2Block
public import proofs.«01_k».proof.Proof.Ff2Ref
public import Idealize.ShloMosaic.Lib.Pipeline.ValueKit
public import Idealize.ShloMosaic.Lib.StableHlo.ReadAt

@[expose] public section

noncomputable section

open Idealize.ShloMosaic Idealize.ShloMosaic.TcCoe Idealize.SL.Sem

namespace Cert.Kernel3Ideal.Ff2

open Cert.Kernel3Ideal Cert.Kernel3Ideal.Gen

variable (m : (ℓ : Loc nD τ sig) → Buf (Elt Ideal) ℓ) (c : Dev nD)

theorem e0 : ∀ t : Fin cfg0.N, win0_0.index t = ![t.val / 4, t.val % 4] := by decide +kernel
theorem e1 : ∀ t : Fin cfg0.N, win0_1.index t = ![t.val % 4, 0] := by decide +kernel
theorem e2 : ∀ t : Fin cfg0.N, win0_2.index t = ![t.val / 16, 0, 0] := by decide +kernel
theorem e3 : ∀ t : Fin cfg0.N, win0_3.index t = ![0, 0] := by decide +kernel
theorem e4 : ∀ t : Fin cfg0.N, win0_4.index t = ![t.val / 4, 0] := by decide +kernel
theorem eoff : ∀ t : Fin cfg0.N, k0_off1 (grid0.coords t) = ![t.val / 4 * 1024, 0] := by decide +kernel

theorem V_post (a : Fin 1) (k : Fin 2048) : V m c main_v1 (ix2 a k) = m ((c : Thread nD τ).loc main_arg4) (ix2 0 k) := by
  unfold V
  after_reads_at

theorem a_apply (t : Fin cfg0.N) (r : Fin 1024) (q : Fin 2048) (h : t.val / 4 * 1024 + r.val < 8192) (h' : t.val % 4 * 2048 + q.val < 8192) :
    iblk m c 0 t (ix2 r q) = m ((c : Thread nD τ).loc main_arg0) (ix2 ⟨t.val / 4 * 1024 + r.val, h⟩ ⟨t.val % 4 * 2048 + q.val, h'⟩) := by
  rw [← V_main_arg0 m c]
  blk_ext [iblk, e0]

theorem w_apply (t : Fin cfg0.N) (q k : Fin 2048) (h' : t.val % 4 * 2048 + q.val < 8192) :
    iblk m c 1 t (ix2 q k) = m ((c : Thread nD τ).loc main_arg1) (ix2 ⟨t.val % 4 * 2048 + q.val, h'⟩ k) := by
  rw [← V_main_arg1 m c]
  blk_ext [iblk, e1]

theorem mod_apply (t : Fin cfg0.N) (r : Fin 4) (k : Fin 2048) (h : t.val / 16 < 2) :
    iblk m c 2 t (ix3 0 r k) = m ((c : Thread nD τ).loc main_arg3) (ix3 ⟨t.val / 16, h⟩ r k) := by
  rw [← V_main_arg3 m c]
  blk_ext [iblk, e2]

theorem post_apply (t : Fin cfg0.N) (k : Fin 2048) : iblk m c 3 t (ix2 0 k) = m ((c : Thread nD τ).loc main_arg4) (ix2 0 k) := by
  rw [← V_post m c 0]
  blk_ext [iblk, e3]

/-- The block of the residual the transfer brings. -/
theorem src_apply (t : Fin cfg0.N) (r : Fin 1024) (k : Fin 2048) (h : t.val / 4 * 1024 + r.val < 8192) :
    (srcM (grid0.coords t)).view.read (Elt Ideal) (V m c main_arg2) (ix2 r k)
      = m ((c : Thread nD τ).loc main_arg2) (ix2 ⟨t.val / 4 * 1024 + r.val, h⟩ k) := by
  rw [← V_main_arg2 m c]
  refine congrArg (V m c main_arg2) (funext fun a => ?_)
  have e := eoff t
  match a with
  | ⟨0, _⟩ => exact Fin.ext (by show k0_off1 (grid0.coords t) 0 + 1 * r.val = _; rw [e, Nat.one_mul]; rfl)
  | ⟨1, _⟩ => exact Fin.ext (by show k0_off1 (grid0.coords t) 1 + 1 * k.val = _; rw [e, Nat.one_mul]; exact Nat.zero_add _)

/-- One of the four tiles of an entry of the product. -/
def part (x0 : FVec Ideal S8192x8192 .bf16) (x1 : FVec Ideal S8192x2048 .bf16) (r : Fin 8192) (j : Fin 2048) (k : Fin 4) : EReal :=
  ∑ q : Fin 2048, x0 (ix2 r ⟨k.val * 2048 + q.val, by omega⟩) * x1 (ix2 ⟨k.val * 2048 + q.val, by omega⟩ j)

theorem dot_parts (r : Fin 8192) (j : Fin 2048) :
    part (m ((c : Thread nD τ).loc main_arg0)) (m ((c : Thread nD τ).loc main_arg1)) r j 0 + part (m ((c : Thread nD τ).loc main_arg0)) (m ((c : Thread nD τ).loc main_arg1)) r j 1 + part (m ((c : Thread nD τ).loc main_arg0)) (m ((c : Thread nD τ).loc main_arg1)) r j 2 + part (m ((c : Thread nD τ).loc main_arg0)) (m ((c : Thread nD τ).loc main_arg1)) r j 3
      = Cert.Ff2.dotRow (m ((c : Thread nD τ).loc main_arg0)) (m ((c : Thread nD τ).loc main_arg1)) r j := by
  unfold Cert.Ff2.dotRow
  rw [Fin.sum_univ_tiles 4 2048 rfl, Fin.sum_univ_four]
  rfl

/-- The point's own product is the tile its place among the four names. -/
theorem prod_part (t : Fin cfg0.N) (i : ℕ) (k : Fin 4) (hi : t.val / 4 = i) (hk : t.val % 4 = k.val) (r : Fin 1024) (j : Fin 2048)
    (h : i * 1024 + r.val < 8192) (a : FVec Ideal S1024x2048 .bf16) (ha : a = iblk m c 0 t) (w : FVec Ideal S2048x2048 .bf16) (hw : w = iblk m c 1 t) :
    ∑ q : Fin 2048, a (ix2 r q) * w (ix2 q j) = part (m ((c : Thread nD τ).loc main_arg0)) (m ((c : Thread nD τ).loc main_arg1)) ⟨i * 1024 + r.val, h⟩ j k := by
  subst ha hw hi
  obtain ⟨k, hk'⟩ := k
  obtain rfl : t.val % 4 = k := hk
  unfold part
  exact Finset.sum_congr rfl fun q _ => by rw [a_apply m c t r q h (by omega), w_apply m c t q j (by omega)]

/-- What the third of the four points leaves: the sum of the first three tiles. -/
theorem outs_parts (t : Fin cfg0.N) (ht : t.val % 4 = 3) (r : Fin 1024) (j : Fin 2048) (h : t.val / 4 * 1024 + r.val < 8192) :
    outs m c (prev t).val (prev t).isLt (ix2 r j)
      = part (m ((c : Thread nD τ).loc main_arg0)) (m ((c : Thread nD τ).loc main_arg1)) ⟨t.val / 4 * 1024 + r.val, h⟩ j 0 + part (m ((c : Thread nD τ).loc main_arg0)) (m ((c : Thread nD τ).loc main_arg1)) ⟨t.val / 4 * 1024 + r.val, h⟩ j 1 + part (m ((c : Thread nD τ).loc main_arg0)) (m ((c : Thread nD τ).loc main_arg1)) ⟨t.val / 4 * 1024 + r.val, h⟩ j 2 := by
  rw [outs_middle m c (prev t) (by show (t.val - 1) % 4 ≠ 0; omega) (by show (t.val - 1) % 4 ≠ 3; omega),
    outs_middle m c (prev (prev t)) (by show (t.val - 1 - 1) % 4 ≠ 0; omega) (by show (t.val - 1 - 1) % 4 ≠ 3; omega),
    outs_first m c (prev (prev (prev t))) (by show (t.val - 1 - 1 - 1) % 4 = 0; omega)]
  refine (pay2_apply _ _ _ r j).trans ?_
  rw [prod_part m c (prev t) (t.val / 4) 2 (by show (t.val - 1) / 4 = _; omega) (by show (t.val - 1) % 4 = 2; omega) r j h _ rfl _ rfl]
  refine congrArg (· + _) ((pay2_apply _ _ _ r j).trans ?_)
  rw [prod_part m c (prev (prev t)) (t.val / 4) 1 (by show (t.val - 1 - 1) / 4 = _; omega) (by show (t.val - 1 - 1) % 4 = 1; omega) r j h _ rfl _ rfl]
  refine congrArg (· + _) ((pay1_apply _ _ r j).trans ?_)
  exact prod_part m c (prev (prev (prev t))) (t.val / 4) 0 (by show (t.val - 1 - 1 - 1) / 4 = _; omega) (by show (t.val - 1 - 1 - 1) % 4 = 0; omega) r j h _ rfl _ rfl

theorem lastB_apply (x0 : FVec Ideal S1024x2048 .bf16) (x1 : FVec Ideal S2048x2048 .bf16) (x2 : FVec Ideal S1x4x2048 .f32)
    (x3 : FVec Ideal S1x2048 .f32) (x4 xs : FVec Ideal S1024x2048 .f32) (r : Fin 1024) (j : Fin 2048) :
    lastB x0 x1 x2 x3 x4 xs (ix2 r j) = Cert.Ff2.res (fun k => xs (ix2 r k)) (fun k => x4 (ix2 r k) + ∑ q : Fin 2048, x0 (ix2 r q) * x1 (ix2 q k))
      (fun k => x2 (ix3 0 3 k) * x3 (ix2 0 k)) j := rfl

theorem final : (dats m 0 c).arrAt 4 cfg0.N = fun i => Cert.Ff2.spec (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) := by
  refine (dats m 0 c).arrAt_eq_of_covers 4 _ (by decide +kernel) fun t hf y => ?_
  have ht : t.val < 32 := t.isLt
  have h3 : t.val % 4 = 3 := (flush0_4 t).mp hf
  obtain ⟨r, j, rfl⟩ : ∃ (r : Fin 1024) (j : Fin 2048), y = ix2 r j := ⟨y 0, y 1, eq_ix2 _⟩
  have hr : t.val / 4 * 1024 + r.val < 8192 := by omega
  have hb : t.val / 16 < 2 := by omega
  have q : (t.val / 4 * 1024 + r.val) / 4096 = t.val / 16 := by omega
  have hp : (prev t).val / 4 = t.val / 4 := by show (t.val - 1) / 4 = _; omega
  have h0 : (win0_4.blk t).view.emb (ix2 r j) 0 = (⟨t.val / 4 * 1024 + r.val, hr⟩ : Fin 8192) := by
    apply Fin.ext; blk_simp [e4]
  have h1 : (win0_4.blk t).view.emb (ix2 r j) 1 = j := by
    apply Fin.ext; blk_simp [e4]
  blk_simp
  rw [after0_4, h0, h1, outs_last m c t h3]
  unfold lastOut
  rw [out_D, lastB_apply]
  unfold Cert.Ff2.spec
  simp only [q, fun k => src_apply m c (prev t) r k (by rw [hp]; exact hr), hp, mod_apply m c t _ _ hb, post_apply,
    fun k => outs_parts m c t h3 r k hr, fun k => prod_part m c t (t.val / 4) 3 rfl h3 r k hr _ rfl _ rfl, dot_parts]

end Cert.Kernel3Ideal.Ff2

end
-- ==== Proof.Ff2Claim.lean ====
/-
  The second feed-forward call computes its reference.
-/
module

public import proofs.«01_k».proof.Proof.Ff2Array
public import proofs.«01_k».proof.Proof.Gen.Reference3Ideal.Run
public import proofs.«01_k».proof.Defs

@[expose] public section

noncomputable section

open Idealize.ShloMosaic Idealize.ShloMosaic.TcCoe Idealize.SL.Sem

namespace Cert.Ff2

theorem algebraic : Cert.algebraic_Kernel3Ideal_Reference3Ideal (hKernel3Ideal := Cert.Kernel3Ideal.Gen.facts)
    (hReference3Ideal := Cert.Reference3Ideal.Gen.facts) := by
  intro m g m' g' _ hagree
  refine ⟨fun c i => spec (m ((c.tc : Thread _ _).loc Cert.Kernel3Ideal.main_arg0)) (m ((c.tc : Thread _ _).loc Cert.Kernel3Ideal.main_arg1)) (m ((c.tc : Thread _ _).loc Cert.Kernel3Ideal.main_arg2)) (m ((c.tc : Thread _ _).loc Cert.Kernel3Ideal.main_arg3)) (m ((c.tc : Thread _ _).loc Cert.Kernel3Ideal.main_arg4)) (i 0) (i 1), ?_, ?_⟩
  · exact (θ_run _ _ _).mono (fun _ h c => ⟨((h.1.1 c).1 4).trans (Cert.Kernel3Ideal.Ff2.final m c), h.2.1 c⟩)
      (Cert.Kernel3Ideal.Ff2.run_both m g)
  · refine (θ_run _ _ _).mono (fun _ h c => ⟨(h c).1.trans ?_, (h c).2⟩)
      (Cert.Reference3Ideal.Value.run m' g')
    refine (Cert.Reference3Ideal.Read.val_main_v23_eq _ _ _ _ _).trans ?_
    rw [(hagree c).1, (hagree c).2.1, (hagree c).2.2.1, (hagree c).2.2.2.1, (hagree c).2.2.2.2]
    funext i
    obtain ⟨r, k, rfl⟩ : ∃ (r : Fin 8192) (k : Fin 2048), i = ix2 r k := ⟨i 0, i 1, eq_ix2 _⟩
    exact ref_apply _ _ _ _ _ r k

end Cert.Ff2

end
-- ==== Proof.MixRow.lean ====
/-
  The merge of the two branches, one row at a time: the row functions both programs compute.
-/
module

public import Idealize.ShloMosaic.Lib.Pointwise

@[expose] public section

noncomputable section

open Idealize.ShloMosaic Idealize.ShloMosaic.TcCoe Idealize.SL.Sem

namespace Cert.Mix

/-- A row over the root of its mean square plus the small constant: entry `j`. -/
def norm (f : Fin 2048 → EReal) (j : Fin 2048) : EReal :=
  f j * Ideal.rsqrt (Ideal.div (∑ k, f k * f k) (Ideal.ofBits .f32 0x45000000#32) + Ideal.ofBits .f32 0x358637BD#32)

/-- The gated sum of the two branches' projections, entry `k`. -/
def merged (ga gb : Fin 2048 → EReal) (hg sg : Fin 1024 → EReal) (wa wb : Fin 1024 → Fin 2048 → EReal) (k : Fin 2048) : EReal :=
  ga k * (∑ i, hg i * wa i k) + gb k * (∑ i, sg i * wb i k)

/-- The output projection of the merged row, entry `j`. -/
def proj (ga gb : Fin 2048 → EReal) (hg sg : Fin 1024 → EReal) (wa wb : Fin 1024 → Fin 2048 → EReal)
    (wo : Fin 2048 → Fin 2048 → EReal) (j : Fin 2048) : EReal := ∑ k, merged ga gb hg sg wa wb k * wo k j

/-- The residual row: the input plus the scaled, normalized projection. -/
def res (x p s : Fin 2048 → EReal) (j : Fin 2048) : EReal := x j + norm p j * s j

/-- The next part's input row: the residual normalized, scaled and shifted. -/
def next (h s sh : Fin 2048 → EReal) (j : Fin 2048) : EReal := norm h j * s j + sh j

/-- The scale of the next part's norm: the gain times one plus the modulation. -/
def scale (g s : Fin 2048 → EReal) (j : Fin 2048) : EReal := g j * (Ideal.ofBits .f32 0x3F800000#32 + s j)

end Cert.Mix

end
-- ==== Proof.MixBlock.lean ====
/-
  The merge of the two branches, one grid point: what the body leaves in its two output blocks.
-/
module

public import proofs.«01_k».proof.Proof.Gen.Kernel4Ideal.Value
public import Idealize.ShloMosaic.Lib.Pipeline.Value
public import proofs.«01_k».proof.Proof.MixRow

@[expose] public section

noncomputable section

open Idealize.ShloMosaic Idealize.ShloMosaic.TcCoe Idealize.SL.Sem

namespace Cert.Kernel4Ideal.Mix

open Cert.Kernel4Ideal Cert.Kernel4Ideal.Gen

theorem hz : (![0, 0] : Fin 2 → Nat) = fun _ => 0 := funext fun a => by fin_cases a <;> rfl

variable (c : Dev nD) (i : grid0.Coords) (a1 : Memref sig .tc .vmem S512x1024 .bf16) (h1 : a1.IsWhole)
  (a2 : Memref sig .tc .vmem S512x1024 .bf16) (h2 : a2.IsWhole) (a3 : Memref sig .tc .vmem S512x2048 .bf16) (h3 : a3.IsWhole)
  (a4 : Memref sig .tc .vmem S512x2048 .bf16) (h4 : a4.IsWhole) (a5 : Memref sig .tc .vmem S512x2048 .f32) (h5 : a5.IsWhole)
  (a6 : Memref sig .tc .vmem S1x4x2048 .f32) (h6 : a6.IsWhole) (a7 : Memref sig .tc .vmem S1x2048 .f32) (h7 : a7.IsWhole)
  (a8 : Memref sig .tc .vmem S1x2048 .f32) (h8 : a8.IsWhole) (a9 : Memref sig .tc .vmem S1024x2048 .bf16) (h9 : a9.IsWhole)
  (a10 : Memref sig .tc .vmem S1024x2048 .bf16) (h10 : a10.IsWhole) (a11 : Memref sig .tc .vmem S2048x2048 .bf16) (h11 : a11.IsWhole)
  (a12 : Memref sig .tc .vmem S512x2048 .f32) (h12 : a12.IsWhole) (a13 : Memref sig .tc .vmem S512x2048 .bf16) (h13 : a13.IsWhole)
  (x0 x1 : FVec Ideal S512x1024 .bf16) (x2 x3 : FVec Ideal S512x2048 .bf16) (x4 : FVec Ideal S512x2048 .f32)
  (x5 : FVec Ideal S1x4x2048 .f32) (x6 x7 : FVec Ideal S1x2048 .f32) (x8 x9 : FVec Ideal S1024x2048 .bf16)
  (x10 : FVec Ideal S2048x2048 .bf16)

/-- The first output's block: the residual row of every row of the block. -/
def resB : FVec Ideal S512x2048 .f32 := fun y =>
  Cert.Mix.res (fun k => x4 (ix2 (y 0) k))
    (Cert.Mix.proj (fun k => x2 (ix2 (y 0) k)) (fun k => x3 (ix2 (y 0) k)) (fun k => x0 (ix2 (y 0) k)) (fun k => x1 (ix2 (y 0) k))
      (fun a b => x8 (ix2 a b)) (fun a b => x9 (ix2 a b)) (fun a b => x10 (ix2 a b)))
    (fun k => x5 (ix3 0 0 k) * x6 (ix2 0 k)) (y 1)

/-- The second output's block: the next part's input row of every row of the block. -/
def nextB : FVec Ideal S512x2048 .bf16 := fun y =>
  Cert.Mix.next (fun k => resB x0 x1 x2 x3 x4 x5 x6 x8 x9 x10 (ix2 (y 0) k)) (Cert.Mix.scale (fun k => x7 (ix2 0 k))
    (fun k => x5 (ix3 0 2 k))) (fun k => x5 (ix3 0 1 k)) (y 1)

theorem pay9_apply (v8 : FVec Ideal S1x2048 .f32) (v16 v19 : FVec Ideal S384x2048 .f32) (v26 v29 : FVec Ideal S384x2048 .bf16)
    (v34 : FVec Ideal S2048x2048 .bf16) (v46 : FVec Ideal S384x2048 .f32) (r : Fin 384) (j : Fin 2048) :
    k0_pay9 (F := Ideal) v8 v16 v19 v26 v29 v34 v46 (ix2 r j) = Cert.Mix.res (fun k => v46 (ix2 r k))
      (fun j => ∑ k, (v26 (ix2 r k) * v16 (ix2 r k) + v29 (ix2 r k) * v19 (ix2 r k)) * v34 (ix2 k j)) (fun k => v8 (ix2 0 k)) j := by
  unfold Cert.Mix.res Cert.Mix.norm
  pointwise [k0_pay9]

theorem pay12_apply (v8 : FVec Ideal S1x2048 .f32) (v45 v77 : FVec Ideal S128x2048 .f32) (r : Fin 128) (j : Fin 2048) :
    k0_pay12 (F := Ideal) v8 v45 v77 (ix2 r j) = Cert.Mix.res (fun k => v77 (ix2 r k)) (fun k => v45 (ix2 r k))
      (fun k => v8 (ix2 0 k)) j := by
  unfold Cert.Mix.res Cert.Mix.norm
  pointwise [k0_pay12]

theorem pay13_apply (v3 v8 v13 : FVec Ideal S1x2048 .f32) (v45 v77 : FVec Ideal S128x2048 .f32) (r : Fin 128) (j : Fin 2048) :
    k0_pay1 (F := Ideal) (k0_pay13 (F := Ideal) v3 v8 v13 v45 v77) (ix2 r j) = Cert.Mix.next
      (fun k => k0_pay12 (F := Ideal) v8 v45 v77 (ix2 r k)) (fun k => v13 (ix2 0 k)) (fun k => v3 (ix2 0 k)) j := by
  unfold Cert.Mix.next Cert.Mix.norm
  pointwise [k0_pay1, k0_pay13]

theorem pay11_apply (v3 v8 v13 : FVec Ideal S1x2048 .f32) (v16 v19 : FVec Ideal S384x2048 .f32) (v26 v29 : FVec Ideal S384x2048 .bf16)
    (v34 : FVec Ideal S2048x2048 .bf16) (v46 : FVec Ideal S384x2048 .f32) (r : Fin 384) (j : Fin 2048) :
    k0_pay11 (F := Ideal) v3 v13 (k0_pay9 (F := Ideal) v8 v16 v19 v26 v29 v34 v46) (k0_pay10 (F := Ideal) v8 v16 v19 v26 v29 v34 v46) (ix2 r j)
      = Cert.Mix.next (fun k => k0_pay9 (F := Ideal) v8 v16 v19 v26 v29 v34 v46 (ix2 r k)) (fun k => v13 (ix2 0 k))
        (fun k => v3 (ix2 0 k)) j := by
  unfold Cert.Mix.next Cert.Mix.norm
  pointwise [k0_pay11, k0_pay10]

/-- The first output's rows at the block's second sub-block. -/
theorem res_128 (r : Fin 128) (j : Fin 2048) (hr : 384 + r.val < 512) :
    k0_pay12 (F := Ideal) (k0_pay3 (F := Ideal) (View.ld x5 (Rect.unit (s := S1x4x2048) ![0, 0, 0] ![1, 1, 2048] inb_S1x4x2048_S1x1x2048_0_0_0)) x6)
      (k0_pay8 (F := Ideal) (k0_pay7 (F := Ideal) (View.ld x0 (Rect.unit (s := S512x1024) ![384, 0] ![128, 1024] inb_S512x1024_S128x1024_384_0)) x8)
        (View.ld x1 (Rect.unit (s := S512x1024) ![384, 0] ![128, 1024] inb_S512x1024_S128x1024_384_0)) x9
        (constant S128x2048 FTy.f32 0#32)
        (View.ld x2 (Rect.unit (s := S512x2048) ![384, 0] ![128, 2048] inb_S512x2048_S128x2048_384_0))
        (View.ld x3 (Rect.unit (s := S512x2048) ![384, 0] ![128, 2048] inb_S512x2048_S128x2048_384_0)) x10)
      (View.ld x4 (Rect.unit (s := S512x2048) ![384, 0] ![128, 2048] inb_S512x2048_S128x2048_384_0)) (ix2 r j)
      = resB x0 x1 x2 x3 x4 x5 x6 x8 x9 x10 (ix2 ⟨384 + r.val, hr⟩ j) := by
  rw [pay12_apply]
  unfold resB Cert.Mix.proj Cert.Mix.merged
  pointwise [k0_pay3, k0_pay8, k0_pay7]

/-- The first output's rows at the block's first sub-block. -/
theorem res_384 (r : Fin 384) (j : Fin 2048) (hr : 0 + r.val < 512) :
    k0_pay9 (F := Ideal) (k0_pay3 (F := Ideal) (View.ld x5 (Rect.unit (s := S1x4x2048) ![0, 0, 0] ![1, 1, 2048] inb_S1x4x2048_S1x1x2048_0_0_0)) x6)
      (k0_pay5 (F := Ideal) (View.ld x0 (Rect.unit (s := S512x1024) ![0, 0] ![384, 1024] inb_S512x1024_S384x1024_0_0)) x8)
      (k0_pay6 (F := Ideal) (View.ld x1 (Rect.unit (s := S512x1024) ![0, 0] ![384, 1024] inb_S512x1024_S384x1024_0_0)) x9)
      (View.ld x2 (Rect.unit (s := S512x2048) ![0, 0] ![384, 2048] inb_S512x2048_S384x2048_0_0))
      (View.ld x3 (Rect.unit (s := S512x2048) ![0, 0] ![384, 2048] inb_S512x2048_S384x2048_0_0)) x10
      (View.ld x4 (Rect.unit (s := S512x2048) ![0, 0] ![384, 2048] inb_S512x2048_S384x2048_0_0)) (ix2 r j)
      = resB x0 x1 x2 x3 x4 x5 x6 x8 x9 x10 (ix2 ⟨0 + r.val, hr⟩ j) := by
  rw [pay9_apply]
  unfold resB Cert.Mix.proj Cert.Mix.merged
  pointwise [k0_pay3, k0_pay5, k0_pay6]

/-- The scale and the shift of the next part's norm, as the body computes them. -/
theorem scale_row (k : Fin 2048) :
    k0_pay4 (F := Ideal) (View.ld x5 (Rect.unit (s := S1x4x2048) ![0, 2, 0] ![1, 1, 2048] inb_S1x4x2048_S1x1x2048_0_2_0)) x7 (ix2 0 k)
      = Cert.Mix.scale (fun k => x7 (ix2 0 k)) (fun k => x5 (ix3 0 2 k)) k := by
  unfold Cert.Mix.scale
  pointwise [k0_pay4]

theorem shift_row (k : Fin 2048) :
    k0_pay2 (F := Ideal) (View.ld x5 (Rect.unit (s := S1x4x2048) ![0, 1, 0] ![1, 1, 2048] inb_S1x4x2048_S1x1x2048_0_1_0)) (ix2 0 k)
      = x5 (ix3 0 1 k) := by
  pointwise [k0_pay2]

/-- Where rows `o` on of the block lie. -/
theorem emb_rows {o n : Nat} (io : ∀ b, (![o, 0] : Fin 2 → Nat) b + (![n, 2048] : Fin 2 → Nat) b ≤ S512x2048.size b)
    (r : Fin n) (j : Fin 2048) (hr : o + r.val < 512) :
    (Rect.unit (s := S512x2048) ![o, 0] ![n, 2048] io).emb (ix2 r j) = ix2 ⟨o + r.val, hr⟩ j := by
  funext a
  match a with
  | ⟨0, _⟩ => exact Fin.ext (by show o + 1 * r.val = _; rw [Nat.one_mul]; rfl)
  | ⟨1, _⟩ => exact Fin.ext (by show 0 + 1 * j.val = _; rw [Nat.one_mul, Nat.zero_add]; rfl)

theorem out_11 (y : S512x2048.Idx) :
    out0_A_11 (F := Ideal) c i a1 h1 a2 h2 a3 h3 a4 h4 a5 h5 a6 h6 a7 h7 a8 h8 a9 h9 a10 h10 a11 h11 a12 h12 a13 h13
      x0 x1 x2 x3 x4 x5 x6 x7 x8 x9 x10 y = resB x0 x1 x2 x3 x4 x5 x6 x8 x9 x10 y := by
  unfold out0_A_11
  rw [View.read_writes_eq_canon _ _ _ (cover0_A_11 (F := Ideal) c i a1 h1 a2 h2 a3 h3 a4 h4 a5 h5 a6 h6 a7 h7 a8 h8 a9 h9 a10 h10 a11 h11 a12 h12 a13 h13
      x0 x1 x2 x3 x4 x5 x6 x7 x8 x9 x10)]
  refine View.canon_apply_of_pieces (Val := Elt Ideal) (e := .f32) (resB x0 x1 x2 x3 x4 x5 x6 x8 x9 x10) _ ?_ y
    (cover0_A_11 (F := Ideal) c i a1 h1 a2 h2 a3 h3 a4 h4 a5 h5 a6 h6 a7 h7 a8 h8 a9 h9 a10 h10 a11 h11 a12 h12 a13 h13
      x0 x1 x2 x3 x4 x5 x6 x7 x8 x9 x10 y)
  unfold kernelRun0_A
  dsimp only
  sl_unfold_words
  simp only [View.readAt_eq_ld, h1.read_unread, h2.read_unread, h3.read_unread, h4.read_unread, h5.read_unread, h6.read_unread,
    h7.read_unread, h8.read_unread, h9.read_unread, h10.read_unread, h11.read_unread, View.ld_unit_zero (S := S1024x2048) hz,
    View.ld_unit_zero (S := S2048x2048) hz, View.ld_unit_zero (S := S1x2048) hz]
  refine List.forall_mem_cons.mpr ⟨fun x => ?_, List.forall_mem_cons.mpr ⟨fun x => ?_, fun p hp => absurd hp List.not_mem_nil⟩⟩
  · obtain ⟨r, j, rfl⟩ : ∃ (r : Fin 128) (j : Fin 2048), x = ix2 r j := ⟨x 0, x 1, eq_ix2 _⟩
    have hr : 384 + r.val < 512 := by omega
    exact (res_128 x0 x1 x2 x3 x4 x5 x6 x8 x9 x10 r j hr).trans (congrArg (resB x0 x1 x2 x3 x4 x5 x6 x8 x9 x10) (emb_rows inb_S512x2048_S128x2048_384_0 r j hr).symm)
  · obtain ⟨r, j, rfl⟩ : ∃ (r : Fin 384) (j : Fin 2048), x = ix2 r j := ⟨x 0, x 1, eq_ix2 _⟩
    have hr : 0 + r.val < 512 := by omega
    exact (res_384 x0 x1 x2 x3 x4 x5 x6 x8 x9 x10 r j hr).trans (congrArg (resB x0 x1 x2 x3 x4 x5 x6 x8 x9 x10) (emb_rows inb_S512x2048_S384x2048_0_0 r j hr).symm)

theorem out_12 (y : S512x2048.Idx) :
    out0_A_12 (F := Ideal) c i a1 h1 a2 h2 a3 h3 a4 h4 a5 h5 a6 h6 a7 h7 a8 h8 a9 h9 a10 h10 a11 h11 a12 h12 a13 h13
      x0 x1 x2 x3 x4 x5 x6 x7 x8 x9 x10 y = nextB x0 x1 x2 x3 x4 x5 x6 x7 x8 x9 x10 y := by
  unfold out0_A_12
  rw [View.read_writes_eq_canon _ _ _ (cover0_A_12 (F := Ideal) c i a1 h1 a2 h2 a3 h3 a4 h4 a5 h5 a6 h6 a7 h7 a8 h8 a9 h9 a10 h10 a11 h11 a12 h12 a13 h13
      x0 x1 x2 x3 x4 x5 x6 x7 x8 x9 x10)]
  refine View.canon_apply_of_pieces (Val := Elt Ideal) (e := .bf16) (nextB x0 x1 x2 x3 x4 x5 x6 x7 x8 x9 x10) _ ?_ y
    (cover0_A_12 (F := Ideal) c i a1 h1 a2 h2 a3 h3 a4 h4 a5 h5 a6 h6 a7 h7 a8 h8 a9 h9 a10 h10 a11 h11 a12 h12 a13 h13
      x0 x1 x2 x3 x4 x5 x6 x7 x8 x9 x10 y)
  unfold kernelRun0_A
  dsimp only
  sl_unfold_words
  simp only [View.readAt_eq_ld, h1.read_unread, h2.read_unread, h3.read_unread, h4.read_unread, h5.read_unread, h6.read_unread,
    h7.read_unread, h8.read_unread, h9.read_unread, h10.read_unread, h11.read_unread, View.ld_unit_zero (S := S1024x2048) hz,
    View.ld_unit_zero (S := S2048x2048) hz, View.ld_unit_zero (S := S1x2048) hz]
  refine List.forall_mem_cons.mpr ⟨fun x => ?_, List.forall_mem_cons.mpr ⟨fun x => ?_, fun p hp => absurd hp List.not_mem_nil⟩⟩
  · obtain ⟨r, j, rfl⟩ : ∃ (r : Fin 128) (j : Fin 2048), x = ix2 r j := ⟨x 0, x 1, eq_ix2 _⟩
    have hr : 384 + r.val < 512 := by omega
    refine (pay13_apply _ _ _ _ _ r j).trans (Eq.trans ?_ (congrArg (nextB x0 x1 x2 x3 x4 x5 x6 x7 x8 x9 x10) (emb_rows inb_S512x2048_S128x2048_384_0 r j hr).symm))
    simp only [scale_row, shift_row, fun k => res_128 x0 x1 x2 x3 x4 x5 x6 x8 x9 x10 r k hr]
    rfl
  · obtain ⟨r, j, rfl⟩ : ∃ (r : Fin 384) (j : Fin 2048), x = ix2 r j := ⟨x 0, x 1, eq_ix2 _⟩
    have hr : 0 + r.val < 512 := by omega
    refine (pay11_apply _ _ _ _ _ _ _ _ _ r j).trans (Eq.trans ?_ (congrArg (nextB x0 x1 x2 x3 x4 x5 x6 x7 x8 x9 x10) (emb_rows inb_S512x2048_S384x2048_0_0 r j hr).symm))
    simp only [scale_row, shift_row, fun k => res_384 x0 x1 x2 x3 x4 x5 x6 x8 x9 x10 r k hr]
    rfl

end Cert.Kernel4Ideal.Mix

end
-- ==== Proof.MixRef.lean ====
/-
  The reference of the branches' merge, read at an index.
-/
module

public import proofs.«01_k».proof.Proof.MixRow
public import proofs.«01_k».proof.Proof.Gen.Reference4Ideal.Read

@[expose] public section

noncomputable section

open Idealize.ShloMosaic Idealize.ShloMosaic.TcCoe Idealize.SL.Sem

namespace Cert.Mix

open Cert.Reference4Ideal Cert.Reference4Ideal.Read

section rows

variable (x0 x1 : FVec Ideal S8192x1024 .bf16) (x2 : FVec Ideal S8192x4096 .bf16) (x3 : FVec Ideal S8192x2048 .f32)
  (x4 : FVec Ideal S2x4x2048 .f32) (x5 x6 : FVec Ideal S1x2048 .f32) (x7 x8 : FVec Ideal S1024x2048 .bf16)
  (x9 : FVec Ideal S2048x2048 .bf16)

/-- The output projection of row `r`. -/
def specP (r : Fin 8192) (j : Fin 2048) : EReal :=
  proj (fun k => x2 (ix2 r ⟨k.val, by omega⟩)) (fun k => x2 (ix2 r ⟨2048 + k.val, by omega⟩)) (fun k => x0 (ix2 r k))
    (fun k => x1 (ix2 r k)) (fun a b => x7 (ix2 a b)) (fun a b => x8 (ix2 a b)) (fun a b => x9 (ix2 a b)) j

/-- The first result: the residual row `r`. -/
def specH (r : Fin 8192) (j : Fin 2048) : EReal :=
  res (fun k => x3 (ix2 r k)) (specP x0 x1 x2 x7 x8 x9 r)
    (fun k => x4 (ix3 ⟨r.val / 4096, by omega⟩ 0 k) * x5 (ix2 0 k)) j

/-- The second result: row `r` of the next part's input. -/
def specA (r : Fin 8192) (j : Fin 2048) : EReal :=
  next (specH x0 x1 x2 x3 x4 x5 x7 x8 x9 r)
    (scale (fun k => x6 (ix2 0 k)) (fun k => x4 (ix3 ⟨r.val / 4096, by omega⟩ 2 k)))
    (fun k => x4 (ix3 ⟨r.val / 4096, by omega⟩ 1 k)) j

theorem ref_proj (b : Fin 2) (s : Fin 4096) (r : Fin 8192) (hr : b.val * 4096 + s.val = r.val) (j : Fin 2048) :
    val_main_v20 (F := Ideal) x0 x1 x2 x7 x8 x9 (ix3 b s j) = specP x0 x1 x2 x7 x8 x9 r j := by
  unfold specP proj merged
  pointwise [val_main_v20, val_main_v19, val_main_v17, val_main_v16, val_main_v15, val_main_v14, val_main_v13, val_main_v12,
    val_main_v11, val_main_v10, val_main_v9, val_main_v8, val_main_v7, val_main_v6, val_main_v5, val_main_v1, val_main_v0]
  simp only [hr]

theorem res_assoc (x n g p : EReal) : x + g * (n * p) = x + n * (g * p) := by
  rw [mul_left_comm]

theorem scale_assoc (n g o s sh : EReal) : n * g * (o + s) + sh = n * (g * (o + s)) + sh := by
  rw [mul_assoc]

theorem ref_h (b : Fin 2) (s : Fin 4096) (r : Fin 8192) (hr : b.val * 4096 + s.val = r.val) (j : Fin 2048) :
    val_main_v37 (F := Ideal) x0 x1 x2 x3 x4 x5 x7 x8 x9 (ix3 b s j) = specH x0 x1 x2 x3 x4 x5 x7 x8 x9 r j := by
  have hb : r.val / 4096 = b.val := by omega
  unfold specH res norm
  rw [← res_assoc]
  simp only [← ref_proj x0 x1 x2 x7 x8 x9 b s r hr]
  pointwise [val_main_v37, val_main_v36, val_main_v35, val_main_v34, val_main_v33, val_main_v32, val_main_v31, val_main_v30,
    val_main_v29, val_main_v28, val_main_v27, val_main_v26, val_main_v25, val_main_v24, val_main_v23, val_main_v22, val_main_v21,
    val_main_v18, val_main_v2, val_main_cst, val_main_cst_0, val_main_cst_1]
  simp only [hr, hb]

theorem ref_a (b : Fin 2) (s : Fin 4096) (r : Fin 8192) (hr : b.val * 4096 + s.val = r.val) (j : Fin 2048) :
    val_main_v57 (F := Ideal) x0 x1 x2 x3 x4 x5 x6 x7 x8 x9 (ix3 b s j) = specA x0 x1 x2 x3 x4 x5 x6 x7 x8 x9 r j := by
  have hb : r.val / 4096 = b.val := by omega
  unfold specA next norm scale
  rw [← scale_assoc]
  simp only [← ref_h x0 x1 x2 x3 x4 x5 x7 x8 x9 b s r hr]
  pointwise [val_main_v57, val_main_v56, val_main_v55, val_main_v54, val_main_v53, val_main_v52, val_main_v51, val_main_v50,
    val_main_v49, val_main_v48, val_main_v47, val_main_v46, val_main_v45, val_main_v44, val_main_v43, val_main_v42, val_main_v41,
    val_main_v40, val_main_v39, val_main_v38, val_main_v4, val_main_v3, val_main_cst_2, val_main_cst_3, val_main_cst_4,
    val_main_cst_5]
  simp only [hb]

theorem ref_apply_h (r : Fin 8192) (j : Fin 2048) :
    val_main_v58 (F := Ideal) x0 x1 x2 x3 x4 x5 x7 x8 x9 (ix2 r j) = specH x0 x1 x2 x3 x4 x5 x7 x8 x9 r j := by
  pointwise [val_main_v58]
  exact ref_h _ _ _ _ _ _ _ _ _ _ _ r (by show r.val / 4096 * 4096 + r.val % 4096 = _; omega) j

theorem ref_apply_a (r : Fin 8192) (j : Fin 2048) :
    val_main_v60 (F := Ideal) x0 x1 x2 x3 x4 x5 x6 x7 x8 x9 (ix2 r j) = specA x0 x1 x2 x3 x4 x5 x6 x7 x8 x9 r j := by
  pointwise [val_main_v60, val_main_v59]
  exact ref_a _ _ _ _ _ _ _ _ _ _ _ _ r (by show r.val / 4096 * 4096 + r.val % 4096 = _; omega) j

end rows

end Cert.Mix

end
-- ==== Proof.MixArray.lean ====
/-
  The branches' merge: its result arrays, read at an index, from the argument arrays.
-/
module

public import proofs.«01_k».proof.Proof.MixBlock
public import proofs.«01_k».proof.Proof.MixRef
public import Idealize.ShloMosaic.Lib.Pipeline.ValueKit
public import Idealize.ShloMosaic.Lib.StableHlo.ReadAt

@[expose] public section

noncomputable section

open Idealize.ShloMosaic Idealize.ShloMosaic.TcCoe Idealize.SL.Sem

namespace Cert.Kernel4Ideal.Mix

open Cert.Kernel4Ideal Cert.Kernel4Ideal.Gen

variable (m : (ℓ : Loc nD τ sig) → Buf (Elt Ideal) ℓ) (c : Dev nD)

theorem e0 : ∀ t : Fin cfg0.N, win0_0.index t = ![t.val, 0] := by decide +kernel
theorem e1 : ∀ t : Fin cfg0.N, win0_1.index t = ![t.val, 0] := by decide +kernel
theorem e2 : ∀ t : Fin cfg0.N, win0_2.index t = ![t.val, 0] := by decide +kernel
theorem e3 : ∀ t : Fin cfg0.N, win0_3.index t = ![t.val, 1] := by decide +kernel
theorem e4 : ∀ t : Fin cfg0.N, win0_4.index t = ![t.val, 0] := by decide +kernel
theorem e5 : ∀ t : Fin cfg0.N, win0_5.index t = ![t.val / 8, 0, 0] := by decide +kernel
theorem e6 : ∀ t : Fin cfg0.N, win0_6.index t = ![0, 0] := by decide +kernel
theorem e7 : ∀ t : Fin cfg0.N, win0_7.index t = ![0, 0] := by decide +kernel
theorem e8 : ∀ t : Fin cfg0.N, win0_8.index t = ![0, 0] := by decide +kernel
theorem e9 : ∀ t : Fin cfg0.N, win0_9.index t = ![0, 0] := by decide +kernel
theorem e10 : ∀ t : Fin cfg0.N, win0_10.index t = ![0, 0] := by decide +kernel
theorem e11 : ∀ t : Fin cfg0.N, win0_11.index t = ![t.val, 0] := by decide +kernel
theorem e12 : ∀ t : Fin cfg0.N, win0_12.index t = ![t.val, 0] := by decide +kernel

theorem V_post (a : Fin 1) (k : Fin 2048) : V m c main_v2 (ix2 a k) = m ((c : Thread nD τ).loc main_arg5) (ix2 0 k) := by
  unfold V
  after_reads_at

theorem V_next (a : Fin 1) (k : Fin 2048) : V m c main_v3 (ix2 a k) = m ((c : Thread nD τ).loc main_arg6) (ix2 0 k) := by
  unfold V
  after_reads_at

theorem hg_apply (t : Fin cfg0.N) (r : Fin 512) (k : Fin 1024) (h : t.val * 512 + r.val < 8192) :
    iblk m c 0 t (ix2 r k) = m ((c : Thread nD τ).loc main_arg0) (ix2 ⟨t.val * 512 + r.val, h⟩ k) := by
  rw [← V_main_arg0 m c]
  blk_ext [iblk, e0]

theorem sg_apply (t : Fin cfg0.N) (r : Fin 512) (k : Fin 1024) (h : t.val * 512 + r.val < 8192) :
    iblk m c 1 t (ix2 r k) = m ((c : Thread nD τ).loc main_arg1) (ix2 ⟨t.val * 512 + r.val, h⟩ k) := by
  rw [← V_main_arg1 m c]
  blk_ext [iblk, e1]

theorem ga_apply (t : Fin cfg0.N) (r : Fin 512) (k : Fin 2048) (h : t.val * 512 + r.val < 8192) : iblk m c 2 t (ix2 r k)
    = m ((c : Thread nD τ).loc main_arg2) (ix2 ⟨t.val * 512 + r.val, h⟩ ⟨k.val, by omega⟩) := by
  rw [← V_main_arg2 m c]
  blk_ext [iblk, e2]

theorem gb_apply (t : Fin cfg0.N) (r : Fin 512) (k : Fin 2048) (h : t.val * 512 + r.val < 8192) : iblk m c 3 t (ix2 r k)
    = m ((c : Thread nD τ).loc main_arg2) (ix2 ⟨t.val * 512 + r.val, h⟩ ⟨2048 + k.val, by omega⟩) := by
  rw [← V_main_arg2 m c]
  blk_ext [iblk, e3]

theorem x_apply (t : Fin cfg0.N) (r : Fin 512) (k : Fin 2048) (h : t.val * 512 + r.val < 8192) :
    iblk m c 4 t (ix2 r k) = m ((c : Thread nD τ).loc main_arg3) (ix2 ⟨t.val * 512 + r.val, h⟩ k) := by
  rw [← V_main_arg3 m c]
  blk_ext [iblk, e4]

theorem mod_apply (t : Fin cfg0.N) (r : Fin 4) (k : Fin 2048) (h : t.val / 8 < 2) :
    iblk m c 5 t (ix3 0 r k) = m ((c : Thread nD τ).loc main_arg4) (ix3 ⟨t.val / 8, h⟩ r k) := by
  rw [← V_main_arg4 m c]
  blk_ext [iblk, e5]

theorem post_apply (t : Fin cfg0.N) (k : Fin 2048) : iblk m c 6 t (ix2 0 k) = m ((c : Thread nD τ).loc main_arg5) (ix2 0 k) := by
  rw [← V_post m c 0]
  blk_ext [iblk, e6]

theorem next_apply (t : Fin cfg0.N) (k : Fin 2048) : iblk m c 7 t (ix2 0 k) = m ((c : Thread nD τ).loc main_arg6) (ix2 0 k) := by
  rw [← V_next m c 0]
  blk_ext [iblk, e7]

theorem wa_apply (t : Fin cfg0.N) (r : Fin 1024) (k : Fin 2048) :
    iblk m c 8 t (ix2 r k) = m ((c : Thread nD τ).loc main_arg7) (ix2 r k) := by
  rw [← V_main_arg7 m c]
  blk_ext [iblk, e8]

theorem wb_apply (t : Fin cfg0.N) (r : Fin 1024) (k : Fin 2048) :
    iblk m c 9 t (ix2 r k) = m ((c : Thread nD τ).loc main_arg8) (ix2 r k) := by
  rw [← V_main_arg8 m c]
  blk_ext [iblk, e9]

theorem wo_apply (t : Fin cfg0.N) (r k : Fin 2048) :
    iblk m c 10 t (ix2 r k) = m ((c : Thread nD τ).loc main_arg9) (ix2 r k) := by
  rw [← V_main_arg9 m c]
  blk_ext [iblk, e10]

theorem resB_apply (x0 x1 : FVec Ideal S512x1024 .bf16) (x2 x3 : FVec Ideal S512x2048 .bf16) (x4 : FVec Ideal S512x2048 .f32) (x5 : FVec Ideal S1x4x2048 .f32)
    (x6 : FVec Ideal S1x2048 .f32) (x8 x9 : FVec Ideal S1024x2048 .bf16) (x10 : FVec Ideal S2048x2048 .bf16) (r : Fin 512)
    (j : Fin 2048) : resB x0 x1 x2 x3 x4 x5 x6 x8 x9 x10 (ix2 r j) = Cert.Mix.res (fun k => x4 (ix2 r k))
      (Cert.Mix.proj (fun k => x2 (ix2 r k)) (fun k => x3 (ix2 r k)) (fun k => x0 (ix2 r k)) (fun k => x1 (ix2 r k))
        (fun a b => x8 (ix2 a b)) (fun a b => x9 (ix2 a b)) (fun a b => x10 (ix2 a b)))
      (fun k => x5 (ix3 0 0 k) * x6 (ix2 0 k)) j := rfl

theorem nextB_apply (x0 x1 : FVec Ideal S512x1024 .bf16) (x2 x3 : FVec Ideal S512x2048 .bf16) (x4 : FVec Ideal S512x2048 .f32) (x5 : FVec Ideal S1x4x2048 .f32)
    (x6 x7 : FVec Ideal S1x2048 .f32) (x8 x9 : FVec Ideal S1024x2048 .bf16) (x10 : FVec Ideal S2048x2048 .bf16) (r : Fin 512)
    (j : Fin 2048) : nextB x0 x1 x2 x3 x4 x5 x6 x7 x8 x9 x10 (ix2 r j)
      = Cert.Mix.next (fun k => resB x0 x1 x2 x3 x4 x5 x6 x8 x9 x10 (ix2 r k)) (Cert.Mix.scale (fun k => x7 (ix2 0 k))
        (fun k => x5 (ix3 0 2 k))) (fun k => x5 (ix3 0 1 k)) j := rfl

/-- A row of the first output's block is that row of the residual. -/
theorem res_row (t : Fin cfg0.N) (r : Fin 512) (j : Fin 2048) (h : t.val * 512 + r.val < 8192) :
    resB (iblk m c 0 t) (iblk m c 1 t) (iblk m c 2 t) (iblk m c 3 t) (iblk m c 4 t) (iblk m c 5 t) (iblk m c 6 t)
      (iblk m c 8 t) (iblk m c 9 t) (iblk m c 10 t) (ix2 r j)
      = Cert.Mix.specH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg9)) ⟨t.val * 512 + r.val, h⟩ j := by
  have ht : t.val < 16 := t.isLt
  have hb : t.val / 8 < 2 := by omega
  have q : (t.val * 512 + r.val) / 4096 = t.val / 8 := by omega
  unfold Cert.Mix.specH
  simp only [q]
  rw [resB_apply]
  simp only [hg_apply m c t r _ h, sg_apply m c t r _ h, ga_apply m c t r _ h, gb_apply m c t r _ h, x_apply m c t r _ h,
    mod_apply m c t _ _ hb, post_apply, wa_apply, wb_apply, wo_apply]
  rfl

theorem final_h : (dats m 0 c).arrAt 11 cfg0.N = fun i => Cert.Mix.specH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg9)) (i 0) (i 1) := by
  refine (dats m 0 c).arrAt_eq_of_covers 11 _ (by decide +kernel) fun t hf y => ?_
  have ht : t.val < 16 := t.isLt
  obtain ⟨r, j, rfl⟩ : ∃ (r : Fin 512) (j : Fin 2048), y = ix2 r j := ⟨y 0, y 1, eq_ix2 _⟩
  have hr : t.val * 512 + r.val < 8192 := by omega
  have h0 : (win0_11.blk t).view.emb (ix2 r j) 0 = (⟨t.val * 512 + r.val, hr⟩ : Fin 8192) := by
    apply Fin.ext; blk_simp [e11]
  have h1 : (win0_11.blk t).view.emb (ix2 r j) 1 = j := by
    apply Fin.ext; blk_simp [e11]
  blk_simp
  rw [after0_11, h0, h1]
  dsimp only [outsAt0]
  rw [out_11]
  exact res_row m c t r j hr

theorem final_a : (dats m 0 c).arrAt 12 cfg0.N = fun i => Cert.Mix.specA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (i 0) (i 1) := by
  refine (dats m 0 c).arrAt_eq_of_covers 12 _ (by decide +kernel) fun t hf y => ?_
  have ht : t.val < 16 := t.isLt
  obtain ⟨r, j, rfl⟩ : ∃ (r : Fin 512) (j : Fin 2048), y = ix2 r j := ⟨y 0, y 1, eq_ix2 _⟩
  have hr : t.val * 512 + r.val < 8192 := by omega
  have hb : t.val / 8 < 2 := by omega
  have q : (t.val * 512 + r.val) / 4096 = t.val / 8 := by omega
  have h0 : (win0_12.blk t).view.emb (ix2 r j) 0 = (⟨t.val * 512 + r.val, hr⟩ : Fin 8192) := by
    apply Fin.ext; blk_simp [e12]
  have h1 : (win0_12.blk t).view.emb (ix2 r j) 1 = j := by
    apply Fin.ext; blk_simp [e12]
  blk_simp
  rw [after0_12, h0, h1]
  dsimp only [outsAt0]
  rw [out_12]
  unfold Cert.Mix.specA
  simp only [q]
  rw [nextB_apply]
  simp only [fun k => res_row m c t r k hr, mod_apply m c t _ _ hb, next_apply]

end Cert.Kernel4Ideal.Mix

end
-- ==== Proof.MixClaim.lean ====
/-
  The branches' merge computes its reference.
-/
module

public import proofs.«01_k».proof.Proof.MixArray
public import proofs.«01_k».proof.Defs

@[expose] public section

noncomputable section

open Idealize.ShloMosaic Idealize.ShloMosaic.TcCoe Idealize.SL.Sem

namespace Cert.Mix

theorem algebraic : Cert.algebraic_Kernel4Ideal_Reference4Ideal (hKernel4Ideal := Cert.Kernel4Ideal.Gen.facts)
    (hReference4Ideal := Cert.Reference4Ideal.Gen.facts) := by
  intro m g m' g' _ hagree
  refine ⟨fun c i => specH (m ((c.tc : Thread _ _).loc Cert.Kernel4Ideal.main_arg0)) (m ((c.tc : Thread _ _).loc Cert.Kernel4Ideal.main_arg1)) (m ((c.tc : Thread _ _).loc Cert.Kernel4Ideal.main_arg2)) (m ((c.tc : Thread _ _).loc Cert.Kernel4Ideal.main_arg3)) (m ((c.tc : Thread _ _).loc Cert.Kernel4Ideal.main_arg4)) (m ((c.tc : Thread _ _).loc Cert.Kernel4Ideal.main_arg5)) (m ((c.tc : Thread _ _).loc Cert.Kernel4Ideal.main_arg7)) (m ((c.tc : Thread _ _).loc Cert.Kernel4Ideal.main_arg8)) (m ((c.tc : Thread _ _).loc Cert.Kernel4Ideal.main_arg9)) (i 0) (i 1),
    fun c i => specA (m ((c.tc : Thread _ _).loc Cert.Kernel4Ideal.main_arg0)) (m ((c.tc : Thread _ _).loc Cert.Kernel4Ideal.main_arg1)) (m ((c.tc : Thread _ _).loc Cert.Kernel4Ideal.main_arg2)) (m ((c.tc : Thread _ _).loc Cert.Kernel4Ideal.main_arg3)) (m ((c.tc : Thread _ _).loc Cert.Kernel4Ideal.main_arg4)) (m ((c.tc : Thread _ _).loc Cert.Kernel4Ideal.main_arg5)) (m ((c.tc : Thread _ _).loc Cert.Kernel4Ideal.main_arg6)) (m ((c.tc : Thread _ _).loc Cert.Kernel4Ideal.main_arg7)) (m ((c.tc : Thread _ _).loc Cert.Kernel4Ideal.main_arg8)) (m ((c.tc : Thread _ _).loc Cert.Kernel4Ideal.main_arg9)) (i 0) (i 1), ?_, ?_⟩
  · exact (θ_run _ _ _).mono (fun _ h c => ⟨(h c).1.trans (Cert.Kernel4Ideal.Mix.final_h m c),
        (h c).2.1.trans (Cert.Kernel4Ideal.Mix.final_a m c), (h c).2.2⟩)
      (Cert.Kernel4Ideal.Value.run_blocks m g)
  · refine (θ_run _ _ _).mono (fun _ h c => ⟨(h c).1.trans ?_, (h c).2.1.trans ?_, (h c).2.2⟩)
      (Cert.Reference4Ideal.Value.run m' g')
    · refine (Cert.Reference4Ideal.Read.val_main_v58_eq _ _).trans ?_
      rw [(hagree c).1, (hagree c).2.1, (hagree c).2.2.1, (hagree c).2.2.2.1, (hagree c).2.2.2.2.1, (hagree c).2.2.2.2.2.1, (hagree c).2.2.2.2.2.2.2.1, (hagree c).2.2.2.2.2.2.2.2.1, (hagree c).2.2.2.2.2.2.2.2.2]
      funext i
      obtain ⟨r, k, rfl⟩ : ∃ (r : Fin 8192) (k : Fin 2048), i = ix2 r k := ⟨i 0, i 1, eq_ix2 _⟩
      exact ref_apply_h _ _ _ _ _ _ _ _ _ r k
    · refine (Cert.Reference4Ideal.Read.val_main_v60_eq _ _).trans ?_
      rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
      funext i
      obtain ⟨r, k, rfl⟩ : ∃ (r : Fin 8192) (k : Fin 2048), i = ix2 r k := ⟨i 0, i 1, eq_ix2 _⟩
      exact ref_apply_a _ _ _ _ _ _ _ _ _ _ r k

end Cert.Mix

end
-- ==== Proof.SigBlock.lean ====
/-
  The input projection of the merge's gates, one grid point: what the body leaves in its output blocks and in its scratch.
-/
module

public import proofs.«01_k».proof.Proof.Gen.Kernel5Ideal.Value
public import Idealize.ShloMosaic.Lib.Pointwise
public import Idealize.ShloMosaic.Lib.Pipeline.Value

@[expose] public section

noncomputable section

open Idealize.ShloMosaic Idealize.ShloMosaic.TcCoe Idealize.SL.Sem

namespace Cert.Kernel5Ideal.Sig

open Cert.Kernel5Ideal Cert.Kernel5Ideal.Gen

theorem hz : (![0, 0] : Fin 2 → Nat) = fun _ => 0 := funext fun a => by fin_cases a <;> rfl

/-- The activation, the sigmoid. -/
def act (s : EReal) : EReal := Ideal.div 1 (1 + Ideal.exp (-s))

/-- The block's values: the sigmoid of the rows of `a` times the columns of `w`. -/
def prod (a : FVec Ideal S2048x2048 .bf16) (w : FVec Ideal S2048x1024 .bf16) : FVec Ideal S2048x1024 .bf16 := fun i =>
  act (∑ k : Fin 2048, a (ix2 (i 0) k) * w (ix2 k (i 1)))

/-- One store of the body: 128 rows of the block. -/
def tile (a : Vec Ideal S128x2048 .bf16) (w : Vec Ideal S2048x1024 .bf16) : FVec Ideal S128x1024 .bf16 :=
  k0_pay4 (F := Ideal) a w

theorem rows_in {o : Nat} (ia : ∀ b, (![o, 0] : Fin 2 → Nat) b + S128x2048.size b ≤ S2048x2048.size b) :
    ∀ b, (![o, 0] : Fin 2 → Nat) b + S128x1024.size b ≤ S2048x1024.size b
  | ⟨0, _⟩ => ia 0
  | ⟨1, _⟩ => Nat.le_refl 1024

theorem tile_eq (a : FVec Ideal S2048x2048 .bf16) (w : FVec Ideal S2048x1024 .bf16) (o : Nat)
    (ia : ∀ b, (![o, 0] : Fin 2 → Nat) b + S128x2048.size b ≤ S2048x2048.size b) (x : S128x1024.Idx) :
    tile (View.ld a (Rect.unit (s := S2048x2048) ![o, 0] S128x2048.size ia)) w x
      = prod a w ((Rect.unit (s := S2048x1024) ![o, 0] S128x1024.size (rows_in ia)).emb x) := by
  have e0 : o + 128 ≤ 2048 := ia 0
  have hx0 : (x 0).val < 128 := (x 0).isLt
  have he : (Rect.unit (s := S2048x1024) ![o, 0] S128x1024.size (rows_in ia)).emb x = ix2 ⟨o + (x 0).val, by omega⟩ (x 1) := by
    funext a
    match a with
    | ⟨0, _⟩ => exact Fin.ext (by show o + 1 * (x 0).val = _; rw [Nat.one_mul]; rfl)
    | ⟨1, _⟩ => exact Fin.ext (by show 0 + 1 * (x 1).val = _; rw [Nat.one_mul, Nat.zero_add]; rfl)
  rw [he]
  unfold tile prod act
  pointwise [k0_pay4]
  simp only [zero_sub]

/-- The rounded block of weights, stored to the scratch. -/
theorem cast_block (w : FVec Ideal S2048x1024 .f32) : k0_pay3 (F := Ideal) w = w := by
  unfold k0_pay3
  simp only [shapeCast_self]
  rfl

variable (c : Dev nD) (i : grid0.Coords) (a2 : Memref sig .tc .vmem S2048x2048 .bf16) (h2 : a2.IsWhole)
  (a3 : Memref sig .tc .vmem S2048x1024 .f32) (h3 : a3.IsWhole) (a4 : Memref sig .tc .vmem S128x2048 .f32) (h4 : a4.IsWhole)
  (a5 : Memref sig .tc .vmem S2048x1024 .bf16) (h5 : a5.IsWhole) (a6 : Memref sig .tc .vmem S128x2048 .bf16) (h6 : a6.IsWhole)
  (a7 : Memref sig .tc .vmem S2048x1024 .bf16) (h7 : a7.IsWhole)
  (x0 : FVec Ideal S2048x2048 .bf16) (x1 : FVec Ideal S2048x1024 .f32) (x2 : FVec Ideal S128x2048 .f32)

/-- A point that keeps the scratch: its block is the product with what the scratch holds. -/
theorem out_B (hc : ¬cond0_0 i) (w : FVec Ideal S2048x1024 .bf16) (y : S2048x1024.Idx) :
    out0_B_3 (F := Ideal) c i a2 h2 a3 h3 a4 h4 a5 h5 a6 h6 a7 h7 hc x0 x1 x2 w y = prod x0 w y := by
  unfold out0_B_3
  rw [View.read_writes_eq_canon _ _ _ (cover0_B_3 (F := Ideal) c i a2 h2 a3 h3 a4 h4 a5 h5 a6 h6 a7 h7 hc x0 x1 x2 w)]
  refine View.canon_apply_of_pieces (Val := Elt Ideal) (e := .bf16) (prod x0 w) _ ?_ y
    (cover0_B_3 (F := Ideal) c i a2 h2 a3 h3 a4 h4 a5 h5 a6 h6 a7 h7 hc x0 x1 x2 w y)
  unfold kernelRun0_B
  dsimp only
  sl_unfold_words
  simp only [View.readAt_eq_ld, h2.read_unread, h7.read_unread, View.ld_unit_zero (S := S2048x1024) hz]
  iterate 16 refine List.forall_mem_cons.mpr ⟨fun x => tile_eq x0 w _ _ x, ?_⟩
  exact fun p hp => absurd hp List.not_mem_nil

/-- A point that fills the scratch: its block is the product with the block of weights. -/
theorem out_A (hc : cond0_0 i) (y : S2048x1024.Idx) :
    out0_A_3 (F := Ideal) c i a2 h2 a3 h3 a4 h4 a5 h5 a6 h6 a7 h7 hc x0 x1 x2 y = prod x0 x1 y := by
  unfold out0_A_3
  rw [View.read_writes_eq_canon _ _ _ (cover0_A_3 (F := Ideal) c i a2 h2 a3 h3 a4 h4 a5 h5 a6 h6 a7 h7 hc x0 x1 x2)]
  refine View.canon_apply_of_pieces (Val := Elt Ideal) (e := .bf16) (prod x0 x1) _ ?_ y
    (cover0_A_3 (F := Ideal) c i a2 h2 a3 h3 a4 h4 a5 h5 a6 h6 a7 h7 hc x0 x1 x2 y)
  unfold kernelRun0_A
  dsimp only
  sl_unfold_words
  simp only [View.readAt_eq_ld, h2.read_unread, h3.read_unread, View.ld_unit_zero (S := S2048x1024) hz,
    View.readCov_unit_zero (S := S2048x1024) _ hz, cast_block]
  iterate 16 refine List.forall_mem_cons.mpr ⟨fun x => tile_eq x0 x1 _ _ x, ?_⟩
  exact fun p hp => absurd hp List.not_mem_nil

/-- … and the scratch then holds that block of weights. -/
theorem scratch_A (hc : cond0_0 i) :
    sout0_A_0 (F := Ideal) c i a2 h2 a3 h3 a4 h4 a5 h5 a6 h6 a7 h7 hc x0 x1 x2 = x1 := by
  unfold sout0_A_0
  rw [View.read_writes_eq_canon _ _ _ (scover0_A_0 (F := Ideal) c i a2 h2 a3 h3 a4 h4 a5 h5 a6 h6 a7 h7 hc x0 x1 x2)]
  unfold kernelRun0_A
  dsimp only
  sl_unfold_words
  rw [View.canon_unit_zero hz]
  unfold k0_pay3
  simp only [View.readAt_eq_ld, h3.read_unread, View.ld_unit_zero (S := S2048x1024) hz, shapeCast_self]
  rfl

/-- The second output's block is the block of the other weights, rounded. -/
theorem side_A (hc : cond0_0 i) :
    out0_A_4 (F := Ideal) c i a2 h2 a3 h3 a4 h4 a5 h5 a6 h6 a7 h7 hc x0 x1 x2 = x2 := by
  unfold out0_A_4
  rw [View.read_writes_eq_canon _ _ _ (cover0_A_4 (F := Ideal) c i a2 h2 a3 h3 a4 h4 a5 h5 a6 h6 a7 h7 hc x0 x1 x2)]
  unfold kernelRun0_A
  dsimp only
  sl_unfold_words
  rw [View.canon_unit_zero hz]
  unfold k0_pay2
  simp only [View.readAt_eq_ld, h4.read_unread, View.ld_unit_zero (S := S128x2048) hz, shapeCast_self]
  rfl

theorem side_B (hc : ¬cond0_0 i) (w : FVec Ideal S2048x1024 .bf16) :
    out0_B_4 (F := Ideal) c i a2 h2 a3 h3 a4 h4 a5 h5 a6 h6 a7 h7 hc x0 x1 x2 w = x2 := by
  unfold out0_B_4
  rw [View.read_writes_eq_canon _ _ _ (cover0_B_4 (F := Ideal) c i a2 h2 a3 h3 a4 h4 a5 h5 a6 h6 a7 h7 hc x0 x1 x2 w)]
  unfold kernelRun0_B
  dsimp only
  sl_unfold_words
  rw [View.canon_unit_zero hz]
  unfold k0_pay2
  simp only [View.readAt_eq_ld, h4.read_unread, View.ld_unit_zero (S := S128x2048) hz, shapeCast_self]
  rfl

end Cert.Kernel5Ideal.Sig

end
-- ==== Proof.SigRef.lean ====
/-
  The reference of the input projection of the merge's gates, read at an index.
-/
module

public import proofs.«01_k».proof.Proof.SigBlock
public import proofs.«01_k».proof.Proof.Gen.Reference5Ideal.Read

@[expose] public section

noncomputable section

open Idealize.ShloMosaic Idealize.ShloMosaic.TcCoe Idealize.SL.Sem

namespace Cert.Sig

open Cert.Reference5Ideal Cert.Reference5Ideal.Read

/-- The projection at row `r`, column `j`: the sigmoid of a row of `a` times a column of this part of the weights. -/
def spec (a : FVec Ideal S8192x2048 .bf16) (w : FVec Ideal S1x2048x11264 .f32) (r : Fin 8192) (j : Fin 4096) : EReal :=
  Kernel5Ideal.Sig.act (∑ k : Fin 2048, a (ix2 r k) * w (ix3 0 k ⟨7168 + j.val, by omega⟩))

theorem ref_apply (a : FVec Ideal S8192x2048 .bf16) (w : FVec Ideal S1x2048x11264 .f32) (r : Fin 8192) (j : Fin 4096) :
    val_main_v10 (F := Ideal) a w (ix2 r j) = spec a w r j := by
  unfold spec Kernel5Ideal.Sig.act
  pointwise [val_main_v10, val_main_v9, val_main_v8, val_main_v7, val_main_v6, val_main_v5, val_main_v4, val_main_v3, val_main_v2, val_main_v1, val_main_v0, val_main_cst, val_main_cst_0]

theorem ref_side (w : FVec Ideal S1x2048x2048 .f32) (r : Fin 2048) (j : Fin 2048) :
    val_main_v12 (F := Ideal) w (ix2 r j) = w (ix3 0 r j) := by
  pointwise [val_main_v12, val_main_v11]

end Cert.Sig

end
-- ==== Proof.SigArray.lean ====
/-
  The input projection of the merge's gates: its result arrays, read at an index, from the argument arrays.
-/
module

public import proofs.«01_k».proof.Proof.SigRef
public import Idealize.ShloMosaic.Lib.Pipeline.ValueKit
public import Idealize.ShloMosaic.Lib.StableHlo.ReadAt

@[expose] public section

noncomputable section

open Idealize.ShloMosaic Idealize.ShloMosaic.TcCoe Idealize.SL.Sem

namespace Cert.Kernel5Ideal.Sig

open Cert.Kernel5Ideal Cert.Kernel5Ideal.Gen

variable (m : (ℓ : Loc nD τ sig) → Buf (Elt Ideal) ℓ) (c : Dev nD)

theorem e0 : ∀ t : Fin cfg0.N, win0_0.index t = ![t.val % 4, 0] := by decide +kernel
theorem e1 : ∀ t : Fin cfg0.N, win0_1.index t = ![0, 7 + t.val / 4] := by decide +kernel
theorem e2 : ∀ t : Fin cfg0.N, win0_2.index t = ![t.val, 0] := by decide +kernel
theorem e3 : ∀ t : Fin cfg0.N, win0_3.index t = ![t.val % 4, t.val / 4] := by decide +kernel
theorem e4 : ∀ t : Fin cfg0.N, win0_4.index t = ![t.val, 0] := by decide +kernel

theorem V_w (r : Fin 2048) (j : Fin 11264) : V m c main_v0 (ix2 r j)
    = m ((c : Thread nD τ).loc main_arg1) (ix3 0 r j) := by
  unfold V
  after_reads_at

theorem V_side (r : Fin 2048) (j : Fin 2048) : V m c main_v1 (ix2 r j)
    = m ((c : Thread nD τ).loc main_arg2) (ix3 0 r j) := by
  unfold V
  after_reads_at

theorem a_apply (t : Fin cfg0.N) (r k : Fin 2048) (h : t.val % 4 * 2048 + r.val < 8192) : iblk m c 0 t (ix2 r k)
    = m ((c : Thread nD τ).loc main_arg0) (ix2 ⟨t.val % 4 * 2048 + r.val, h⟩ k) := by
  rw [← V_main_arg0 m c]
  blk_ext [iblk, e0]

theorem w_apply (t : Fin cfg0.N) (k : Fin 2048) (j : Fin 1024) (h : t.val / 4 * 1024 + j.val < 4096) :
    iblk m c 1 t (ix2 k j) = m ((c : Thread nD τ).loc main_arg1) (ix3 0 k ⟨7168 + (t.val / 4 * 1024 + j.val), by omega⟩) := by
  rw [← V_w m c]
  blk_ext [iblk, e1]

theorem side_apply (t : Fin cfg0.N) (r : Fin 128) (j : Fin 2048) (h : t.val * 128 + r.val < 2048) :
    iblk m c 2 t (ix2 r j) = m ((c : Thread nD τ).loc main_arg2) (ix3 0 ⟨t.val * 128 + r.val, h⟩ j) := by
  rw [← V_side m c]
  blk_ext [iblk, e2]

theorem keep (t : Fin cfg0.N) (h0 : ¬t.val % 4 = 0) : (outsAt0 (F := Ideal) m c t.val t.isLt).2.2
    = (outsAt0 (F := Ideal) m c (t.val - 1) (Nat.lt_of_le_of_lt (Nat.sub_le _ _) t.isLt)).2.2 := by
  rw [outsAt0_B m c t h0]
  dsimp only [sout0_B_0]

/-- The scratch after a point holds the block of weights of the point's column of blocks. -/
theorem scratch (n : ℕ) : ∀ h : n < cfg0.N, ∀ (k : Fin 2048) (j : Fin 1024) (hj : n / 4 * 1024 + j.val < 4096),
    (outsAt0 (F := Ideal) m c n h).2.2 (ix2 k j)
      = m ((c : Thread nD τ).loc main_arg1) (ix3 0 k ⟨7168 + (n / 4 * 1024 + j.val), by omega⟩) := by
  induction n with
  | zero =>
    intro h k j hj
    rw [outsAt0_A m c ⟨0, h⟩ rfl]
    dsimp only
    rw [scratch_A]
    exact w_apply m c ⟨0, h⟩ k j hj
  | succ n ih =>
    intro h k j hj
    by_cases h0 : (n + 1) % 4 = 0
    · rw [outsAt0_A m c ⟨n + 1, h⟩ h0]
      dsimp only
      rw [scratch_A]
      exact w_apply m c ⟨n + 1, h⟩ k j hj
    · have hk := congrFun (keep m c ⟨n + 1, h⟩ h0) (ix2 k j)
      have q : (n + 1) / 4 = n / 4 := by omega
      have hj' : n / 4 * 1024 + j.val < 4096 := by omega
      refine hk.trans ((ih (Nat.lt_of_succ_lt h) k j hj').trans ?_)
      simp only [q]

/-- The first output's block after a point is the product with what the scratch then holds. -/
theorem out_apply (t : Fin cfg0.N) (y : S2048x1024.Idx) :
    (outsAt0 (F := Ideal) m c t.val t.isLt).1 y = prod (iblk m c 0 t) (outsAt0 (F := Ideal) m c t.val t.isLt).2.2 y := by
  by_cases h0 : t.val % 4 = 0
  · rw [outsAt0_A m c t h0]
    dsimp only
    rw [scratch_A, out_A]
  · rw [outsAt0_B m c t h0]
    dsimp only
    rw [out_B]
    rfl

theorem out_side (t : Fin cfg0.N) : (outsAt0 (F := Ideal) m c t.val t.isLt).2.1 = iblk m c 2 t := by
  by_cases h0 : t.val % 4 = 0
  · rw [outsAt0_A m c t h0]
    dsimp only
    rw [side_A]
  · rw [outsAt0_B m c t h0]
    dsimp only
    rw [side_B]

theorem prod_apply (a : FVec Ideal S2048x2048 .bf16) (w : FVec Ideal S2048x1024 .bf16) (r : Fin 2048) (j : Fin 1024) :
    prod a w (ix2 r j) = act (∑ k : Fin 2048, a (ix2 r k) * w (ix2 k j)) := rfl

theorem mul_congr {a a' b b' : EReal} (h : a = a') (h' : b = b') : a * b = a' * b' := by rw [h, h']

theorem final : (dats m 0 c).arrAt 3 cfg0.N = fun i => Cert.Sig.spec (m ((c : Thread nD τ).loc main_arg0))
    (m ((c : Thread nD τ).loc main_arg1)) (i 0) (i 1) := by
  refine (dats m 0 c).arrAt_eq_of_covers 3 _ (by decide +kernel) fun t hf y => ?_
  have ht : t.val < 16 := t.isLt
  obtain ⟨r, j, rfl⟩ : ∃ (r : Fin 2048) (j : Fin 1024), y = ix2 r j := ⟨y 0, y 1, eq_ix2 _⟩
  have hr : t.val % 4 * 2048 + r.val < 8192 := by omega
  have hj : t.val / 4 * 1024 + j.val < 4096 := by omega
  have h0 : (win0_3.blk t).view.emb (ix2 r j) 0 = (⟨t.val % 4 * 2048 + r.val, hr⟩ : Fin 8192) := by
    apply Fin.ext; blk_simp [e3]
  have h1 : (win0_3.blk t).view.emb (ix2 r j) 1 = (⟨t.val / 4 * 1024 + j.val, hj⟩ : Fin 4096) := by
    apply Fin.ext; blk_simp [e3]
  blk_simp
  rw [after0_3, out_apply, h0, h1, prod_apply]
  unfold Cert.Sig.spec
  exact congrArg act (Finset.sum_congr rfl fun k _ => mul_congr (a_apply m c t r k hr) (scratch m c t.val t.isLt k j hj))

theorem final_side : (dats m 0 c).arrAt 4 cfg0.N = fun i => m ((c : Thread nD τ).loc main_arg2) (ix3 0 (i 0) (i 1)) := by
  refine (dats m 0 c).arrAt_eq_of_covers 4 _ (by decide +kernel) fun t hf y => ?_
  have ht : t.val < 16 := t.isLt
  obtain ⟨r, j, rfl⟩ : ∃ (r : Fin 128) (j : Fin 2048), y = ix2 r j := ⟨y 0, y 1, eq_ix2 _⟩
  have hr : t.val * 128 + r.val < 2048 := by omega
  have h0 : (win0_4.blk t).view.emb (ix2 r j) 0 = (⟨t.val * 128 + r.val, hr⟩ : Fin 2048) := by
    apply Fin.ext; blk_simp [e4]
  have h1 : (win0_4.blk t).view.emb (ix2 r j) 1 = j := by
    apply Fin.ext; blk_simp [e4]
  blk_simp
  rw [after0_4, out_side, h0, h1]
  exact side_apply m c t r j hr

end Cert.Kernel5Ideal.Sig

end
-- ==== Proof.SigClaim.lean ====
/-
  The input projection of the merge's gates computes its reference.
-/
module

public import proofs.«01_k».proof.Proof.SigArray
public import proofs.«01_k».proof.Defs

@[expose] public section

noncomputable section

open Idealize.ShloMosaic Idealize.ShloMosaic.TcCoe Idealize.SL.Sem

namespace Cert.Sig

theorem algebraic : Cert.algebraic_Kernel5Ideal_Reference5Ideal (hKernel5Ideal := Cert.Kernel5Ideal.Gen.facts)
    (hReference5Ideal := Cert.Reference5Ideal.Gen.facts) := by
  intro m g m' g' _ hagree
  refine ⟨fun c i => spec (m ((c.tc : Thread _ _).loc Cert.Kernel5Ideal.main_arg0))
    (m ((c.tc : Thread _ _).loc Cert.Kernel5Ideal.main_arg1)) (i 0) (i 1),
    fun c i => m ((c.tc : Thread _ _).loc Cert.Kernel5Ideal.main_arg2) (ix3 0 (i 0) (i 1)), ?_, ?_⟩
  · exact (θ_run _ _ _).mono (fun _ h c => ⟨(h c).1.trans (Cert.Kernel5Ideal.Sig.final m c),
        (h c).2.1.trans (Cert.Kernel5Ideal.Sig.final_side m c), (h c).2.2⟩)
      (Cert.Kernel5Ideal.Value.run_blocks m g)
  · refine (θ_run _ _ _).mono (fun _ h c => ⟨(h c).1.trans ?_, (h c).2.1.trans ?_, (h c).2.2⟩)
      (Cert.Reference5Ideal.Value.run m' g')
    · refine (Cert.Reference5Ideal.Read.val_main_v10_eq _ _).trans ?_
      rw [(hagree c).1, (hagree c).2.1]
      funext i
      obtain ⟨r, k, rfl⟩ : ∃ (r : Fin 8192) (k : Fin 4096), i = ix2 r k := ⟨i 0, i 1, eq_ix2 _⟩
      exact ref_apply _ _ r k
    · refine (Cert.Reference5Ideal.Read.val_main_v12_eq _).trans ?_
      rw [(hagree c).2.2]
      funext i
      obtain ⟨r, k, rfl⟩ : ∃ (r : Fin 2048) (k : Fin 2048), i = ix2 r k := ⟨i 0, i 1, eq_ix2 _⟩
      exact ref_side _ r k

end Cert.Sig

end
-- ==== Proof.GeluBlock.lean ====
/-
  The input projection of the spatial gating unit, one grid point: what the body leaves in its output blocks and in its scratch.
-/
module

public import proofs.«01_k».proof.Proof.Gen.Kernel6Ideal.Value
public import Idealize.ShloMosaic.Lib.Pointwise
public import Idealize.ShloMosaic.Lib.Pipeline.Value

@[expose] public section

noncomputable section

open Idealize.ShloMosaic Idealize.ShloMosaic.TcCoe Idealize.SL.Sem

namespace Cert.Kernel6Ideal.Gelu

open Cert.Kernel6Ideal Cert.Kernel6Ideal.Gen

theorem hz : (![0, 0] : Fin 2 → Nat) = fun _ => 0 := funext fun a => by fin_cases a <;> rfl

/-- The activation, the Gaussian error unit. -/
def act (s : EReal) : EReal :=
  Ideal.ofBits .f32 0x3F000000#32 * s * (1 + Ideal.erf (s * (((Real.sqrt 2)⁻¹ : ℝ) : EReal)))

/-- The block's values: the Gaussian error unit of the rows of `a` times the columns of `w`. -/
def prod (a : FVec Ideal S2048x2048 .bf16) (w : FVec Ideal S2048x1024 .bf16) : FVec Ideal S2048x1024 .bf16 := fun i =>
  act (∑ k : Fin 2048, a (ix2 (i 0) k) * w (ix2 k (i 1)))

/-- The kernel's named constant is the real it stands for. -/
theorem inv_sqrt_2 : Named.named (F := Ideal) κ "inv_sqrt_2" (φ := .f32) 0x3F3504F3#32 = (((Real.sqrt 2)⁻¹ : ℝ) : EReal) :=
  IdealRules.named_const.ideal_named_scalar _ _ _ _ rfl

/-- One store of the body: 128 rows of the block. -/
def tile (a : Vec Ideal S128x2048 .bf16) (w : Vec Ideal S2048x1024 .bf16) : FVec Ideal S128x1024 .bf16 :=
  k0_pay5 (F := Ideal) a w

theorem rows_in {o : Nat} (ia : ∀ b, (![o, 0] : Fin 2 → Nat) b + S128x2048.size b ≤ S2048x2048.size b) :
    ∀ b, (![o, 0] : Fin 2 → Nat) b + S128x1024.size b ≤ S2048x1024.size b
  | ⟨0, _⟩ => ia 0
  | ⟨1, _⟩ => Nat.le_refl 1024

theorem tile_eq (a : FVec Ideal S2048x2048 .bf16) (w : FVec Ideal S2048x1024 .bf16) (o : Nat)
    (ia : ∀ b, (![o, 0] : Fin 2 → Nat) b + S128x2048.size b ≤ S2048x2048.size b) (x : S128x1024.Idx) :
    tile (View.ld a (Rect.unit (s := S2048x2048) ![o, 0] S128x2048.size ia)) w x
      = prod a w ((Rect.unit (s := S2048x1024) ![o, 0] S128x1024.size (rows_in ia)).emb x) := by
  have e0 : o + 128 ≤ 2048 := ia 0
  have hx0 : (x 0).val < 128 := (x 0).isLt
  have he : (Rect.unit (s := S2048x1024) ![o, 0] S128x1024.size (rows_in ia)).emb x = ix2 ⟨o + (x 0).val, by omega⟩ (x 1) := by
    funext a
    match a with
    | ⟨0, _⟩ => exact Fin.ext (by show o + 1 * (x 0).val = _; rw [Nat.one_mul]; rfl)
    | ⟨1, _⟩ => exact Fin.ext (by show 0 + 1 * (x 1).val = _; rw [Nat.one_mul, Nat.zero_add]; rfl)
  rw [he]
  unfold tile prod act
  pointwise [k0_pay5]
  rw [inv_sqrt_2]
  rfl

/-- The rounded block of weights, stored to the scratch. -/
theorem cast_block (w : FVec Ideal S2048x1024 .f32) : k0_pay4 (F := Ideal) w = w := by
  unfold k0_pay4
  simp only [shapeCast_self]
  rfl

variable (c : Dev nD) (i : grid0.Coords) (a2 : Memref sig .tc .vmem S2048x2048 .bf16) (h2 : a2.IsWhole)
  (a3 : Memref sig .tc .vmem S2048x1024 .f32) (h3 : a3.IsWhole) (a4 : Memref sig .tc .vmem S128x2048 .f32) (h4 : a4.IsWhole)
  (a5 : Memref sig .tc .vmem S2048x1024 .bf16) (h5 : a5.IsWhole) (a6 : Memref sig .tc .vmem S128x2048 .bf16) (h6 : a6.IsWhole)
  (a7 : Memref sig .tc .vmem S2048x1024 .bf16) (h7 : a7.IsWhole)
  (x0 : FVec Ideal S2048x2048 .bf16) (x1 : FVec Ideal S2048x1024 .f32) (x2 : FVec Ideal S128x2048 .f32)

/-- A point that keeps the scratch: its block is the product with what the scratch holds. -/
theorem out_B (hc : ¬cond0_0 i) (w : FVec Ideal S2048x1024 .bf16) (y : S2048x1024.Idx) :
    out0_B_3 (F := Ideal) c i a2 h2 a3 h3 a4 h4 a5 h5 a6 h6 a7 h7 hc x0 x1 x2 w y = prod x0 w y := by
  unfold out0_B_3
  rw [View.read_writes_eq_canon _ _ _ (cover0_B_3 (F := Ideal) c i a2 h2 a3 h3 a4 h4 a5 h5 a6 h6 a7 h7 hc x0 x1 x2 w)]
  refine View.canon_apply_of_pieces (Val := Elt Ideal) (e := .bf16) (prod x0 w) _ ?_ y
    (cover0_B_3 (F := Ideal) c i a2 h2 a3 h3 a4 h4 a5 h5 a6 h6 a7 h7 hc x0 x1 x2 w y)
  unfold kernelRun0_B
  dsimp only
  sl_unfold_words
  simp only [View.readAt_eq_ld, h2.read_unread, h7.read_unread, View.ld_unit_zero (S := S2048x1024) hz]
  iterate 16 refine List.forall_mem_cons.mpr ⟨fun x => tile_eq x0 w _ _ x, ?_⟩
  exact fun p hp => absurd hp List.not_mem_nil

/-- A point that fills the scratch: its block is the product with the block of weights. -/
theorem out_A (hc : cond0_0 i) (y : S2048x1024.Idx) :
    out0_A_3 (F := Ideal) c i a2 h2 a3 h3 a4 h4 a5 h5 a6 h6 a7 h7 hc x0 x1 x2 y = prod x0 x1 y := by
  unfold out0_A_3
  rw [View.read_writes_eq_canon _ _ _ (cover0_A_3 (F := Ideal) c i a2 h2 a3 h3 a4 h4 a5 h5 a6 h6 a7 h7 hc x0 x1 x2)]
  refine View.canon_apply_of_pieces (Val := Elt Ideal) (e := .bf16) (prod x0 x1) _ ?_ y
    (cover0_A_3 (F := Ideal) c i a2 h2 a3 h3 a4 h4 a5 h5 a6 h6 a7 h7 hc x0 x1 x2 y)
  unfold kernelRun0_A
  dsimp only
  sl_unfold_words
  simp only [View.readAt_eq_ld, h2.read_unread, h3.read_unread, View.ld_unit_zero (S := S2048x1024) hz,
    View.readCov_unit_zero (S := S2048x1024) _ hz, cast_block]
  iterate 16 refine List.forall_mem_cons.mpr ⟨fun x => tile_eq x0 x1 _ _ x, ?_⟩
  exact fun p hp => absurd hp List.not_mem_nil

/-- … and the scratch then holds that block of weights. -/
theorem scratch_A (hc : cond0_0 i) :
    sout0_A_0 (F := Ideal) c i a2 h2 a3 h3 a4 h4 a5 h5 a6 h6 a7 h7 hc x0 x1 x2 = x1 := by
  unfold sout0_A_0
  rw [View.read_writes_eq_canon _ _ _ (scover0_A_0 (F := Ideal) c i a2 h2 a3 h3 a4 h4 a5 h5 a6 h6 a7 h7 hc x0 x1 x2)]
  unfold kernelRun0_A
  dsimp only
  sl_unfold_words
  rw [View.canon_unit_zero hz]
  unfold k0_pay4
  simp only [View.readAt_eq_ld, h3.read_unread, View.ld_unit_zero (S := S2048x1024) hz, shapeCast_self]
  rfl

/-- The second output's block is the block of the other weights, rounded. -/
theorem side_A (hc : cond0_0 i) :
    out0_A_4 (F := Ideal) c i a2 h2 a3 h3 a4 h4 a5 h5 a6 h6 a7 h7 hc x0 x1 x2 = x2 := by
  unfold out0_A_4
  rw [View.read_writes_eq_canon _ _ _ (cover0_A_4 (F := Ideal) c i a2 h2 a3 h3 a4 h4 a5 h5 a6 h6 a7 h7 hc x0 x1 x2)]
  unfold kernelRun0_A
  dsimp only
  sl_unfold_words
  rw [View.canon_unit_zero hz]
  unfold k0_pay3
  simp only [View.readAt_eq_ld, h4.read_unread, View.ld_unit_zero (S := S128x2048) hz, shapeCast_self]
  rfl

theorem side_B (hc : ¬cond0_0 i) (w : FVec Ideal S2048x1024 .bf16) :
    out0_B_4 (F := Ideal) c i a2 h2 a3 h3 a4 h4 a5 h5 a6 h6 a7 h7 hc x0 x1 x2 w = x2 := by
  unfold out0_B_4
  rw [View.read_writes_eq_canon _ _ _ (cover0_B_4 (F := Ideal) c i a2 h2 a3 h3 a4 h4 a5 h5 a6 h6 a7 h7 hc x0 x1 x2 w)]
  unfold kernelRun0_B
  dsimp only
  sl_unfold_words
  rw [View.canon_unit_zero hz]
  unfold k0_pay3
  simp only [View.readAt_eq_ld, h4.read_unread, View.ld_unit_zero (S := S128x2048) hz, shapeCast_self]
  rfl

end Cert.Kernel6Ideal.Gelu

end
-- ==== Proof.Root.lean ====
/-
  A quotient by the root of a constant, as a product with the root's inverse.
-/
module

public import Idealize.ShloMosaic.PureOps.Ideal

@[expose] public section

noncomputable section

open Idealize.ShloMosaic

namespace Cert.Root

theorem word_two : Ideal.ofBits .f32 0x40000000#32 = ((2 : ℝ) : EReal) := by
  simp [Ideal.ofBits, Ideal.ieee, -EReal.coe_mul]; norm_num

theorem word_width : Ideal.ofBits .f32 0x43000000#32 = ((128 : ℝ) : EReal) := by
  simp [Ideal.ofBits, Ideal.ieee, -EReal.coe_mul]; norm_num

theorem div_root (x : EReal) {p : ℝ} (hp : 0 < p) : Ideal.div x (Ideal.sqrt (p : EReal)) = x * (((Real.sqrt p)⁻¹ : ℝ) : EReal) := by
  rw [Ideal.sqrt_coe, if_neg (not_lt.mpr hp.le), Ideal.div_coe (Real.sqrt_pos.mpr hp).ne', one_div]

theorem div_root_two (x : EReal) :
    Ideal.div x (Ideal.sqrt (Ideal.ofBits .f32 0x40000000#32)) = x * (((Real.sqrt 2)⁻¹ : ℝ) : EReal) := by
  rw [word_two, div_root x two_pos]

theorem div_root_width (x : EReal) :
    Ideal.div x (Ideal.sqrt (Ideal.ofBits .f32 0x43000000#32)) = x * (((Real.sqrt 128)⁻¹ : ℝ) : EReal) := by
  rw [word_width, div_root x (by norm_num)]

end Cert.Root

end
-- ==== Proof.GeluRef.lean ====
/-
  The reference of the input projection of the spatial gating unit, read at an index.
-/
module

public import proofs.«01_k».proof.Proof.GeluBlock
public import proofs.«01_k».proof.Proof.Gen.Reference6Ideal.Read
public import proofs.«01_k».proof.Proof.Root

@[expose] public section

noncomputable section

open Idealize.ShloMosaic Idealize.ShloMosaic.TcCoe Idealize.SL.Sem

namespace Cert.Gelu

open Cert.Reference6Ideal Cert.Reference6Ideal.Read

/-- The projection at row `r`, column `j`: the Gaussian error unit of a row of `a` times a column of this part of the weights. -/
def spec (a : FVec Ideal S8192x2048 .bf16) (w : FVec Ideal S1x2048x11264 .f32) (r : Fin 8192) (j : Fin 2048) : EReal :=
  Kernel6Ideal.Gelu.act (∑ k : Fin 2048, a (ix2 r k) * w (ix3 0 k ⟨5120 + j.val, by omega⟩))

theorem ref_apply (a : FVec Ideal S8192x2048 .bf16) (w : FVec Ideal S1x2048x11264 .f32) (r : Fin 8192) (j : Fin 2048) :
    val_main_v13 (F := Ideal) a w (ix2 r j) = spec a w r j := by
  unfold spec Kernel6Ideal.Gelu.act
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rw [Cert.Root.div_root_two]

theorem ref_side (w : FVec Ideal S1x1024x2048 .f32) (r : Fin 1024) (j : Fin 2048) :
    val_main_v15 (F := Ideal) w (ix2 r j) = w (ix3 0 r j) := by
  pointwise [val_main_v15, val_main_v14]

end Cert.Gelu

end
-- ==== Proof.GeluArray.lean ====
/-
  The input projection of the spatial gating unit: its result arrays, read at an index, from the argument arrays.
-/
module

public import proofs.«01_k».proof.Proof.GeluRef
public import Idealize.ShloMosaic.Lib.Pipeline.ValueKit
public import Idealize.ShloMosaic.Lib.StableHlo.ReadAt

@[expose] public section

noncomputable section

open Idealize.ShloMosaic Idealize.ShloMosaic.TcCoe Idealize.SL.Sem

namespace Cert.Kernel6Ideal.Gelu

open Cert.Kernel6Ideal Cert.Kernel6Ideal.Gen

variable (m : (ℓ : Loc nD τ sig) → Buf (Elt Ideal) ℓ) (c : Dev nD)

theorem e0 : ∀ t : Fin cfg0.N, win0_0.index t = ![t.val % 4, 0] := by decide +kernel
theorem e1 : ∀ t : Fin cfg0.N, win0_1.index t = ![0, 5 + t.val / 4] := by decide +kernel
theorem e2 : ∀ t : Fin cfg0.N, win0_2.index t = ![t.val, 0] := by decide +kernel
theorem e3 : ∀ t : Fin cfg0.N, win0_3.index t = ![t.val % 4, t.val / 4] := by decide +kernel
theorem e4 : ∀ t : Fin cfg0.N, win0_4.index t = ![t.val, 0] := by decide +kernel

theorem V_w (r : Fin 2048) (j : Fin 11264) : V m c main_v0 (ix2 r j)
    = m ((c : Thread nD τ).loc main_arg1) (ix3 0 r j) := by
  unfold V
  after_reads_at

theorem V_side (r : Fin 1024) (j : Fin 2048) : V m c main_v1 (ix2 r j)
    = m ((c : Thread nD τ).loc main_arg2) (ix3 0 r j) := by
  unfold V
  after_reads_at

theorem a_apply (t : Fin cfg0.N) (r k : Fin 2048) (h : t.val % 4 * 2048 + r.val < 8192) : iblk m c 0 t (ix2 r k)
    = m ((c : Thread nD τ).loc main_arg0) (ix2 ⟨t.val % 4 * 2048 + r.val, h⟩ k) := by
  rw [← V_main_arg0 m c]
  blk_ext [iblk, e0]

theorem w_apply (t : Fin cfg0.N) (k : Fin 2048) (j : Fin 1024) (h : t.val / 4 * 1024 + j.val < 2048) :
    iblk m c 1 t (ix2 k j) = m ((c : Thread nD τ).loc main_arg1) (ix3 0 k ⟨5120 + (t.val / 4 * 1024 + j.val), by omega⟩) := by
  rw [← V_w m c]
  blk_ext [iblk, e1]

theorem side_apply (t : Fin cfg0.N) (r : Fin 128) (j : Fin 2048) (h : t.val * 128 + r.val < 1024) :
    iblk m c 2 t (ix2 r j) = m ((c : Thread nD τ).loc main_arg2) (ix3 0 ⟨t.val * 128 + r.val, h⟩ j) := by
  rw [← V_side m c]
  blk_ext [iblk, e2]

theorem keep (t : Fin cfg0.N) (h0 : ¬t.val % 4 = 0) : (outsAt0 (F := Ideal) m c t.val t.isLt).2.2
    = (outsAt0 (F := Ideal) m c (t.val - 1) (Nat.lt_of_le_of_lt (Nat.sub_le _ _) t.isLt)).2.2 := by
  rw [outsAt0_B m c t h0]
  dsimp only [sout0_B_0]

/-- The scratch after a point holds the block of weights of the point's column of blocks. -/
theorem scratch (n : ℕ) : ∀ h : n < cfg0.N, ∀ (k : Fin 2048) (j : Fin 1024) (hj : n / 4 * 1024 + j.val < 2048),
    (outsAt0 (F := Ideal) m c n h).2.2 (ix2 k j)
      = m ((c : Thread nD τ).loc main_arg1) (ix3 0 k ⟨5120 + (n / 4 * 1024 + j.val), by omega⟩) := by
  induction n with
  | zero =>
    intro h k j hj
    rw [outsAt0_A m c ⟨0, h⟩ rfl]
    dsimp only
    rw [scratch_A]
    exact w_apply m c ⟨0, h⟩ k j hj
  | succ n ih =>
    intro h k j hj
    by_cases h0 : (n + 1) % 4 = 0
    · rw [outsAt0_A m c ⟨n + 1, h⟩ h0]
      dsimp only
      rw [scratch_A]
      exact w_apply m c ⟨n + 1, h⟩ k j hj
    · have hk := congrFun (keep m c ⟨n + 1, h⟩ h0) (ix2 k j)
      have q : (n + 1) / 4 = n / 4 := by omega
      have hj' : n / 4 * 1024 + j.val < 2048 := by omega
      refine hk.trans ((ih (Nat.lt_of_succ_lt h) k j hj').trans ?_)
      simp only [q]

/-- The first output's block after a point is the product with what the scratch then holds. -/
theorem out_apply (t : Fin cfg0.N) (y : S2048x1024.Idx) :
    (outsAt0 (F := Ideal) m c t.val t.isLt).1 y = prod (iblk m c 0 t) (outsAt0 (F := Ideal) m c t.val t.isLt).2.2 y := by
  by_cases h0 : t.val % 4 = 0
  · rw [outsAt0_A m c t h0]
    dsimp only
    rw [scratch_A, out_A]
  · rw [outsAt0_B m c t h0]
    dsimp only
    rw [out_B]
    rfl

theorem out_side (t : Fin cfg0.N) : (outsAt0 (F := Ideal) m c t.val t.isLt).2.1 = iblk m c 2 t := by
  by_cases h0 : t.val % 4 = 0
  · rw [outsAt0_A m c t h0]
    dsimp only
    rw [side_A]
  · rw [outsAt0_B m c t h0]
    dsimp only
    rw [side_B]

theorem prod_apply (a : FVec Ideal S2048x2048 .bf16) (w : FVec Ideal S2048x1024 .bf16) (r : Fin 2048) (j : Fin 1024) :
    prod a w (ix2 r j) = act (∑ k : Fin 2048, a (ix2 r k) * w (ix2 k j)) := rfl

theorem mul_congr {a a' b b' : EReal} (h : a = a') (h' : b = b') : a * b = a' * b' := by rw [h, h']

theorem final : (dats m 0 c).arrAt 3 cfg0.N = fun i => Cert.Gelu.spec (m ((c : Thread nD τ).loc main_arg0))
    (m ((c : Thread nD τ).loc main_arg1)) (i 0) (i 1) := by
  refine (dats m 0 c).arrAt_eq_of_covers 3 _ (by decide +kernel) fun t hf y => ?_
  have ht : t.val < 8 := t.isLt
  obtain ⟨r, j, rfl⟩ : ∃ (r : Fin 2048) (j : Fin 1024), y = ix2 r j := ⟨y 0, y 1, eq_ix2 _⟩
  have hr : t.val % 4 * 2048 + r.val < 8192 := by omega
  have hj : t.val / 4 * 1024 + j.val < 2048 := by omega
  have h0 : (win0_3.blk t).view.emb (ix2 r j) 0 = (⟨t.val % 4 * 2048 + r.val, hr⟩ : Fin 8192) := by
    apply Fin.ext; blk_simp [e3]
  have h1 : (win0_3.blk t).view.emb (ix2 r j) 1 = (⟨t.val / 4 * 1024 + j.val, hj⟩ : Fin 2048) := by
    apply Fin.ext; blk_simp [e3]
  blk_simp
  rw [after0_3, out_apply, h0, h1, prod_apply]
  unfold Cert.Gelu.spec
  exact congrArg act (Finset.sum_congr rfl fun k _ => mul_congr (a_apply m c t r k hr) (scratch m c t.val t.isLt k j hj))

theorem final_side : (dats m 0 c).arrAt 4 cfg0.N = fun i => m ((c : Thread nD τ).loc main_arg2) (ix3 0 (i 0) (i 1)) := by
  refine (dats m 0 c).arrAt_eq_of_covers 4 _ (by decide +kernel) fun t hf y => ?_
  have ht : t.val < 8 := t.isLt
  obtain ⟨r, j, rfl⟩ : ∃ (r : Fin 128) (j : Fin 2048), y = ix2 r j := ⟨y 0, y 1, eq_ix2 _⟩
  have hr : t.val * 128 + r.val < 1024 := by omega
  have h0 : (win0_4.blk t).view.emb (ix2 r j) 0 = (⟨t.val * 128 + r.val, hr⟩ : Fin 1024) := by
    apply Fin.ext; blk_simp [e4]
  have h1 : (win0_4.blk t).view.emb (ix2 r j) 1 = j := by
    apply Fin.ext; blk_simp [e4]
  blk_simp
  rw [after0_4, out_side, h0, h1]
  exact side_apply m c t r j hr

end Cert.Kernel6Ideal.Gelu

end
-- ==== Proof.GeluClaim.lean ====
/-
  The input projection of the spatial gating unit computes its reference.
-/
module

public import proofs.«01_k».proof.Proof.GeluArray
public import proofs.«01_k».proof.Defs

@[expose] public section

noncomputable section

open Idealize.ShloMosaic Idealize.ShloMosaic.TcCoe Idealize.SL.Sem

namespace Cert.Gelu

theorem preserves : Cert.preserves_Kernel6_Kernel6Ideal :=
  IdealRules.named_const.statement Cert.Kernel6Ideal.κ "inv_sqrt_2" .f32 0x3F3504F3#32 (((Real.sqrt 2)⁻¹ : ℝ) : EReal) rfl

theorem algebraic : Cert.algebraic_Kernel6Ideal_Reference6Ideal (hKernel6Ideal := Cert.Kernel6Ideal.Gen.facts)
    (hReference6Ideal := Cert.Reference6Ideal.Gen.facts) := by
  intro m g m' g' _ hagree
  refine ⟨fun c i => spec (m ((c.tc : Thread _ _).loc Cert.Kernel6Ideal.main_arg0))
    (m ((c.tc : Thread _ _).loc Cert.Kernel6Ideal.main_arg1)) (i 0) (i 1),
    fun c i => m ((c.tc : Thread _ _).loc Cert.Kernel6Ideal.main_arg2) (ix3 0 (i 0) (i 1)), ?_, ?_⟩
  · exact (θ_run _ _ _).mono (fun _ h c => ⟨(h c).1.trans (Cert.Kernel6Ideal.Gelu.final m c),
        (h c).2.1.trans (Cert.Kernel6Ideal.Gelu.final_side m c), (h c).2.2⟩)
      (Cert.Kernel6Ideal.Value.run_blocks m g)
  · refine (θ_run _ _ _).mono (fun _ h c => ⟨(h c).1.trans ?_, (h c).2.1.trans ?_, (h c).2.2⟩)
      (Cert.Reference6Ideal.Value.run m' g')
    · refine (Cert.Reference6Ideal.Read.val_main_v13_eq _ _).trans ?_
      rw [(hagree c).1, (hagree c).2.1]
      funext i
      obtain ⟨r, k, rfl⟩ : ∃ (r : Fin 8192) (k : Fin 2048), i = ix2 r k := ⟨i 0, i 1, eq_ix2 _⟩
      exact ref_apply _ _ r k
    · refine (Cert.Reference6Ideal.Read.val_main_v15_eq _).trans ?_
      rw [(hagree c).2.2]
      funext i
      obtain ⟨r, k, rfl⟩ : ∃ (r : Fin 1024) (k : Fin 2048), i = ix2 r k := ⟨i 0, i 1, eq_ix2 _⟩
      exact ref_side _ r k

end Cert.Gelu

end
-- ==== Proof.LinBlock.lean ====
/-
  The input projection of the recurrence, one grid point: what the body leaves in its output blocks and in its scratch.
-/
module

public import proofs.«01_k».proof.Proof.Gen.Kernel7Ideal.Value
public import Idealize.ShloMosaic.Lib.Pointwise
public import Idealize.ShloMosaic.Lib.Pipeline.Value

@[expose] public section

noncomputable section

open Idealize.ShloMosaic Idealize.ShloMosaic.TcCoe Idealize.SL.Sem

namespace Cert.Kernel7Ideal.Lin

open Cert.Kernel7Ideal Cert.Kernel7Ideal.Gen

theorem hz : (![0, 0] : Fin 2 → Nat) = fun _ => 0 := funext fun a => by fin_cases a <;> rfl

/-- The kernel's named constant is the real it stands for. -/
theorem inv_sqrt_128 : Named.named (F := Ideal) κ "inv_sqrt_128" (φ := .f32) 0x3DB504F3#32 = (((Real.sqrt 128)⁻¹ : ℝ) : EReal) :=
  IdealRules.named_const.ideal_named_scalar _ _ _ _ rfl

/-- The factor of a column of blocks: the queries' column is divided by the root of the head's width. -/
def fac (n : ℕ) : EReal := if n = 0 then (((Real.sqrt 128)⁻¹ : ℝ) : EReal) else 1

/-- The block's values: the rows of `a` times the columns of `w`, times the factor of the column of blocks. -/
def prod (n : ℕ) (a : FVec Ideal S2048x2048 .bf16) (w : FVec Ideal S2048x1024 .bf16) : FVec Ideal S2048x1024 .bf16 := fun i =>
  (∑ k : Fin 2048, a (ix2 (i 0) k) * w (ix2 k (i 1))) * fac n

/-- One store of the body: 128 rows of the block. -/
def tile (n : ℕ) (a : Vec Ideal S128x2048 .bf16) (w : Vec Ideal S2048x1024 .bf16) : FVec Ideal S128x1024 .bf16 :=
  k0_pay7 (F := Ideal) (BitVec.ofNat 32 n) a w

theorem factor (n : ℕ) (hn : n < 4) : Scalar.select (Scalar.cmpi .eq (BitVec.ofNat 32 n) 0#32)
    (Named.named (F := Ideal) κ "inv_sqrt_128" (φ := .f32) 0x3DB504F3#32) (1 : EReal) = fac n := by
  rw [inv_sqrt_128]
  unfold fac
  match n, hn with
  | 0, _ => rfl
  | 1, _ => rfl
  | 2, _ => rfl
  | 3, _ => rfl

theorem rows_in {o : Nat} (ia : ∀ b, (![o, 0] : Fin 2 → Nat) b + S128x2048.size b ≤ S2048x2048.size b) :
    ∀ b, (![o, 0] : Fin 2 → Nat) b + S128x1024.size b ≤ S2048x1024.size b
  | ⟨0, _⟩ => ia 0
  | ⟨1, _⟩ => Nat.le_refl 1024

theorem tile_eq (n : ℕ) (hn : n < 4) (a : FVec Ideal S2048x2048 .bf16) (w : FVec Ideal S2048x1024 .bf16) (o : Nat)
    (ia : ∀ b, (![o, 0] : Fin 2 → Nat) b + S128x2048.size b ≤ S2048x2048.size b) (x : S128x1024.Idx) :
    tile n (View.ld a (Rect.unit (s := S2048x2048) ![o, 0] S128x2048.size ia)) w x
      = prod n a w ((Rect.unit (s := S2048x1024) ![o, 0] S128x1024.size (rows_in ia)).emb x) := by
  have e0 : o + 128 ≤ 2048 := ia 0
  have hx0 : (x 0).val < 128 := (x 0).isLt
  have he : (Rect.unit (s := S2048x1024) ![o, 0] S128x1024.size (rows_in ia)).emb x = ix2 ⟨o + (x 0).val, by omega⟩ (x 1) := by
    funext a
    match a with
    | ⟨0, _⟩ => exact Fin.ext (by show o + 1 * (x 0).val = _; rw [Nat.one_mul]; rfl)
    | ⟨1, _⟩ => exact Fin.ext (by show 0 + 1 * (x 1).val = _; rw [Nat.one_mul, Nat.zero_add]; rfl)
  rw [he]
  unfold tile prod
  pointwise [k0_pay7]
  exact congrArg (_ * ·) (factor n hn)

/-- The rounded block of weights, stored to the scratch. -/
theorem cast_block (w : FVec Ideal S2048x1024 .f32) : k0_pay4 (F := Ideal) w = w := by
  unfold k0_pay4
  simp only [shapeCast_self]
  rfl

/-- The block of the modulation: a row through its activation, times the columns, plus the offset. -/
def modBlock (x : FVec Ideal S8x2048 .f32) (w : FVec Ideal S2048x512 .f32) (b : FVec Ideal S1x512 .f32) : FVec Ideal S8x512 .f32 :=
  fun i => (∑ k : Fin 2048, x (ix2 (i 0) k) * Ideal.div 1 (1 + Ideal.exp (-x (ix2 (i 0) k))) * w (ix2 k (i 1))) + b (ix2 0 (i 1))

theorem mod_eq (x : FVec Ideal S8x2048 .f32) (w : FVec Ideal S2048x512 .f32) (b : FVec Ideal S1x512 .f32) :
    k0_pay3 (F := Ideal) x w b = modBlock x w b := by
  funext i
  obtain ⟨r, j, rfl⟩ : ∃ (r : Fin 8) (j : Fin 512), i = ix2 r j := ⟨i 0, i 1, eq_ix2 _⟩
  unfold modBlock
  pointwise [k0_pay3]
  simp only [zero_sub]

variable (c : Dev nD) (i : grid0.Coords) (a2 : Memref sig .tc .vmem S2048x2048 .bf16) (h2 : a2.IsWhole)
  (a3 : Memref sig .tc .vmem S2048x1024 .f32) (h3 : a3.IsWhole) (a4 : Memref sig .tc .vmem S64x2048 .f32) (h4 : a4.IsWhole)
  (a5 : Memref sig .tc .vmem S8x2048 .f32) (h5 : a5.IsWhole) (a6 : Memref sig .tc .vmem S2048x512 .f32) (h6 : a6.IsWhole)
  (a7 : Memref sig .tc .vmem S1x512 .f32) (h7 : a7.IsWhole)
  (a8 : Memref sig .tc .vmem S2048x1024 .bf16) (h8 : a8.IsWhole) (a9 : Memref sig .tc .vmem S64x2048 .bf16) (h9 : a9.IsWhole)
  (a10 : Memref sig .tc .vmem S8x512 .f32) (h10 : a10.IsWhole) (a11 : Memref sig .tc .vmem S2048x1024 .bf16) (h11 : a11.IsWhole)
  (x0 : FVec Ideal S2048x2048 .bf16) (x1 : FVec Ideal S2048x1024 .f32) (x2 : FVec Ideal S64x2048 .f32)
  (x3 : FVec Ideal S8x2048 .f32) (x4 : FVec Ideal S2048x512 .f32) (x5 : FVec Ideal S1x512 .f32)

/-- A point that keeps the scratch: its block is the product with what the scratch holds. -/
theorem out_B (hc : ¬cond0_0 i) (w : FVec Ideal S2048x1024 .bf16) (y : S2048x1024.Idx) :
    out0_B_6 (F := Ideal) c i a2 h2 a3 h3 a4 h4 a5 h5 a6 h6 a7 h7 a8 h8 a9 h9 a10 h10 a11 h11 hc x0 x1 x2 x3 x4 x5 w y = prod (i 0).val x0 w y := by
  unfold out0_B_6
  rw [View.read_writes_eq_canon _ _ _ (cover0_B_6 (F := Ideal) c i a2 h2 a3 h3 a4 h4 a5 h5 a6 h6 a7 h7 a8 h8 a9 h9 a10 h10 a11 h11 hc x0 x1 x2 x3 x4 x5 w)]
  refine View.canon_apply_of_pieces (Val := Elt Ideal) (e := .bf16) (prod (i 0).val x0 w) _ ?_ y
    (cover0_B_6 (F := Ideal) c i a2 h2 a3 h3 a4 h4 a5 h5 a6 h6 a7 h7 a8 h8 a9 h9 a10 h10 a11 h11 hc x0 x1 x2 x3 x4 x5 w y)
  unfold kernelRun0_B
  dsimp only
  sl_unfold_words
  simp only [View.readAt_eq_ld, h2.read_unread, h11.read_unread, View.ld_unit_zero (S := S2048x1024) hz]
  iterate 16 refine List.forall_mem_cons.mpr ⟨fun x => tile_eq _ (i 0).isLt x0 w _ _ x, ?_⟩
  exact fun p hp => absurd hp List.not_mem_nil

/-- A point that fills the scratch: its block is the product with the block of weights. -/
theorem out_A (hc : cond0_0 i) (y : S2048x1024.Idx) :
    out0_A_6 (F := Ideal) c i a2 h2 a3 h3 a4 h4 a5 h5 a6 h6 a7 h7 a8 h8 a9 h9 a10 h10 a11 h11 hc x0 x1 x2 x3 x4 x5 y = prod (i 0).val x0 x1 y := by
  unfold out0_A_6
  rw [View.read_writes_eq_canon _ _ _ (cover0_A_6 (F := Ideal) c i a2 h2 a3 h3 a4 h4 a5 h5 a6 h6 a7 h7 a8 h8 a9 h9 a10 h10 a11 h11 hc x0 x1 x2 x3 x4 x5)]
  refine View.canon_apply_of_pieces (Val := Elt Ideal) (e := .bf16) (prod (i 0).val x0 x1) _ ?_ y
    (cover0_A_6 (F := Ideal) c i a2 h2 a3 h3 a4 h4 a5 h5 a6 h6 a7 h7 a8 h8 a9 h9 a10 h10 a11 h11 hc x0 x1 x2 x3 x4 x5 y)
  unfold kernelRun0_A
  dsimp only
  sl_unfold_words
  simp only [View.readAt_eq_ld, h2.read_unread, h3.read_unread, View.ld_unit_zero (S := S2048x1024) hz,
    View.readCov_unit_zero (S := S2048x1024) _ hz, cast_block]
  iterate 16 refine List.forall_mem_cons.mpr ⟨fun x => tile_eq _ (i 0).isLt x0 x1 _ _ x, ?_⟩
  exact fun p hp => absurd hp List.not_mem_nil

/-- … and the scratch then holds that block of weights. -/
theorem scratch_A (hc : cond0_0 i) :
    sout0_A_0 (F := Ideal) c i a2 h2 a3 h3 a4 h4 a5 h5 a6 h6 a7 h7 a8 h8 a9 h9 a10 h10 a11 h11 hc x0 x1 x2 x3 x4 x5 = x1 := by
  unfold sout0_A_0
  rw [View.read_writes_eq_canon _ _ _ (scover0_A_0 (F := Ideal) c i a2 h2 a3 h3 a4 h4 a5 h5 a6 h6 a7 h7 a8 h8 a9 h9 a10 h10 a11 h11 hc x0 x1 x2 x3 x4 x5)]
  unfold kernelRun0_A
  dsimp only
  sl_unfold_words
  rw [View.canon_unit_zero hz]
  unfold k0_pay4
  simp only [View.readAt_eq_ld, h3.read_unread, View.ld_unit_zero (S := S2048x1024) hz, shapeCast_self]
  rfl

/-- The second output's block is the block of the other weights, rounded. -/
theorem side_A (hc : cond0_0 i) :
    out0_A_7 (F := Ideal) c i a2 h2 a3 h3 a4 h4 a5 h5 a6 h6 a7 h7 a8 h8 a9 h9 a10 h10 a11 h11 hc x0 x1 x2 x3 x4 x5 = x2 := by
  unfold out0_A_7
  rw [View.read_writes_eq_canon _ _ _ (cover0_A_7 (F := Ideal) c i a2 h2 a3 h3 a4 h4 a5 h5 a6 h6 a7 h7 a8 h8 a9 h9 a10 h10 a11 h11 hc x0 x1 x2 x3 x4 x5)]
  unfold kernelRun0_A
  dsimp only
  sl_unfold_words
  rw [View.canon_unit_zero hz]
  unfold k0_pay2
  simp only [View.readAt_eq_ld, h4.read_unread, View.ld_unit_zero (S := S64x2048) hz, shapeCast_self]
  rfl

theorem side_B (hc : ¬cond0_0 i) (w : FVec Ideal S2048x1024 .bf16) :
    out0_B_7 (F := Ideal) c i a2 h2 a3 h3 a4 h4 a5 h5 a6 h6 a7 h7 a8 h8 a9 h9 a10 h10 a11 h11 hc x0 x1 x2 x3 x4 x5 w = x2 := by
  unfold out0_B_7
  rw [View.read_writes_eq_canon _ _ _ (cover0_B_7 (F := Ideal) c i a2 h2 a3 h3 a4 h4 a5 h5 a6 h6 a7 h7 a8 h8 a9 h9 a10 h10 a11 h11 hc x0 x1 x2 x3 x4 x5 w)]
  unfold kernelRun0_B
  dsimp only
  sl_unfold_words
  rw [View.canon_unit_zero hz]
  unfold k0_pay2
  simp only [View.readAt_eq_ld, h4.read_unread, View.ld_unit_zero (S := S64x2048) hz, shapeCast_self]
  rfl

/-- The third output's block is the modulation's. -/
theorem mod_A (hc : cond0_0 i) :
    out0_A_8 (F := Ideal) c i a2 h2 a3 h3 a4 h4 a5 h5 a6 h6 a7 h7 a8 h8 a9 h9 a10 h10 a11 h11 hc x0 x1 x2 x3 x4 x5 = modBlock x3 x4 x5 := by
  unfold out0_A_8
  rw [View.read_writes_eq_canon _ _ _ (cover0_A_8 (F := Ideal) c i a2 h2 a3 h3 a4 h4 a5 h5 a6 h6 a7 h7 a8 h8 a9 h9 a10 h10 a11 h11 hc x0 x1 x2 x3 x4 x5)]
  unfold kernelRun0_A
  dsimp only
  sl_unfold_words
  rw [View.canon_unit_zero hz]
  simp only [View.readAt_eq_ld, h5.read_unread, h6.read_unread, h7.read_unread, View.ld_unit_zero (S := S8x2048) hz,
    View.ld_unit_zero (S := S2048x512) hz, View.ld_unit_zero (S := S1x512) hz]
  exact mod_eq x3 x4 x5

theorem mod_B (hc : ¬cond0_0 i) (w : FVec Ideal S2048x1024 .bf16) :
    out0_B_8 (F := Ideal) c i a2 h2 a3 h3 a4 h4 a5 h5 a6 h6 a7 h7 a8 h8 a9 h9 a10 h10 a11 h11 hc x0 x1 x2 x3 x4 x5 w = modBlock x3 x4 x5 := by
  unfold out0_B_8
  rw [View.read_writes_eq_canon _ _ _ (cover0_B_8 (F := Ideal) c i a2 h2 a3 h3 a4 h4 a5 h5 a6 h6 a7 h7 a8 h8 a9 h9 a10 h10 a11 h11 hc x0 x1 x2 x3 x4 x5 w)]
  unfold kernelRun0_B
  dsimp only
  sl_unfold_words
  rw [View.canon_unit_zero hz]
  simp only [View.readAt_eq_ld, h5.read_unread, h6.read_unread, h7.read_unread, View.ld_unit_zero (S := S8x2048) hz,
    View.ld_unit_zero (S := S2048x512) hz, View.ld_unit_zero (S := S1x512) hz]
  exact mod_eq x3 x4 x5

end Cert.Kernel7Ideal.Lin

end
-- ==== Proof.LinRef.lean ====
/-
  The reference of the input projection of the recurrence, read at an index.
-/
module

public import proofs.«01_k».proof.Proof.LinBlock
public import proofs.«01_k».proof.Proof.Root
public import proofs.«01_k».proof.Proof.Gen.Reference7Ideal.Read

@[expose] public section

noncomputable section

open Idealize.ShloMosaic Idealize.ShloMosaic.TcCoe Idealize.SL.Sem

namespace Cert.Lin

open Cert.Reference7Ideal Cert.Reference7Ideal.Read

/-- The projection at row `r`, column `j`: a row of `a` times a column of the weights, times the column's factor. -/
def spec (a : FVec Ideal S8192x2048 .bf16) (w : FVec Ideal S1x2048x11264 .f32) (r : Fin 8192) (j : Fin 4096) : EReal :=
  (∑ k : Fin 2048, a (ix2 r k) * w (ix3 0 k ⟨j.val, by omega⟩)) * Kernel7Ideal.Lin.fac (j.val / 1024)

/-- The modulation at row `r`, column `j` of its last four parts. -/
def modSpec (x : FVec Ideal S8x2048 .f32) (w : FVec Ideal S1x2048x12288 .f32) (b : FVec Ideal S1x12288 .f32) (r : Fin 8)
    (j : Fin 8192) : EReal :=
  (∑ k : Fin 2048, x (ix2 r k) * Ideal.div 1 (1 + Ideal.exp (-x (ix2 r k))) * w (ix3 0 k ⟨4096 + j.val, by omega⟩))
    + b (ix2 0 ⟨4096 + j.val, by omega⟩)

/-- A row of `a` times column `n` of the weights. -/
def dot (a : FVec Ideal S8192x2048 .bf16) (w : FVec Ideal S1x2048x11264 .f32) (r : Fin 8192) (n : ℕ) (h : n < 4096) : EReal :=
  ∑ k : Fin 2048, a (ix2 r k) * w (ix3 0 k ⟨n, by omega⟩)

section
variable (a : FVec Ideal S8192x2048 .bf16) (w : FVec Ideal S1x2048x11264 .f32) (r : Fin 8192)

theorem dot_congr {n n' : ℕ} {h : n < 4096} {h' : n' < 4096} (e : n = n') : dot a w r n h = dot a w r n' h' := by
  subst e
  rfl

theorem v3_apply (j : Fin 4096) : val_main_v3 (F := Ideal) a w (ix2 r j) = dot a w r j.val j.isLt := by
  unfold dot
  pointwise [val_main_v3, val_main_v2, val_main_v1, val_main_v0]

theorem v10_apply (j : Fin 1024) : val_main_v10 (F := Ideal) a w (ix2 r j)
    = dot a w r j.val (by omega) * (((Real.sqrt 128)⁻¹ : ℝ) : EReal) := by
  pointwise [val_main_v10, val_main_v9, val_main_v8, val_main_v4, val_main_cst]
  rw [Cert.Root.div_root_width, v3_apply]

theorem v5_apply (j : Fin 1024) : val_main_v5 (F := Ideal) a w (ix2 r j) = dot a w r (1024 + j.val) (by omega) := by
  pointwise [val_main_v5]
  rw [v3_apply]

theorem v6_apply (j : Fin 1024) : val_main_v6 (F := Ideal) a w (ix2 r j) = dot a w r (2048 + j.val) (by omega) := by
  pointwise [val_main_v6]
  rw [v3_apply]

theorem v7_apply (j : Fin 1024) : val_main_v7 (F := Ideal) a w (ix2 r j) = dot a w r (3072 + j.val) (by omega) := by
  pointwise [val_main_v7]
  rw [v3_apply]

theorem ref_apply (j : Fin 4096) : val_main_v19 (F := Ideal) a w (ix2 r j) = spec a w r j := by
  show _ = dot a w r j.val j.isLt * Kernel7Ideal.Lin.fac (j.val / 1024)
  unfold Kernel7Ideal.Lin.fac
  have h10 := v10_apply a w r
  have h5 := v5_apply a w r
  have h6 := v6_apply a w r
  have h7 := v7_apply a w r
  unfold val_main_v19 val_main_v18
  generalize val_main_v10 (F := Ideal) a w = p0 at h10 ⊢
  generalize val_main_v5 (F := Ideal) a w = p1 at h5 ⊢
  generalize val_main_v6 (F := Ideal) a w = p2 at h6 ⊢
  generalize val_main_v7 (F := Ideal) a w = p3 at h7 ⊢
  pointwise
  by_cases i0 : j.val < 1024
  · refine (dif_pos i0).trans ((h10 _).trans ?_)
    rw [if_pos (by omega : j.val / 1024 = 0)]
  · refine (dif_neg i0).trans (Eq.trans ?_ (mul_one _).symm |>.trans (congrArg (_ * ·)
      (if_neg (by omega : ¬j.val / 1024 = 0)).symm))
    by_cases i1 : j.val - 1024 < 1024
    · exact (dif_pos i1).trans ((h5 _).trans (dot_congr a w r (by dsimp only; omega)))
    · refine (dif_neg i1).trans ?_
      by_cases i2 : j.val - 1024 - 1024 < 1024
      · exact (dif_pos i2).trans ((h6 _).trans (dot_congr a w r (by dsimp only; omega)))
      · exact (dif_neg i2).trans ((h7 _).trans (dot_congr a w r (by dsimp only; omega)))

end

theorem ref_side (w : FVec Ideal S1x1024x2048 .f32) (r : Fin 1024) (j : Fin 2048) :
    val_main_v21 (F := Ideal) w (ix2 r j) = w (ix3 0 r j) := by
  pointwise [val_main_v21, val_main_v20]

theorem ref_mod (x : FVec Ideal S8x2048 .f32) (w : FVec Ideal S1x2048x12288 .f32) (b : FVec Ideal S1x12288 .f32) (r : Fin 8)
    (j : Fin 8192) : val_main_v22 (F := Ideal) x w b (ix2 r j) = modSpec x w b r j := by
  unfold modSpec
  pointwise [val_main_v22, val_main_v17, val_main_v16, val_main_v15, val_main_v14, val_main_v13, val_main_v12, val_main_v11,
    val_main_call0_v5, val_main_call0_v4, val_main_call0_v3, val_main_call0_v2, val_main_call0_v1, val_main_call0_v0,
    val_main_call0_cst, val_main_call0_cst_0]

end Cert.Lin

end
-- ==== Proof.LinArray.lean ====
/-
  The input projection of the recurrence: its result arrays, read at an index, from the argument arrays.
-/
module

public import proofs.«01_k».proof.Proof.LinRef
public import Idealize.ShloMosaic.Lib.Pipeline.ValueKit
public import Idealize.ShloMosaic.Lib.StableHlo.ReadAt

@[expose] public section

noncomputable section

open Idealize.ShloMosaic Idealize.ShloMosaic.TcCoe Idealize.SL.Sem

namespace Cert.Kernel7Ideal.Lin

open Cert.Kernel7Ideal Cert.Kernel7Ideal.Gen

variable (m : (ℓ : Loc nD τ sig) → Buf (Elt Ideal) ℓ) (c : Dev nD)

theorem e0 : ∀ t : Fin cfg0.N, win0_0.index t = ![t.val % 4, 0] := by decide +kernel
theorem e1 : ∀ t : Fin cfg0.N, win0_1.index t = ![0, t.val / 4] := by decide +kernel
theorem e2 : ∀ t : Fin cfg0.N, win0_2.index t = ![t.val, 0] := by decide +kernel
theorem e6 : ∀ t : Fin cfg0.N, win0_6.index t = ![t.val % 4, t.val / 4] := by decide +kernel
theorem e7 : ∀ t : Fin cfg0.N, win0_7.index t = ![t.val, 0] := by decide +kernel

theorem e3 : ∀ t : Fin cfg0.N, win0_3.index t = ![0, 0] := by decide +kernel
theorem e4 : ∀ t : Fin cfg0.N, win0_4.index t = ![0, 8 + t.val] := by decide +kernel
theorem e5 : ∀ t : Fin cfg0.N, win0_5.index t = ![0, 8 + t.val] := by decide +kernel
theorem e8 : ∀ t : Fin cfg0.N, win0_8.index t = ![0, t.val] := by decide +kernel
theorem coord (t : Fin cfg0.N) : (grid0.coords t 0).val = t.val / 4 := by
  have h : (grid0.coords t 0).val = t.val / 4 % 4 := Pipeline.Grid.coords_val t 0 (by decide) rfl
  have ht : t.val < 16 := t.isLt
  omega

theorem V_w (r : Fin 2048) (j : Fin 11264) : V m c main_v0 (ix2 r j)
    = m ((c : Thread nD τ).loc main_arg1) (ix3 0 r j) := by
  unfold V
  after_reads_at

theorem V_side (r : Fin 1024) (j : Fin 2048) : V m c main_v1 (ix2 r j)
    = m ((c : Thread nD τ).loc main_arg2) (ix3 0 r j) := by
  unfold V
  after_reads_at

theorem V_ada (r : Fin 2048) (j : Fin 12288) : V m c main_v2 (ix2 r j)
    = m ((c : Thread nD τ).loc main_arg4) (ix3 0 r j) := by
  unfold V
  after_reads_at

theorem V_off (j : Fin 12288) : V m c main_v4 (ix2 0 j) = m ((c : Thread nD τ).loc main_arg5) (ix2 0 j) := by
  unfold V
  after_reads_at

theorem c_apply (t : Fin cfg0.N) (r : Fin 8) (k : Fin 2048) : iblk m c 3 t (ix2 r k)
    = m ((c : Thread nD τ).loc main_arg3) (ix2 r k) := by
  rw [← V_main_arg3 m c]
  blk_ext [iblk, e3]

theorem ada_apply (t : Fin cfg0.N) (k : Fin 2048) (j : Fin 512) (h : t.val * 512 + j.val < 8192) :
    iblk m c 4 t (ix2 k j) = m ((c : Thread nD τ).loc main_arg4) (ix3 0 k ⟨4096 + (t.val * 512 + j.val), by omega⟩) := by
  rw [← V_ada m c]
  blk_ext [iblk, e4]

theorem off_apply (t : Fin cfg0.N) (j : Fin 512) (h : t.val * 512 + j.val < 8192) :
    iblk m c 5 t (ix2 0 j) = m ((c : Thread nD τ).loc main_arg5) (ix2 0 ⟨4096 + (t.val * 512 + j.val), by omega⟩) := by
  rw [← V_off m c]
  blk_ext [iblk, e5]

theorem a_apply (t : Fin cfg0.N) (r k : Fin 2048) (h : t.val % 4 * 2048 + r.val < 8192) : iblk m c 0 t (ix2 r k)
    = m ((c : Thread nD τ).loc main_arg0) (ix2 ⟨t.val % 4 * 2048 + r.val, h⟩ k) := by
  rw [← V_main_arg0 m c]
  blk_ext [iblk, e0]

theorem w_apply (t : Fin cfg0.N) (k : Fin 2048) (j : Fin 1024) (h : t.val / 4 * 1024 + j.val < 4096) :
    iblk m c 1 t (ix2 k j) = m ((c : Thread nD τ).loc main_arg1) (ix3 0 k ⟨t.val / 4 * 1024 + j.val, by omega⟩) := by
  rw [← V_w m c]
  blk_ext [iblk, e1]

theorem side_apply (t : Fin cfg0.N) (r : Fin 64) (j : Fin 2048) (h : t.val * 64 + r.val < 1024) :
    iblk m c 2 t (ix2 r j) = m ((c : Thread nD τ).loc main_arg2) (ix3 0 ⟨t.val * 64 + r.val, h⟩ j) := by
  rw [← V_side m c]
  blk_ext [iblk, e2]

theorem keep (t : Fin cfg0.N) (h0 : ¬t.val % 4 = 0) : (outsAt0 (F := Ideal) m c t.val t.isLt).2.2.2
    = (outsAt0 (F := Ideal) m c (t.val - 1) (Nat.lt_of_le_of_lt (Nat.sub_le _ _) t.isLt)).2.2.2 := by
  rw [outsAt0_B m c t h0]
  dsimp only [sout0_B_0]

/-- The scratch after a point holds the block of weights of the point's column of blocks. -/
theorem scratch (n : ℕ) : ∀ h : n < cfg0.N, ∀ (k : Fin 2048) (j : Fin 1024) (hj : n / 4 * 1024 + j.val < 4096),
    (outsAt0 (F := Ideal) m c n h).2.2.2 (ix2 k j)
      = m ((c : Thread nD τ).loc main_arg1) (ix3 0 k ⟨n / 4 * 1024 + j.val, by omega⟩) := by
  induction n with
  | zero =>
    intro h k j hj
    rw [outsAt0_A m c ⟨0, h⟩ rfl]
    dsimp only
    rw [scratch_A]
    exact w_apply m c ⟨0, h⟩ k j hj
  | succ n ih =>
    intro h k j hj
    by_cases h0 : (n + 1) % 4 = 0
    · rw [outsAt0_A m c ⟨n + 1, h⟩ h0]
      dsimp only
      rw [scratch_A]
      exact w_apply m c ⟨n + 1, h⟩ k j hj
    · have hk := congrFun (keep m c ⟨n + 1, h⟩ h0) (ix2 k j)
      have q : (n + 1) / 4 = n / 4 := by omega
      have hj' : n / 4 * 1024 + j.val < 4096 := by omega
      refine hk.trans ((ih (Nat.lt_of_succ_lt h) k j hj').trans ?_)
      simp only [q]

/-- The first output's block after a point is the product with what the scratch then holds. -/
theorem out_apply (t : Fin cfg0.N) (y : S2048x1024.Idx) :
    (outsAt0 (F := Ideal) m c t.val t.isLt).1 y = prod (t.val / 4) (iblk m c 0 t) (outsAt0 (F := Ideal) m c t.val t.isLt).2.2.2 y := by
  by_cases h0 : t.val % 4 = 0
  · rw [outsAt0_A m c t h0]
    dsimp only
    rw [scratch_A, out_A, coord]
  · rw [outsAt0_B m c t h0]
    dsimp only
    rw [out_B, coord]
    rfl

theorem out_side (t : Fin cfg0.N) : (outsAt0 (F := Ideal) m c t.val t.isLt).2.1 = iblk m c 2 t := by
  by_cases h0 : t.val % 4 = 0
  · rw [outsAt0_A m c t h0]
    dsimp only
    rw [side_A]
  · rw [outsAt0_B m c t h0]
    dsimp only
    rw [side_B]

theorem prod_apply (n : ℕ) (a : FVec Ideal S2048x2048 .bf16) (w : FVec Ideal S2048x1024 .bf16) (r : Fin 2048) (j : Fin 1024) :
    prod n a w (ix2 r j) = (∑ k : Fin 2048, a (ix2 r k) * w (ix2 k j)) * fac n := rfl

theorem mul_congr {a a' b b' : EReal} (h : a = a') (h' : b = b') : a * b = a' * b' := by rw [h, h']

theorem final : (dats m 0 c).arrAt 6 cfg0.N = fun i => Cert.Lin.spec (m ((c : Thread nD τ).loc main_arg0))
    (m ((c : Thread nD τ).loc main_arg1)) (i 0) (i 1) := by
  refine (dats m 0 c).arrAt_eq_of_covers 6 _ (by decide +kernel) fun t hf y => ?_
  have ht : t.val < 16 := t.isLt
  obtain ⟨r, j, rfl⟩ : ∃ (r : Fin 2048) (j : Fin 1024), y = ix2 r j := ⟨y 0, y 1, eq_ix2 _⟩
  have hr : t.val % 4 * 2048 + r.val < 8192 := by omega
  have hj : t.val / 4 * 1024 + j.val < 4096 := by omega
  have h0 : (win0_6.blk t).view.emb (ix2 r j) 0 = (⟨t.val % 4 * 2048 + r.val, hr⟩ : Fin 8192) := by
    apply Fin.ext; blk_simp [e6]
  have h1 : (win0_6.blk t).view.emb (ix2 r j) 1 = (⟨t.val / 4 * 1024 + j.val, hj⟩ : Fin 4096) := by
    apply Fin.ext; blk_simp [e6]
  blk_simp
  rw [after0_6, out_apply, h0, h1, prod_apply]
  unfold Cert.Lin.spec
  have q : (t.val / 4 * 1024 + j.val) / 1024 = t.val / 4 := by omega
  rw [q]
  exact congrArg (· * fac (t.val / 4)) (Finset.sum_congr rfl fun k _ => mul_congr (a_apply m c t r k hr) (scratch m c t.val t.isLt k j hj))

theorem final_side : (dats m 0 c).arrAt 7 cfg0.N = fun i => m ((c : Thread nD τ).loc main_arg2) (ix3 0 (i 0) (i 1)) := by
  refine (dats m 0 c).arrAt_eq_of_covers 7 _ (by decide +kernel) fun t hf y => ?_
  have ht : t.val < 16 := t.isLt
  obtain ⟨r, j, rfl⟩ : ∃ (r : Fin 64) (j : Fin 2048), y = ix2 r j := ⟨y 0, y 1, eq_ix2 _⟩
  have hr : t.val * 64 + r.val < 1024 := by omega
  have h0 : (win0_7.blk t).view.emb (ix2 r j) 0 = (⟨t.val * 64 + r.val, hr⟩ : Fin 1024) := by
    apply Fin.ext; blk_simp [e7]
  have h1 : (win0_7.blk t).view.emb (ix2 r j) 1 = j := by
    apply Fin.ext; blk_simp [e7]
  blk_simp
  rw [after0_7, out_side, h0, h1]
  exact side_apply m c t r j hr

theorem out_mod (t : Fin cfg0.N) : (outsAt0 (F := Ideal) m c t.val t.isLt).2.2.1
    = modBlock (iblk m c 3 t) (iblk m c 4 t) (iblk m c 5 t) := by
  by_cases h0 : t.val % 4 = 0
  · rw [outsAt0_A m c t h0]
    dsimp only
    rw [mod_A]
  · rw [outsAt0_B m c t h0]
    dsimp only
    rw [mod_B]

theorem mod_read (x : FVec Ideal S8x2048 .f32) (w : FVec Ideal S2048x512 .f32) (b : FVec Ideal S1x512 .f32)
    (X : FVec Ideal S8x2048 .f32) (W : FVec Ideal S1x2048x12288 .f32) (B : FVec Ideal S1x12288 .f32) (r : Fin 8) (j : Fin 512)
    (n : Fin 8192) (hx : ∀ k : Fin 2048, x (ix2 r k) = X (ix2 r k))
    (hw : ∀ k : Fin 2048, w (ix2 k j) = W (ix3 0 k ⟨4096 + n.val, by omega⟩)) (hb : b (ix2 0 j) = B (ix2 0 ⟨4096 + n.val, by omega⟩)) :
    modBlock x w b (ix2 r j) = Cert.Lin.modSpec X W B r n := by
  show (∑ k : Fin 2048, x (ix2 r k) * Ideal.div 1 (1 + Ideal.exp (-x (ix2 r k))) * w (ix2 k j)) + b (ix2 0 j) = _
  unfold Cert.Lin.modSpec
  rw [hb]
  exact congrArg (· + _) (Finset.sum_congr rfl fun k _ => by rw [hx, hw])

theorem final_mod : (dats m 0 c).arrAt 8 cfg0.N = fun i => Cert.Lin.modSpec (m ((c : Thread nD τ).loc main_arg3))
    (m ((c : Thread nD τ).loc main_arg4)) (m ((c : Thread nD τ).loc main_arg5)) (i 0) (i 1) := by
  refine (dats m 0 c).arrAt_eq_of_covers 8 _ (by decide +kernel) fun t hf y => ?_
  have ht : t.val < 16 := t.isLt
  obtain ⟨r, j, rfl⟩ : ∃ (r : Fin 8) (j : Fin 512), y = ix2 r j := ⟨y 0, y 1, eq_ix2 _⟩
  have hj : t.val * 512 + j.val < 8192 := by omega
  have h0 : (win0_8.blk t).view.emb (ix2 r j) 0 = r := by
    apply Fin.ext; blk_simp [e8]
  have h1 : (win0_8.blk t).view.emb (ix2 r j) 1 = (⟨t.val * 512 + j.val, hj⟩ : Fin 8192) := by
    apply Fin.ext; blk_simp [e8]
  blk_simp
  rw [after0_8, out_mod, h0, h1]
  exact mod_read _ _ _ _ _ _ r j _ (fun k => c_apply m c t r k) (fun k => ada_apply m c t k j hj) (off_apply m c t j hj)

end Cert.Kernel7Ideal.Lin

end
-- ==== Proof.LinClaim.lean ====
/-
  The input projection of the recurrence computes its reference.
-/
module

public import proofs.«01_k».proof.Proof.LinArray
public import proofs.«01_k».proof.Defs

@[expose] public section

noncomputable section

open Idealize.ShloMosaic Idealize.ShloMosaic.TcCoe Idealize.SL.Sem

namespace Cert.Lin

theorem preserves : Cert.preserves_Kernel7_Kernel7Ideal :=
  IdealRules.named_const.statement Cert.Kernel7Ideal.κ "inv_sqrt_128" .f32 0x3DB504F3#32 (((Real.sqrt 128)⁻¹ : ℝ) : EReal) rfl

theorem algebraic : Cert.algebraic_Kernel7Ideal_Reference7Ideal (hKernel7Ideal := Cert.Kernel7Ideal.Gen.facts)
    (hReference7Ideal := Cert.Reference7Ideal.Gen.facts) := by
  intro m g m' g' _ hagree
  refine ⟨fun c i => spec (m ((c.tc : Thread _ _).loc Cert.Kernel7Ideal.main_arg0))
    (m ((c.tc : Thread _ _).loc Cert.Kernel7Ideal.main_arg1)) (i 0) (i 1),
    fun c i => m ((c.tc : Thread _ _).loc Cert.Kernel7Ideal.main_arg2) (ix3 0 (i 0) (i 1)),
    fun c i => modSpec (m ((c.tc : Thread _ _).loc Cert.Kernel7Ideal.main_arg3))
      (m ((c.tc : Thread _ _).loc Cert.Kernel7Ideal.main_arg4)) (m ((c.tc : Thread _ _).loc Cert.Kernel7Ideal.main_arg5)) (i 0) (i 1), ?_, ?_⟩
  · exact (θ_run _ _ _).mono (fun _ h c => ⟨(h c).1.trans (Cert.Kernel7Ideal.Lin.final m c),
        (h c).2.1.trans (Cert.Kernel7Ideal.Lin.final_side m c), (h c).2.2.1.trans (Cert.Kernel7Ideal.Lin.final_mod m c), (h c).2.2.2⟩)
      (Cert.Kernel7Ideal.Value.run_blocks m g)
  · refine (θ_run _ _ _).mono (fun _ h c => ⟨(h c).1.trans ?_, (h c).2.1.trans ?_, (h c).2.2.1.trans ?_, (h c).2.2.2⟩)
      (Cert.Reference7Ideal.Value.run m' g')
    · refine (Cert.Reference7Ideal.Read.val_main_v19_eq _ _).trans ?_
      rw [(hagree c).1, (hagree c).2.1]
      funext i
      obtain ⟨r, k, rfl⟩ : ∃ (r : Fin 8192) (k : Fin 4096), i = ix2 r k := ⟨i 0, i 1, eq_ix2 _⟩
      exact ref_apply _ _ r k
    · refine (Cert.Reference7Ideal.Read.val_main_v21_eq _).trans ?_
      rw [(hagree c).2.2.1]
      funext i
      obtain ⟨r, k, rfl⟩ : ∃ (r : Fin 1024) (k : Fin 2048), i = ix2 r k := ⟨i 0, i 1, eq_ix2 _⟩
      exact ref_side _ r k
    · refine (Cert.Reference7Ideal.Read.val_main_v22_eq _ _ _).trans ?_
      rw [(hagree c).2.2.2.1, (hagree c).2.2.2.2.1, (hagree c).2.2.2.2.2]
      funext i
      obtain ⟨r, k, rfl⟩ : ∃ (r : Fin 8) (k : Fin 8192), i = ix2 r k := ⟨i 0, i 1, eq_ix2 _⟩
      exact ref_mod _ _ _ r k

end Cert.Lin

end
-- ==== Proof.SiluBlock.lean ====
/-
  The norm before the mixing with the output gate's projection, one grid point: what the body leaves in its output blocks
  and in its scratch.
-/
module

public import proofs.«01_k».proof.Proof.Gen.Kernel8Ideal.Value
public import Idealize.ShloMosaic.Lib.Pipeline.Value
public import proofs.«01_k».proof.Proof.MixRow

@[expose] public section

noncomputable section

open Idealize.ShloMosaic Idealize.ShloMosaic.TcCoe Idealize.SL.Sem

namespace Cert.Kernel8Ideal.Silu

open Cert.Kernel8Ideal Cert.Kernel8Ideal.Gen

theorem hz : (![0, 0] : Fin 2 → Nat) = fun _ => 0 := funext fun a => by fin_cases a <;> rfl

/-- The activation: a value times its sigmoid. -/
def act (s : EReal) : EReal := s * Ideal.div 1 (1 + Ideal.exp (-s))

/-- The first output's block: every row normalized, scaled and shifted. -/
def normB (x : FVec Ideal S1024x2048 .f32) (md : FVec Ideal S1x2x2048 .f32) (g : FVec Ideal S1x2048 .f32) :
    FVec Ideal S1024x2048 .bf16 := fun y =>
  Cert.Mix.next (fun k => x (ix2 (y 0) k)) (Cert.Mix.scale (fun k => g (ix2 0 k)) (fun k => md (ix3 0 1 k)))
    (fun k => md (ix3 0 0 k)) (y 1)

/-- The second output's block: the activation of the rows of `a` times the columns of `w`. -/
def prod (a : FVec Ideal S1024x2048 .bf16) (w : FVec Ideal S2048x1024 .bf16) : FVec Ideal S1024x1024 .bf16 := fun y =>
  act (∑ k : Fin 2048, a (ix2 (y 0) k) * w (ix2 k (y 1)))

theorem a_tile (sh sc : FVec Ideal S1x2048 .f32) (x : FVec Ideal S128x2048 .f32) (r : Fin 128) (j : Fin 2048) :
    k0_pay10 (F := Ideal) sh sc x (ix2 r j) = Cert.Mix.next (fun k => x (ix2 r k)) (fun k => sc (ix2 0 k)) (fun k => sh (ix2 0 k)) j := by
  unfold Cert.Mix.next Cert.Mix.norm
  pointwise [k0_pay10]

theorem o_tile (sh sc : FVec Ideal S1x2048 .f32) (x : FVec Ideal S128x2048 .f32) (w : FVec Ideal S2048x1024 .bf16) (r : Fin 128)
    (j : Fin 1024) : k0_pay11 (F := Ideal) sh sc x w (ix2 r j)
      = act (∑ k : Fin 2048, k0_pay10 (F := Ideal) sh sc x (ix2 r k) * w (ix2 k j)) := by
  unfold k0_pay11 act
  generalize k0_pay10 (F := Ideal) sh sc x = a
  pointwise
  simp only [zero_sub]

section

variable (x0 : FVec Ideal S1024x2048 .f32) (x1 : FVec Ideal S1x2x2048 .f32) (x2 : FVec Ideal S1x2048 .f32)

/-- The shift and the scale as the body computes them. -/
def sh : FVec Ideal S1x2048 .f32 :=
  k0_pay4 (F := Ideal) (View.ld x1 (Rect.unit (s := S1x2x2048) ![0, 0, 0] ![1, 1, 2048] inb_S1x2x2048_S1x1x2048_0_0_0))

def sc : FVec Ideal S1x2048 .f32 :=
  k0_pay5 (F := Ideal) x2 (View.ld x1 (Rect.unit (s := S1x2x2048) ![0, 1, 0] ![1, 1, 2048] inb_S1x2x2048_S1x1x2048_0_1_0))

theorem sh_row (k : Fin 2048) : sh x1 (ix2 0 k) = x1 (ix3 0 0 k) := by
  unfold sh
  pointwise [k0_pay4]

theorem sc_row (k : Fin 2048) : sc x1 x2 (ix2 0 k) = Cert.Mix.scale (fun k => x2 (ix2 0 k)) (fun k => x1 (ix3 0 1 k)) k := by
  unfold sc Cert.Mix.scale
  pointwise [k0_pay5]

theorem norm_rows (o : Nat) (ia : ∀ b, (![o, 0] : Fin 2 → Nat) b + S128x2048.size b ≤ S1024x2048.size b) (r : Fin 128)
    (j : Fin 2048) (hr : o + r.val < 1024) :
    k0_pay10 (F := Ideal) (sh x1) (sc x1 x2) (View.ld x0 (Rect.unit (s := S1024x2048) ![o, 0] S128x2048.size ia)) (ix2 r j)
      = normB x0 x1 x2 (ix2 ⟨o + r.val, hr⟩ j) := by
  have hx : ∀ k : Fin 2048, (View.ld (Val := Elt Ideal) (e' := .f32) x0 (Rect.unit (s := S1024x2048) ![o, 0] S128x2048.size ia)) (ix2 r k) = x0 (ix2 ⟨o + r.val, hr⟩ k) :=
    fun k => by pointwise
  rw [a_tile]
  simp only [hx, sh_row, sc_row]
  rfl

/-- One store of the first output: 128 rows of the block. -/
theorem tile_a (o : Nat) (ia : ∀ b, (![o, 0] : Fin 2 → Nat) b + S128x2048.size b ≤ S1024x2048.size b) (x : S128x2048.Idx) :
    k0_pay10 (F := Ideal) (sh x1) (sc x1 x2) (View.ld x0 (Rect.unit (s := S1024x2048) ![o, 0] S128x2048.size ia)) x
      = normB x0 x1 x2 ((Rect.unit (s := S1024x2048) ![o, 0] S128x2048.size ia).emb x) := by
  obtain ⟨r, j, rfl⟩ : ∃ (r : Fin 128) (j : Fin 2048), x = ix2 r j := ⟨x 0, x 1, eq_ix2 _⟩
  have e0 : o + 128 ≤ 1024 := ia 0
  have hr : o + r.val < 1024 := by omega
  have he : (Rect.unit (s := S1024x2048) ![o, 0] S128x2048.size ia).emb (ix2 r j) = ix2 ⟨o + r.val, hr⟩ j := by
    funext a
    match a with
    | ⟨0, _⟩ => exact Fin.ext (by show o + 1 * r.val = _; rw [Nat.one_mul]; rfl)
    | ⟨1, _⟩ => exact Fin.ext (by show 0 + 1 * j.val = _; rw [Nat.one_mul, Nat.zero_add]; rfl)
  rw [he]
  exact norm_rows x0 x1 x2 o ia r j hr

theorem rows_in {o : Nat} (ia : ∀ b, (![o, 0] : Fin 2 → Nat) b + S128x2048.size b ≤ S1024x2048.size b) :
    ∀ b, (![o, 0] : Fin 2 → Nat) b + S128x1024.size b ≤ S1024x1024.size b
  | ⟨0, _⟩ => ia 0
  | ⟨1, _⟩ => Nat.le_refl 1024

/-- One store of the second output: 128 rows of the block. -/
theorem tile_o (w : FVec Ideal S2048x1024 .bf16) (o : Nat)
    (ia : ∀ b, (![o, 0] : Fin 2 → Nat) b + S128x2048.size b ≤ S1024x2048.size b) (x : S128x1024.Idx) :
    k0_pay11 (F := Ideal) (sh x1) (sc x1 x2) (View.ld x0 (Rect.unit (s := S1024x2048) ![o, 0] S128x2048.size ia)) w x
      = prod (normB x0 x1 x2) w ((Rect.unit (s := S1024x1024) ![o, 0] S128x1024.size (rows_in ia)).emb x) := by
  obtain ⟨r, j, rfl⟩ : ∃ (r : Fin 128) (j : Fin 1024), x = ix2 r j := ⟨x 0, x 1, eq_ix2 _⟩
  have e0 : o + 128 ≤ 1024 := ia 0
  have hr : o + r.val < 1024 := by omega
  have he : (Rect.unit (s := S1024x1024) ![o, 0] S128x1024.size (rows_in ia)).emb (ix2 r j) = ix2 ⟨o + r.val, hr⟩ j := by
    funext a
    match a with
    | ⟨0, _⟩ => exact Fin.ext (by show o + 1 * r.val = _; rw [Nat.one_mul]; rfl)
    | ⟨1, _⟩ => exact Fin.ext (by show 0 + 1 * j.val = _; rw [Nat.one_mul, Nat.zero_add]; rfl)
  rw [he, o_tile]
  simp only [fun k => norm_rows x0 x1 x2 o ia r k hr]
  rfl

end

/-- The rounded block of weights, stored to the scratch. -/
theorem cast_block (w : FVec Ideal S2048x1024 .f32) : k0_pay3 (F := Ideal) w = w := by
  unfold k0_pay3
  simp only [shapeCast_self]
  rfl

variable (c : Dev nD) (i : grid0.Coords) (a1 : Memref sig .tc .vmem S1024x2048 .f32) (h1 : a1.IsWhole)
  (a2 : Memref sig .tc .vmem S1x2x2048 .f32) (h2 : a2.IsWhole) (a3 : Memref sig .tc .vmem S1x2048 .f32) (h3 : a3.IsWhole)
  (a4 : Memref sig .tc .vmem S2048x1024 .f32) (h4 : a4.IsWhole) (a5 : Memref sig .tc .vmem S1024x2048 .bf16) (h5 : a5.IsWhole)
  (a6 : Memref sig .tc .vmem S1024x1024 .bf16) (h6 : a6.IsWhole) (a7 : Memref sig .tc .vmem S2048x1024 .bf16) (h7 : a7.IsWhole)
  (x0 : FVec Ideal S1024x2048 .f32) (x1 : FVec Ideal S1x2x2048 .f32) (x2 : FVec Ideal S1x2048 .f32)
  (x3 : FVec Ideal S2048x1024 .f32)

theorem norm_A (hc : cond0_0 i) (y : S1024x2048.Idx) :
    out0_A_4 (F := Ideal) c i a1 h1 a2 h2 a3 h3 a4 h4 a5 h5 a6 h6 a7 h7 hc x0 x1 x2 x3 y = normB x0 x1 x2 y := by
  unfold out0_A_4
  rw [View.read_writes_eq_canon _ _ _ (cover0_A_4 (F := Ideal) c i a1 h1 a2 h2 a3 h3 a4 h4 a5 h5 a6 h6 a7 h7 hc x0 x1 x2 x3)]
  refine View.canon_apply_of_pieces (Val := Elt Ideal) (e := .bf16) (normB x0 x1 x2) _ ?_ y
    (cover0_A_4 (F := Ideal) c i a1 h1 a2 h2 a3 h3 a4 h4 a5 h5 a6 h6 a7 h7 hc x0 x1 x2 x3 y)
  unfold kernelRun0_A
  dsimp only
  sl_unfold_words
  simp only [View.readAt_eq_ld, h1.read_unread, h2.read_unread, h3.read_unread, View.ld_unit_zero (S := S1x2048) hz]
  iterate 8 refine List.forall_mem_cons.mpr ⟨fun x => tile_a x0 x1 x2 _ _ x, ?_⟩
  exact fun p hp => absurd hp List.not_mem_nil

theorem norm_B (hc : ¬cond0_0 i) (w : FVec Ideal S2048x1024 .bf16) (y : S1024x2048.Idx) :
    out0_B_4 (F := Ideal) c i a1 h1 a2 h2 a3 h3 a4 h4 a5 h5 a6 h6 a7 h7 hc x0 x1 x2 x3 w y = normB x0 x1 x2 y := by
  unfold out0_B_4
  rw [View.read_writes_eq_canon _ _ _ (cover0_B_4 (F := Ideal) c i a1 h1 a2 h2 a3 h3 a4 h4 a5 h5 a6 h6 a7 h7 hc x0 x1 x2 x3 w)]
  refine View.canon_apply_of_pieces (Val := Elt Ideal) (e := .bf16) (normB x0 x1 x2) _ ?_ y
    (cover0_B_4 (F := Ideal) c i a1 h1 a2 h2 a3 h3 a4 h4 a5 h5 a6 h6 a7 h7 hc x0 x1 x2 x3 w y)
  unfold kernelRun0_B
  dsimp only
  sl_unfold_words
  simp only [View.readAt_eq_ld, h1.read_unread, h2.read_unread, h3.read_unread, View.ld_unit_zero (S := S1x2048) hz]
  iterate 8 refine List.forall_mem_cons.mpr ⟨fun x => tile_a x0 x1 x2 _ _ x, ?_⟩
  exact fun p hp => absurd hp List.not_mem_nil

/-- A point that fills the scratch: its block is the product with the block of weights. -/
theorem gate_A (hc : cond0_0 i) (y : S1024x1024.Idx) :
    out0_A_5 (F := Ideal) c i a1 h1 a2 h2 a3 h3 a4 h4 a5 h5 a6 h6 a7 h7 hc x0 x1 x2 x3 y = prod (normB x0 x1 x2) x3 y := by
  unfold out0_A_5
  rw [View.read_writes_eq_canon _ _ _ (cover0_A_5 (F := Ideal) c i a1 h1 a2 h2 a3 h3 a4 h4 a5 h5 a6 h6 a7 h7 hc x0 x1 x2 x3)]
  refine View.canon_apply_of_pieces (Val := Elt Ideal) (e := .bf16) (prod (normB x0 x1 x2) x3) _ ?_ y
    (cover0_A_5 (F := Ideal) c i a1 h1 a2 h2 a3 h3 a4 h4 a5 h5 a6 h6 a7 h7 hc x0 x1 x2 x3 y)
  unfold kernelRun0_A
  dsimp only
  sl_unfold_words
  simp only [View.readAt_eq_ld, h1.read_unread, h2.read_unread, h3.read_unread, h4.read_unread,
    View.ld_unit_zero (S := S1x2048) hz, View.ld_unit_zero (S := S2048x1024) hz,
    View.readCov_unit_zero (S := S2048x1024) _ hz, cast_block]
  iterate 8 refine List.forall_mem_cons.mpr ⟨fun x => tile_o x0 x1 x2 x3 _ _ x, ?_⟩
  exact fun p hp => absurd hp List.not_mem_nil

/-- A point that keeps the scratch: its block is the product with what the scratch holds. -/
theorem gate_B (hc : ¬cond0_0 i) (w : FVec Ideal S2048x1024 .bf16) (y : S1024x1024.Idx) :
    out0_B_5 (F := Ideal) c i a1 h1 a2 h2 a3 h3 a4 h4 a5 h5 a6 h6 a7 h7 hc x0 x1 x2 x3 w y = prod (normB x0 x1 x2) w y := by
  unfold out0_B_5
  rw [View.read_writes_eq_canon _ _ _ (cover0_B_5 (F := Ideal) c i a1 h1 a2 h2 a3 h3 a4 h4 a5 h5 a6 h6 a7 h7 hc x0 x1 x2 x3 w)]
  refine View.canon_apply_of_pieces (Val := Elt Ideal) (e := .bf16) (prod (normB x0 x1 x2) w) _ ?_ y
    (cover0_B_5 (F := Ideal) c i a1 h1 a2 h2 a3 h3 a4 h4 a5 h5 a6 h6 a7 h7 hc x0 x1 x2 x3 w y)
  unfold kernelRun0_B
  dsimp only
  sl_unfold_words
  simp only [View.readAt_eq_ld, h1.read_unread, h2.read_unread, h3.read_unread, h7.read_unread,
    View.ld_unit_zero (S := S1x2048) hz, View.ld_unit_zero (S := S2048x1024) hz]
  iterate 8 refine List.forall_mem_cons.mpr ⟨fun x => tile_o x0 x1 x2 w _ _ x, ?_⟩
  exact fun p hp => absurd hp List.not_mem_nil

/-- … and the scratch then holds that block of weights. -/
theorem scratch_A (hc : cond0_0 i) :
    sout0_A_0 (F := Ideal) c i a1 h1 a2 h2 a3 h3 a4 h4 a5 h5 a6 h6 a7 h7 hc x0 x1 x2 x3 = x3 := by
  unfold sout0_A_0
  rw [View.read_writes_eq_canon _ _ _ (scover0_A_0 (F := Ideal) c i a1 h1 a2 h2 a3 h3 a4 h4 a5 h5 a6 h6 a7 h7 hc x0 x1 x2 x3)]
  unfold kernelRun0_A
  dsimp only
  sl_unfold_words
  rw [View.canon_unit_zero hz]
  unfold k0_pay3
  simp only [View.readAt_eq_ld, h4.read_unread, View.ld_unit_zero (S := S2048x1024) hz, shapeCast_self]
  rfl

end Cert.Kernel8Ideal.Silu

end
-- ==== Proof.SiluRef.lean ====
/-
  The reference of the norm before the mixing, with the output gate's projection, read at an index.
-/
module

public import proofs.«01_k».proof.Proof.SiluBlock
public import proofs.«01_k».proof.Proof.Gen.Reference8Ideal.Read

@[expose] public section

noncomputable section

open Idealize.ShloMosaic Idealize.ShloMosaic.TcCoe Idealize.SL.Sem

namespace Cert.Silu

open Cert.Reference8Ideal Cert.Reference8Ideal.Read

variable (x : FVec Ideal S8192x2048 .f32) (md : FVec Ideal S2x2x2048 .f32) (g : FVec Ideal S1x2048 .f32)
  (w : FVec Ideal S1x2048x11264 .f32)

/-- The first result: row `r` normalized, scaled and shifted. -/
def specA (r : Fin 8192) (j : Fin 2048) : EReal :=
  Cert.Mix.next (fun k => x (ix2 r k)) (Cert.Mix.scale (fun k => g (ix2 0 k)) (fun k => md (ix3 ⟨r.val / 4096, by omega⟩ 1 k)))
    (fun k => md (ix3 ⟨r.val / 4096, by omega⟩ 0 k)) j

/-- The second result: the activation of that row times a column of this part of the weights. -/
def specO (r : Fin 8192) (j : Fin 1024) : EReal :=
  Kernel8Ideal.Silu.act (∑ k : Fin 2048, specA x md g r k * w (ix3 0 k ⟨4096 + j.val, by omega⟩))

theorem scale_assoc (n g o s sh : EReal) : n * g * (o + s) + sh = n * (g * (o + s)) + sh := by
  rw [mul_assoc]

theorem ref_a (b : Fin 2) (s : Fin 4096) (r : Fin 8192) (hr : b.val * 4096 + s.val = r.val) (j : Fin 2048) :
    val_main_v22 (F := Ideal) x md g (ix3 b s j) = specA x md g r j := by
  have hb : r.val / 4096 = b.val := by omega
  unfold specA Cert.Mix.next Cert.Mix.norm Cert.Mix.scale
  rw [← scale_assoc]
  pointwise [val_main_v22, val_main_v21, val_main_v20, val_main_v19, val_main_v18, val_main_v17, val_main_v16, val_main_v15,
    val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1,
    val_main_cst_2]
  simp only [hr, hb]

theorem ref_o (b : Fin 2) (s : Fin 4096) (r : Fin 8192) (hr : b.val * 4096 + s.val = r.val) (j : Fin 1024) :
    val_main_v26 (F := Ideal) x md g w (ix3 b s j) = specO x md g w r j := by
  unfold specO Kernel8Ideal.Silu.act
  simp only [← ref_a x md g b s r hr]
  pointwise [val_main_v26, val_main_v25, val_main_v24, val_main_v23, val_main_call0_v5, val_main_call0_v4, val_main_call0_v3,
    val_main_call0_v2, val_main_call0_v1, val_main_call0_v0, val_main_call0_cst, val_main_call0_cst_0]

theorem ref_apply_a (r : Fin 8192) (j : Fin 2048) : val_main_v28 (F := Ideal) x md g (ix2 r j) = specA x md g r j := by
  pointwise [val_main_v28, val_main_v27]
  exact ref_a _ _ _ _ _ r (by show r.val / 4096 * 4096 + r.val % 4096 = _; omega) j

theorem ref_apply_o (r : Fin 8192) (j : Fin 1024) : val_main_v30 (F := Ideal) x md g w (ix2 r j) = specO x md g w r j := by
  pointwise [val_main_v30, val_main_v29]
  exact ref_o _ _ _ _ _ _ r (by show r.val / 4096 * 4096 + r.val % 4096 = _; omega) j

end Cert.Silu

end
-- ==== Proof.SiluArray.lean ====
/-
  The norm before the mixing, with the output gate's projection: its result arrays, read at an index, from the argument
  arrays.
-/
module

public import proofs.«01_k».proof.Proof.SiluRef
public import Idealize.ShloMosaic.Lib.Pipeline.ValueKit
public import Idealize.ShloMosaic.Lib.StableHlo.ReadAt

@[expose] public section

noncomputable section

open Idealize.ShloMosaic Idealize.ShloMosaic.TcCoe Idealize.SL.Sem

namespace Cert.Kernel8Ideal.Silu

open Cert.Kernel8Ideal Cert.Kernel8Ideal.Gen

variable (m : (ℓ : Loc nD τ sig) → Buf (Elt Ideal) ℓ) (c : Dev nD)

theorem e0 : ∀ t : Fin cfg0.N, win0_0.index t = ![t.val, 0] := by decide +kernel
theorem e1 : ∀ t : Fin cfg0.N, win0_1.index t = ![t.val / 4, 0, 0] := by decide +kernel
theorem e2 : ∀ t : Fin cfg0.N, win0_2.index t = ![0, 0] := by decide +kernel
theorem e3 : ∀ t : Fin cfg0.N, win0_3.index t = ![0, 4] := by decide +kernel
theorem e4 : ∀ t : Fin cfg0.N, win0_4.index t = ![t.val, 0] := by decide +kernel
theorem e5 : ∀ t : Fin cfg0.N, win0_5.index t = ![t.val, 0] := by decide +kernel

theorem V_g (k : Fin 2048) : V m c main_v2 (ix2 0 k) = m ((c : Thread nD τ).loc main_arg2) (ix2 0 k) := by
  unfold V
  after_reads_at

theorem V_w (r : Fin 2048) (j : Fin 11264) : V m c main_v1 (ix2 r j)
    = m ((c : Thread nD τ).loc main_arg3) (ix3 0 r j) := by
  unfold V
  after_reads_at

theorem x_apply (t : Fin cfg0.N) (r : Fin 1024) (k : Fin 2048) (h : t.val * 1024 + r.val < 8192) :
    iblk m c 0 t (ix2 r k) = m ((c : Thread nD τ).loc main_arg0) (ix2 ⟨t.val * 1024 + r.val, h⟩ k) := by
  rw [← V_main_arg0 m c]
  blk_ext [iblk, e0]

theorem mod_apply (t : Fin cfg0.N) (r : Fin 2) (k : Fin 2048) (h : t.val / 4 < 2) :
    iblk m c 1 t (ix3 0 r k) = m ((c : Thread nD τ).loc main_arg1) (ix3 ⟨t.val / 4, h⟩ r k) := by
  rw [← V_main_arg1 m c]
  blk_ext [iblk, e1]

theorem g_apply (t : Fin cfg0.N) (k : Fin 2048) : iblk m c 2 t (ix2 0 k) = m ((c : Thread nD τ).loc main_arg2) (ix2 0 k) := by
  rw [← V_g m c]
  blk_ext [iblk, e2]

theorem w_apply (t : Fin cfg0.N) (k : Fin 2048) (j : Fin 1024) :
    iblk m c 3 t (ix2 k j) = m ((c : Thread nD τ).loc main_arg3) (ix3 0 k ⟨4096 + j.val, by omega⟩) := by
  rw [← V_w m c]
  blk_ext [iblk, e3]

theorem keep (t : Fin cfg0.N) (h0 : ¬t.val % 8 = 0) : (outsAt0 (F := Ideal) m c t.val t.isLt).2.2
    = (outsAt0 (F := Ideal) m c (t.val - 1) (Nat.lt_of_le_of_lt (Nat.sub_le _ _) t.isLt)).2.2 := by
  rw [outsAt0_B m c t h0]
  dsimp only [sout0_B_0]

/-- The scratch after every point holds the block of weights. -/
theorem scratch (n : ℕ) : ∀ h : n < cfg0.N, ∀ (k : Fin 2048) (j : Fin 1024), (outsAt0 (F := Ideal) m c n h).2.2 (ix2 k j)
    = m ((c : Thread nD τ).loc main_arg3) (ix3 0 k ⟨4096 + j.val, by omega⟩) := by
  induction n with
  | zero =>
    intro h k j
    rw [outsAt0_A m c ⟨0, h⟩ rfl]
    dsimp only
    rw [scratch_A]
    exact w_apply m c ⟨0, h⟩ k j
  | succ n ih =>
    intro h k j
    have h8 : n + 1 < 8 := h
    exact (congrFun (keep m c ⟨n + 1, h⟩ (show ¬(n + 1) % 8 = 0 by omega)) (ix2 k j)).trans (ih (Nat.lt_of_succ_lt h) k j)

theorem out_norm (t : Fin cfg0.N) (y : S1024x2048.Idx) : (outsAt0 (F := Ideal) m c t.val t.isLt).1 y
    = normB (iblk m c 0 t) (iblk m c 1 t) (iblk m c 2 t) y := by
  by_cases h0 : t.val % 8 = 0
  · rw [outsAt0_A m c t h0]
    dsimp only
    rw [norm_A]
  · rw [outsAt0_B m c t h0]
    dsimp only
    rw [norm_B]

theorem out_gate (t : Fin cfg0.N) (y : S1024x1024.Idx) : (outsAt0 (F := Ideal) m c t.val t.isLt).2.1 y
    = prod (normB (iblk m c 0 t) (iblk m c 1 t) (iblk m c 2 t)) (outsAt0 (F := Ideal) m c t.val t.isLt).2.2 y := by
  by_cases h0 : t.val % 8 = 0
  · rw [outsAt0_A m c t h0]
    dsimp only
    rw [scratch_A, gate_A]
  · rw [outsAt0_B m c t h0]
    dsimp only
    rw [gate_B]
    rfl

theorem norm_read (x : FVec Ideal S1024x2048 .f32) (md : FVec Ideal S1x2x2048 .f32) (g : FVec Ideal S1x2048 .f32)
    (X : FVec Ideal S8192x2048 .f32) (M : FVec Ideal S2x2x2048 .f32) (G : FVec Ideal S1x2048 .f32) (r : Fin 1024) (n : Fin 8192)
    (hx : ∀ k : Fin 2048, x (ix2 r k) = X (ix2 n k)) (hm : ∀ (p : Fin 2) (k : Fin 2048), md (ix3 0 p k) = M (ix3 ⟨n.val / 4096, by omega⟩ p k))
    (hg : ∀ k : Fin 2048, g (ix2 0 k) = G (ix2 0 k)) (j : Fin 2048) : normB x md g (ix2 r j) = Cert.Silu.specA X M G n j := by
  show Cert.Mix.next (fun k => x (ix2 r k)) (Cert.Mix.scale (fun k => g (ix2 0 k)) (fun k => md (ix3 0 1 k)))
    (fun k => md (ix3 0 0 k)) j = _
  simp only [hx, hm, hg]
  rfl

theorem gate_read (a : FVec Ideal S1024x2048 .bf16) (w : FVec Ideal S2048x1024 .bf16) (W : FVec Ideal S1x2048x11264 .f32)
    (A : Fin 2048 → EReal) (r : Fin 1024) (j : Fin 1024) (ha : ∀ k : Fin 2048, a (ix2 r k) = A k)
    (hw : ∀ k : Fin 2048, w (ix2 k j) = W (ix3 0 k ⟨4096 + j.val, by omega⟩)) :
    prod a w (ix2 r j) = act (∑ k : Fin 2048, A k * W (ix3 0 k ⟨4096 + j.val, by omega⟩)) := by
  show act (∑ k : Fin 2048, a (ix2 r k) * w (ix2 k j)) = _
  simp only [ha, hw]

/-- A row of the first output's block is that row of the reference. -/
theorem norm_row (t : Fin cfg0.N) (r : Fin 1024) (j : Fin 2048) (h : t.val * 1024 + r.val < 8192) :
    normB (iblk m c 0 t) (iblk m c 1 t) (iblk m c 2 t) (ix2 r j) = Cert.Silu.specA (m ((c : Thread nD τ).loc main_arg0))
      (m ((c : Thread nD τ).loc main_arg1)) (m ((c : Thread nD τ).loc main_arg2)) ⟨t.val * 1024 + r.val, h⟩ j := by
  have ht : t.val < 8 := t.isLt
  have hb : t.val / 4 < 2 := by omega
  have q : t.val / 4 = (t.val * 1024 + r.val) / 4096 := by omega
  refine norm_read _ _ _ _ _ _ r ⟨t.val * 1024 + r.val, h⟩ (fun k => x_apply m c t r k h) (fun p k => ?_) (fun k => g_apply m c t k) j
  refine (mod_apply m c t p k hb).trans ?_
  simp only [q]

theorem final_norm : (dats m 0 c).arrAt 4 cfg0.N = fun i => Cert.Silu.specA (m ((c : Thread nD τ).loc main_arg0))
    (m ((c : Thread nD τ).loc main_arg1)) (m ((c : Thread nD τ).loc main_arg2)) (i 0) (i 1) := by
  refine (dats m 0 c).arrAt_eq_of_covers 4 _ (by decide +kernel) fun t hf y => ?_
  have ht : t.val < 8 := t.isLt
  obtain ⟨r, j, rfl⟩ : ∃ (r : Fin 1024) (j : Fin 2048), y = ix2 r j := ⟨y 0, y 1, eq_ix2 _⟩
  have hr : t.val * 1024 + r.val < 8192 := by omega
  have h0 : (win0_4.blk t).view.emb (ix2 r j) 0 = (⟨t.val * 1024 + r.val, hr⟩ : Fin 8192) := by
    apply Fin.ext; blk_simp [e4]
  have h1 : (win0_4.blk t).view.emb (ix2 r j) 1 = j := by
    apply Fin.ext; blk_simp [e4]
  blk_simp
  rw [after0_4, out_norm, h0, h1]
  exact norm_row m c t r j hr

theorem final_gate : (dats m 0 c).arrAt 5 cfg0.N = fun i => Cert.Silu.specO (m ((c : Thread nD τ).loc main_arg0))
    (m ((c : Thread nD τ).loc main_arg1)) (m ((c : Thread nD τ).loc main_arg2)) (m ((c : Thread nD τ).loc main_arg3)) (i 0) (i 1) := by
  refine (dats m 0 c).arrAt_eq_of_covers 5 _ (by decide +kernel) fun t hf y => ?_
  have ht : t.val < 8 := t.isLt
  obtain ⟨r, j, rfl⟩ : ∃ (r : Fin 1024) (j : Fin 1024), y = ix2 r j := ⟨y 0, y 1, eq_ix2 _⟩
  have hr : t.val * 1024 + r.val < 8192 := by omega
  have h0 : (win0_5.blk t).view.emb (ix2 r j) 0 = (⟨t.val * 1024 + r.val, hr⟩ : Fin 8192) := by
    apply Fin.ext; blk_simp [e5]
  have h1 : (win0_5.blk t).view.emb (ix2 r j) 1 = j := by
    apply Fin.ext; blk_simp [e5]
  blk_simp
  rw [after0_5, out_gate, h0, h1]
  exact gate_read _ _ _ _ r j (fun k => norm_row m c t r k hr) (fun k => scratch m c t.val t.isLt k j)

end Cert.Kernel8Ideal.Silu

end
-- ==== Proof.SiluClaim.lean ====
/-
  The norm before the mixing, with the output gate's projection, computes its reference.
-/
module

public import proofs.«01_k».proof.Proof.SiluArray
public import proofs.«01_k».proof.Defs

@[expose] public section

noncomputable section

open Idealize.ShloMosaic Idealize.ShloMosaic.TcCoe Idealize.SL.Sem

namespace Cert.Silu

theorem algebraic : Cert.algebraic_Kernel8Ideal_Reference8Ideal (hKernel8Ideal := Cert.Kernel8Ideal.Gen.facts)
    (hReference8Ideal := Cert.Reference8Ideal.Gen.facts) := by
  intro m g m' g' _ hagree
  refine ⟨fun c i => specA (m ((c.tc : Thread _ _).loc Cert.Kernel8Ideal.main_arg0))
      (m ((c.tc : Thread _ _).loc Cert.Kernel8Ideal.main_arg1)) (m ((c.tc : Thread _ _).loc Cert.Kernel8Ideal.main_arg2)) (i 0) (i 1),
    fun c i => specO (m ((c.tc : Thread _ _).loc Cert.Kernel8Ideal.main_arg0))
      (m ((c.tc : Thread _ _).loc Cert.Kernel8Ideal.main_arg1)) (m ((c.tc : Thread _ _).loc Cert.Kernel8Ideal.main_arg2))
      (m ((c.tc : Thread _ _).loc Cert.Kernel8Ideal.main_arg3)) (i 0) (i 1), ?_, ?_⟩
  · exact (θ_run _ _ _).mono (fun _ h c => ⟨(h c).1.trans (Cert.Kernel8Ideal.Silu.final_norm m c),
        (h c).2.1.trans (Cert.Kernel8Ideal.Silu.final_gate m c), (h c).2.2⟩)
      (Cert.Kernel8Ideal.Value.run_blocks m g)
  · refine (θ_run _ _ _).mono (fun _ h c => ⟨(h c).1.trans ?_, (h c).2.1.trans ?_, (h c).2.2⟩)
      (Cert.Reference8Ideal.Value.run m' g')
    · refine (Cert.Reference8Ideal.Read.val_main_v28_eq _ _ _).trans ?_
      rw [(hagree c).1, (hagree c).2.1, (hagree c).2.2.1]
      funext i
      obtain ⟨r, k, rfl⟩ : ∃ (r : Fin 8192) (k : Fin 2048), i = ix2 r k := ⟨i 0, i 1, eq_ix2 _⟩
      exact ref_apply_a _ _ _ r k
    · refine (Cert.Reference8Ideal.Read.val_main_v30_eq _ _ _ _).trans ?_
      rw [(hagree c).1, (hagree c).2.1, (hagree c).2.2.1, (hagree c).2.2.2]
      funext i
      obtain ⟨r, k, rfl⟩ : ∃ (r : Fin 8192) (k : Fin 1024), i = ix2 r k := ⟨i 0, i 1, eq_ix2 _⟩
      exact ref_apply_o _ _ _ _ r k

end Cert.Silu

end
-- ==== Proof.ModBlock.lean ====
/-
  The modulation of the mixing part: one grid point's block, and its reference read at an index.
-/
module

public import proofs.«01_k».proof.Proof.Gen.Kernel9Ideal.Value
public import proofs.«01_k».proof.Proof.Gen.Reference9Ideal.Read
public import Idealize.ShloMosaic.Lib.Pointwise
public import Idealize.ShloMosaic.Lib.Pipeline.Value

@[expose] public section

noncomputable section

open Idealize.ShloMosaic Idealize.ShloMosaic.TcCoe Idealize.SL.Sem

namespace Cert.Mod

theorem hz : (![0, 0] : Fin 2 → Nat) = fun _ => 0 := funext fun a => by fin_cases a <;> rfl

/-- A row through its activation, times a column of weights, plus the column's offset. -/
def entry (x w : Fin 2048 → EReal) (b : EReal) : EReal :=
  (∑ k, x k * Ideal.div 1 (1 + Ideal.exp (-x k)) * w k) + b

section kernel

open Cert.Kernel9Ideal Cert.Kernel9Ideal.Gen

variable (x : FVec Ideal S8x2048 .f32) (w : FVec Ideal S2048x512 .f32) (b : FVec Ideal S1x512 .f32)

theorem pay_apply (r : Fin 8) (j : Fin 512) : k0_pay1 (F := Ideal) x w b (ix2 r j)
    = entry (fun k => x (ix2 r k)) (fun k => w (ix2 k j)) (b (ix2 0 j)) := by
  unfold entry
  pointwise [k0_pay1]
  simp only [zero_sub]

theorem out_apply (r : Fin 8) (j : Fin 512) : out0_3 (F := Ideal) x w b (ix2 r j)
    = entry (fun k => x (ix2 r k)) (fun k => w (ix2 k j)) (b (ix2 0 j)) := by
  unfold out0_3
  rw [View.canon_unit_zero hz, View.ld_unit_zero (S := S8x2048) hz, View.ld_unit_zero (S := S2048x512) hz,
    View.ld_unit_zero (S := S1x512) hz]
  exact pay_apply x w b r j

end kernel

section reference

open Cert.Reference9Ideal Cert.Reference9Ideal.Read

variable (x : FVec Ideal S8x2048 .f32) (w : FVec Ideal S1x2048x12288 .f32) (b : FVec Ideal S1x12288 .f32)

/-- The modulation at row `r`, column `j` of its first two parts. -/
def spec (r : Fin 8) (j : Fin 4096) : EReal :=
  entry (fun k => x (ix2 r k)) (fun k => w (ix3 0 k ⟨j.val, by omega⟩)) (b (ix2 0 ⟨j.val, by omega⟩))

theorem ref_apply (r : Fin 8) (j : Fin 4096) : val_main_v7 (F := Ideal) x w b (ix2 r j) = spec x w b r j := by
  unfold spec entry
  pointwise [val_main_v7, val_main_v6, val_main_v5, val_main_v4, val_main_v3, val_main_v2, val_main_v1, val_main_v0,
    val_main_call0_v5, val_main_call0_v4, val_main_call0_v3, val_main_call0_v2, val_main_call0_v1, val_main_call0_v0,
    val_main_call0_cst, val_main_call0_cst_0]

end reference

end Cert.Mod

end
-- ==== Proof.ModClaim.lean ====
/-
  The modulation of the mixing part computes its reference.
-/
module

public import proofs.«01_k».proof.Proof.ModBlock
public import proofs.«01_k».proof.Defs
public import Idealize.ShloMosaic.Lib.Pipeline.ValueKit
public import Idealize.ShloMosaic.Lib.StableHlo.ReadAt

@[expose] public section

noncomputable section

open Idealize.ShloMosaic Idealize.ShloMosaic.TcCoe Idealize.SL.Sem

namespace Cert.Mod

section array

open Cert.Kernel9Ideal Cert.Kernel9Ideal.Gen

variable (m : (ℓ : Loc nD τ sig) → Buf (Elt Ideal) ℓ) (c : Dev nD)

theorem e0 : ∀ t : Fin cfg0.N, win0_0.index t = ![0, 0] := by decide +kernel
theorem e1 : ∀ t : Fin cfg0.N, win0_1.index t = ![0, t.val] := by decide +kernel
theorem e2 : ∀ t : Fin cfg0.N, win0_2.index t = ![0, t.val] := by decide +kernel
theorem e3 : ∀ t : Fin cfg0.N, win0_3.index t = ![0, t.val] := by decide +kernel

theorem V_w (r : Fin 2048) (j : Fin 12288) : V m c main_v0 (ix2 r j)
    = m ((c : Thread nD τ).loc main_arg1) (ix3 0 r j) := by
  unfold V
  after_reads_at

theorem V_b (j : Fin 12288) : V m c main_v2 (ix2 0 j) = m ((c : Thread nD τ).loc main_arg2) (ix2 0 j) := by
  unfold V
  after_reads_at

theorem x_apply (t : Fin cfg0.N) (r : Fin 8) (k : Fin 2048) : iblk m c 0 t (ix2 r k)
    = m ((c : Thread nD τ).loc main_arg0) (ix2 r k) := by
  rw [← V_main_arg0 m c]
  blk_ext [iblk, e0]

theorem w_apply (t : Fin cfg0.N) (k : Fin 2048) (j : Fin 512) (h : t.val * 512 + j.val < 4096) :
    iblk m c 1 t (ix2 k j) = m ((c : Thread nD τ).loc main_arg1) (ix3 0 k ⟨t.val * 512 + j.val, by omega⟩) := by
  rw [← V_w m c]
  blk_ext [iblk, e1]

theorem b_apply (t : Fin cfg0.N) (j : Fin 512) (h : t.val * 512 + j.val < 4096) :
    iblk m c 2 t (ix2 0 j) = m ((c : Thread nD τ).loc main_arg2) (ix2 0 ⟨t.val * 512 + j.val, by omega⟩) := by
  rw [← V_b m c]
  blk_ext [iblk, e2]

theorem read (x : FVec Ideal S8x2048 .f32) (w : FVec Ideal S2048x512 .f32) (b : FVec Ideal S1x512 .f32)
    (X : FVec Ideal S8x2048 .f32) (W : FVec Ideal S1x2048x12288 .f32) (B : FVec Ideal S1x12288 .f32) (r : Fin 8) (j : Fin 512)
    (n : Fin 4096) (hx : ∀ k : Fin 2048, x (ix2 r k) = X (ix2 r k))
    (hw : ∀ k : Fin 2048, w (ix2 k j) = W (ix3 0 k ⟨n.val, by omega⟩)) (hb : b (ix2 0 j) = B (ix2 0 ⟨n.val, by omega⟩)) :
    out0_3 (F := Ideal) x w b (ix2 r j) = spec X W B r n := by
  rw [out_apply]
  simp only [hx, hw, hb]
  rfl

theorem final : (dats m 0 c).arrAt 3 cfg0.N = fun i => spec (m ((c : Thread nD τ).loc main_arg0))
    (m ((c : Thread nD τ).loc main_arg1)) (m ((c : Thread nD τ).loc main_arg2)) (i 0) (i 1) := by
  refine (dats m 0 c).arrAt_eq_of_covers 3 _ (by decide +kernel) fun t hf y => ?_
  have ht : t.val < 8 := t.isLt
  obtain ⟨r, j, rfl⟩ : ∃ (r : Fin 8) (j : Fin 512), y = ix2 r j := ⟨y 0, y 1, eq_ix2 _⟩
  have hj : t.val * 512 + j.val < 4096 := by omega
  have h0 : (win0_3.blk t).view.emb (ix2 r j) 0 = r := by
    apply Fin.ext; blk_simp [e3]
  have h1 : (win0_3.blk t).view.emb (ix2 r j) 1 = (⟨t.val * 512 + j.val, hj⟩ : Fin 4096) := by
    apply Fin.ext; blk_simp [e3]
  blk_simp
  rw [after0_3, h0, h1]
  exact read _ _ _ _ _ _ r j _ (fun k => x_apply m c t r k) (fun k => w_apply m c t k j hj) (b_apply m c t j hj)

end array

theorem algebraic : Cert.algebraic_Kernel9Ideal_Reference9Ideal (hKernel9Ideal := Cert.Kernel9Ideal.Gen.facts)
    (hReference9Ideal := Cert.Reference9Ideal.Gen.facts) := by
  intro m g m' g' _ hagree
  refine ⟨fun c i => spec (m ((c.tc : Thread _ _).loc Cert.Kernel9Ideal.main_arg0))
    (m ((c.tc : Thread _ _).loc Cert.Kernel9Ideal.main_arg1)) (m ((c.tc : Thread _ _).loc Cert.Kernel9Ideal.main_arg2)) (i 0) (i 1),
    ?_, ?_⟩
  · exact (θ_run _ _ _).mono (fun _ h c => ⟨(h c).1.trans (final m c), (h c).2⟩) (Cert.Kernel9Ideal.Value.run_blocks m g)
  · refine (θ_run _ _ _).mono (fun _ h c => ⟨(h c).1.trans ?_, (h c).2⟩) (Cert.Reference9Ideal.Value.run m' g')
    refine (Cert.Reference9Ideal.Read.val_main_v7_eq _ _ _).trans ?_
    rw [(hagree c).1, (hagree c).2.1, (hagree c).2.2]
    funext i
    obtain ⟨r, k, rfl⟩ : ∃ (r : Fin 8) (k : Fin 4096), i = ix2 r k := ⟨i 0, i 1, eq_ix2 _⟩
    exact ref_apply _ _ _ r k

end Cert.Mod

end
-- ==== Proof.HgrnForm.lean ====
/-
  What the recurrence's body writes, as functions of what it loads: the gate and its running sum in a chunk, the decayed
  queries and keys, the chunk's output and the next state, and the lists of pieces its stores leave, step by step. The
  body's 64 steps are printed one after the other; here they are a recursion over the step.
-/
module

public import proofs.«01_k».proof.Proof.Gen.Kernel10Ideal.Frame
public import Idealize.ShloMosaic.Lib.Pipeline.Value

@[expose] public section

noncomputable section

namespace Cert.Kernel10Ideal.Hgrn

open Cert.Kernel10Ideal Cert.Kernel10Ideal.Gen
open Idealize.ShloMosaic Idealize.ShloMosaic.TcCoe

variable {F : FTy → Type} [FloatOps F] [Named F]

/-- Rows 64·o to 64·o+63 of head h of a block of two heads. -/
theorem rc_inb (o : ℕ) (h : Bool) : ∀ a, (![64 * (o % 64), cond h 128 0] : Fin 2 → ℕ) a + S64x128.size a ≤ S4096x256.size a := fun a =>
  match a with
  | ⟨0, _⟩ => by show 64 * (o % 64) + 64 ≤ 4096; omega
  | ⟨1, _⟩ => by show cond h 128 0 + 128 ≤ 256; cases h <;> decide

def rc (o : ℕ) (h : Bool) : Rect S4096x256 := Rect.unit (s := S4096x256) ![64 * (o % 64), cond h 128 0] S64x128.size (rc_inb o h)

/-- Plane u of the scratch of states. -/
theorem rs_inb (h d : Bool) : ∀ a, (![cond h (cond d 3 2) (cond d 1 0), 0, 0] : Fin 3 → ℕ) a + S1x128x128.size a ≤ S4x128x128.size a := fun a =>
  match a with
  | ⟨0, _⟩ => by show cond h (cond d 3 2) (cond d 1 0) + 1 ≤ 4; cases h <;> cases d <;> decide
  | ⟨1, _⟩ => by show 0 + 128 ≤ 128; decide
  | ⟨2, _⟩ => by show 0 + 128 ≤ 128; decide

def rs (h d : Bool) : Rect S4x128x128 := Rect.unit (s := S4x128x128) ![cond h (cond d 3 2) (cond d 1 0), 0, 0] S1x128x128.size (rs_inb h d)

def rw0 : Rect S4x128x128 := Rect.unit (s := S4x128x128) ![0, 0, 0] S4x128x128.size inb_S4x128x128_S4x128x128_0_0_0

/-- What the body's loads read. -/
structure Loads (F : FTy → Type) where
  q : (r : Rect S4096x256) → r.shape.Idx → Elt F .bf16
  fw : (r : Rect S4096x256) → r.shape.Idx → Elt F .bf16
  bw : (r : Rect S4096x256) → r.shape.Idx → Elt F .bf16
  v : (r : Rect S4096x256) → r.shape.Idx → Elt F .bf16
  g : (r : Rect S4096x256) → r.shape.Idx → Elt F .bf16
  l : (r : Rect S4x256) → r.shape.Idx → Elt F .f32
  n : (r : Rect S1x128) → r.shape.Idx → Elt F .f32
  ow : List (View.Piece (Elt F) S4096x256 .f32) → (r : Rect S4096x256) → r.shape.Idx → Elt F .f32
  ob : List (View.Piece (Elt F) S4096x256 .f32) → (r : Rect S4096x256) → r.shape.Idx → Elt F .f32
  st : List (View.Piece (Elt F) S4x128x128 .f32) → (r : Rect S4x128x128) → r.shape.Idx → Elt F .f32

variable (L : Loads F)

def half : F .f32 := Scalar.ofBits .f32 0x3F000000#32
def one : F .f32 := Scalar.ofBits .f32 0x3F800000#32

def lbl : FVec F S4x256 .f32 :=
  shapeCast S4x256 (L.l (Rect.unit (s := S4x256) ![0, 0] S4x256.size inb_S4x256_S4x256_0_0)) shapeCasts_S4x256_S4x256

/-- The lower bound of the gate from its two rows of logits. -/
def lb (l0 l1 : FVec F S1x256 .f32) : FVec F S1x256 .f32 :=
  divf (exp (subf l0 (maximumf l0 l1))) (addf (exp (subf l0 (maximumf l0 l1))) (exp (subf l1 (maximumf l0 l1))))

def lbd (d : Bool) : FVec F S1x256 .f32 :=
  cond d
    (lb (extractStridedSlice S1x256 ![2, 0] (lbl L) slices_S4x256_o2_0_S1x256) (extractStridedSlice S1x256 ![3, 0] (lbl L) slices_S4x256_o3_0_S1x256))
    (lb (extractStridedSlice S1x256 ![0, 0] (lbl L) slices_S4x256_o0_0_S1x256) (extractStridedSlice S1x256 ![1, 0] (lbl L) slices_S4x256_o1_0_S1x256))

def c0 (d : Bool) : FVec F S1x256 .f32 := mulf (broadcast S1x256 half) (addf (broadcast S1x256 one) (lbd L d))
def c1 (d : Bool) : FVec F S1x256 .f32 := mulf (broadcast S1x256 half) (subf (broadcast S1x256 one) (lbd L d))

def mask (d : Bool) : IVec S64x64 1 :=
  cond d
    (cmpi .sge (iota .tc S64x64 32 [1] iota_S64x64_d1_w32) (iota .tc S64x64 32 [0] iota_S64x64_d0_w32))
    (cmpi .sle (iota .tc S64x64 32 [1] iota_S64x64_d1_w32) (iota .tc S64x64 32 [0] iota_S64x64_d0_w32))

def col2 : IVec S64x128 32 := andi (iota .tc S64x128 32 [1] iota_S64x128_d1_w32) (broadcast S64x128 63#32)

def tri (d : Bool) : FVec F S64x128 .bf16 :=
  truncf .bf16 (select (cond d (cmpi .sge col2 (iota .tc S64x128 32 [0] iota_S64x128_d0_w32)) (cmpi .sle col2 (iota .tc S64x128 32 [0] iota_S64x128_d0_w32)))
    (broadcast S64x128 one) (broadcast S64x128 (Scalar.ofBits .f32 0x00000000#32 : F .f32))) bitsLt_bf16_f32

/-- A head's half of a row of two heads, repeated over the chunk's rows. -/
def hd (h : Bool) (x : FVec F S1x256 .f32) : FVec F S64x128 .f32 :=
  broadcastTo S64x128 (cond h (extractStridedSlice S1x128 ![0, 128] x slices_S1x256_o0_128_S1x128) (extractStridedSlice S1x128 ![0, 0] x slices_S1x256_o0_0_S1x128)) broadcasts_S1x128_S64x128

section chunk
variable (h d : Bool) (o : ℕ)

def gate : FVec F S64x128 .bf16 := cond d (L.bw (rc o h)) (L.fw (rc o h))

def ct : FVec F S64x128 .f32 := mulf (hd h (c1 L d)) (tanh (mulf (broadcast S64x128 half) (extf .f32 (gate L h d o) bitsLt_bf16_f32)))
def kk : FVec F S64x128 .f32 := subf (hd h (c1 L d)) (ct L h d o)
def lf : FVec F S64x128 .f32 := log (addf (hd h (c0 L d)) (ct L h d o))
def hi (x : FVec F S64x128 .f32) : FVec F S64x128 .bf16 := truncf .bf16 x bitsLt_bf16_f32
def split (x : FVec F S64x128 .f32) : FVec F S128x128 .bf16 :=
  concatenate S128x128 0 [⟨S64x128, hi x⟩, ⟨S64x128, hi (subf x (extf .f32 (hi x) bitsLt_bf16_f32))⟩] concatenates_S64x128_S64x128_S128x128_d0

/-- The running sum of the gate's logarithm in the chunk, over log 2. -/
def bb : FVec F S64x128 .f32 :=
  mulf (matmul dot_S64x128_S128x128_S64x128_1_0_0_1_n_n none (tri d) (split (lf L h d o)) (constant S64x128 .f32 0x00000000#32))
    (broadcast S64x128 (Named.named κ "log2_e" 0x3FB8AA3B#32 : F .f32))

def bend (b : FVec F S64x128 .f32) : FVec F S1x128 .f32 :=
  cond d (extractStridedSlice S1x128 ![0, 0] b slices_S64x128_o0_0_S1x128) (extractStridedSlice S1x128 ![63, 0] b slices_S64x128_o63_0_S1x128)
def bmid (b : FVec F S64x128 .f32) : FVec F S64x128 .f32 :=
  broadcastTo S64x128 (cond d (extractStridedSlice S1x128 ![32, 0] b slices_S64x128_o32_0_S1x128) (extractStridedSlice S1x128 ![31, 0] b slices_S64x128_o31_0_S1x128)) broadcasts_S1x128_S64x128

def qf : FVec F S64x128 .f32 := extf .f32 (L.q (rc o h) : FVec F S64x128 .bf16) bitsLt_bf16_f32
def qd : FVec F S64x128 .bf16 := hi (mulf (qf L h o) (exp2 (bb L h d o)))
def ke : FVec F S64x128 .bf16 := hi (mulf (kk L h d o) (exp2 (subf (broadcastTo S64x128 (bend d (bb L h d o)) broadcasts_S1x128_S64x128) (bb L h d o))))
def qm : FVec F S64x128 .bf16 := hi (mulf (qf L h o) (exp2 (subf (bb L h d o) (bmid d (bb L h d o)))))
def km : FVec F S64x128 .bf16 := hi (mulf (kk L h d o) (exp2 (subf (bmid d (bb L h d o)) (bb L h d o))))
def att : FVec F S64x64 .bf16 :=
  truncf .bf16 (select (mask d) (matmul dot_S64x128_S64x128_S64x64_1_1_0_0_n_n none (qm L h d o) (km L h d o) (constant S64x64 .f32 0x00000000#32))
    (broadcast S64x64 (Scalar.ofBits .f32 0x00000000#32 : F .f32))) bitsLt_bf16_f32
def vv : FVec F S64x128 .bf16 := L.v (rc o h)

/-- The chunk's output from the state before it, and the state after it. -/
def oo (s : FVec F S128x128 .f32) : FVec F S64x128 .f32 :=
  addf (matmul dot_S64x64_S64x128_S64x128_1_0_0_1_n_n none (att L h d o) (vv L h o) (constant S64x128 .f32 0x00000000#32))
    (matmul dot_S64x128_S128x128_S64x128_1_1_0_0_n_n none (qd L h d o) (truncf .bf16 s bitsLt_bf16_f32) (constant S64x128 .f32 0x00000000#32))
def nxt (s : FVec F S128x128 .f32) : FVec F S128x128 .f32 :=
  addf (mulf s (broadcastTo S128x128 (exp2 (bend d (bb L h d o))) broadcasts_S1x128_S128x128))
    (matmul dot_S64x128_S64x128_S128x128_0_0_1_1_n_n none (vv L h o) (ke L h d o) (constant S128x128 .f32 0x00000000#32))

/-- The normed and gated sum of the two directions. -/
def fin (x : FVec F S64x128 .f32) : FVec F S64x128 .bf16 :=
  truncf .bf16 (mulf (mulf (mulf x (broadcastTo S64x128 (rsqrt (addf (divf
      (shapeCast S64x1 (multiReduction .add [1] S64 (mulf x x) 0x00000000#32 reduces_S64x128_S64 (.inl rfl) rfl) shapeCasts_S64_S64x1)
      (broadcast S64x1 (Scalar.ofBits .f32 0x43000000#32 : F .f32))) (broadcast S64x1 (Scalar.ofBits .f32 0x358637BD#32 : F .f32)))) broadcasts_S64x1_S64x128))
    (broadcastTo S64x128 (shapeCast S1x128 (L.n (Rect.unit (s := S1x128) ![0, 0] S1x128.size inb_S1x128_S1x128_0_0)) shapeCasts_S1x128_S1x128) broadcasts_S1x128_S64x128))
    (extf .f32 (L.g (rc o h) : FVec F S64x128 .bf16) bitsLt_bf16_f32)) bitsLt_bf16_f32
end chunk

/-! ## The lists of pieces, step by step -/

/-- The chunk direction d visits at step p. -/
def ch (d : Bool) (p : ℕ) : ℕ := cond d (63 - p) p

/-- A unit's state as the list holds it, its next list, and its output. -/
def got (h d : Bool) (l : List (View.Piece (Elt F) S4x128x128 .f32)) : FVec F S128x128 .f32 :=
  shapeCast S128x128 (L.st l (rs h d) : FVec F S1x128x128 .f32) shapeCasts_S1x128x128_S128x128
def put (h d : Bool) (p : ℕ) (l : List (View.Piece (Elt F) S4x128x128 .f32)) : List (View.Piece (Elt F) S4x128x128 .f32) :=
  ⟨rs h d, shapeCast S1x128x128 (nxt L h d (ch d p) (got L h d l)) shapeCasts_S128x128_S1x128x128⟩ :: l

/-- The states' pieces before step p. -/
def ls : ℕ → List (View.Piece (Elt F) S4x128x128 .f32)
  | 0 => [⟨rw0, shapeCast S4x128x128 (broadcast S4x128x128 (Scalar.ofBits .f32 0x00000000#32 : F .f32)) shapeCasts_S4x128x128_S4x128x128⟩]
  | p + 1 => put L true true p (put L true false p (put L false true p (put L false false p (ls p))))

/-- The states' pieces when a unit reads its own. -/
def lu (h d : Bool) (p : ℕ) : List (View.Piece (Elt F) S4x128x128 .f32) :=
  cond h (cond d (put L true false p (put L false true p (put L false false p (ls L p)))) (put L false true p (put L false false p (ls L p))))
    (cond d (put L false false p (ls L p)) (ls L p))

def ou (h d : Bool) (p : ℕ) : FVec F S64x128 .f32 := oo L h d (ch d p) (got L h d (lu L h d p))

/-- The first half's outputs of direction d, after step p. -/
def lo (d : Bool) : ℕ → List (View.Piece (Elt F) S4096x256 .f32)
  | 0 => []
  | p + 1 => ⟨rc (ch d p) true, shapeCast S64x128 (ou L true d p) shapeCasts_S64x128_S64x128⟩ ::
      ⟨rc (ch d p) false, shapeCast S64x128 (ou L false d p) shapeCasts_S64x128_S64x128⟩ :: lo d p

/-- What the second half adds: the other direction's output of the chunk. -/
def oth (h d : Bool) (p : ℕ) : FVec F S64x128 .f32 :=
  cond d (L.ow (lo L false 32) (rc (ch d p) h)) (L.ob (lo L true 32) (rc (ch d p) h))

def res (h d : Bool) (p : ℕ) : View.Piece (Elt F) S4096x256 .bf16 :=
  ⟨rc (ch d p) h, fin L h (ch d p) (addf (ou L h d p) (oth L h d p))⟩

/-- The output's pieces after p steps of the second half. -/
def l7 : ℕ → List (View.Piece (Elt F) S4096x256 .bf16)
  | 0 => []
  | p + 1 => res L true true (32 + p) :: res L true false (32 + p) :: res L false true (32 + p) :: res L false false (32 + p) :: l7 p

end Cert.Kernel10Ideal.Hgrn

end
-- ==== Proof.HgrnRun.lean ====
/-
  The recurrence's body, run: the pieces its stores leave are those of the recursion over the steps.
-/
module

public import proofs.«01_k».proof.Proof.HgrnForm
public import Idealize.ShloMosaic.Lib.Tactic

@[expose] public section

set_option maxRecDepth 100000

noncomputable section

namespace Cert.Kernel10Ideal.Hgrn

open Cert.Kernel10Ideal Cert.Kernel10Ideal.Gen
open Idealize.ShloMosaic Idealize.ShloMosaic.TcCoe

variable {F : FTy → Type} [FloatOps F] [Named F]

section run
variable (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S4x256 .f32) (harg7 : arg7.IsWhole) (arg8 : Memref sig .tc .vmem S1x128 .f32) (harg8 : arg8.IsWhole) (arg9 : Memref sig .tc .vmem S4096x256 .bf16) (harg9 : arg9.IsWhole) (arg10 : Memref sig .tc .vmem S4096x256 .f32) (harg10 : arg10.IsWhole) (arg11 : Memref sig .tc .vmem S4096x256 .f32) (harg11 : arg11.IsWhole) (arg12 : Memref sig .tc .vmem S4x128x128 .f32) (harg12 : arg12.IsWhole)
    (x0 : Vec F S4096x256 .bf16) (x1 : Vec F S4096x256 .bf16) (x2 : Vec F S4096x256 .bf16) (x3 : Vec F S4096x256 .bf16) (x4 : Vec F S4096x256 .bf16) (x5 : Vec F S4x256 .f32) (x6 : Vec F S1x128 .f32)

/-- The loads of a run: the whole buffers' contents and the pieces stored so far, read through the rectangle. -/
def loads : Loads F where
  q r := arg2.view.readAt (Elt F) r.toLoadRect (harg2.unread x0)
  fw r := arg3.view.readAt (Elt F) r.toLoadRect (harg3.unread x1)
  bw r := arg4.view.readAt (Elt F) r.toLoadRect (harg4.unread x2)
  v r := arg5.view.readAt (Elt F) r.toLoadRect (harg5.unread x3)
  g r := arg6.view.readAt (Elt F) r.toLoadRect (harg6.unread x4)
  l r := arg7.view.readAt (Elt F) r.toLoadRect (harg7.unread x5)
  n r := arg8.view.readAt (Elt F) r.toLoadRect (harg8.unread x6)
  ow l r := arg10.view.readCov l r.toLoadRect
  ob l r := arg11.view.readCov l r.toLoadRect
  st l r := arg12.view.readCov l r.toLoadRect

/-- The pieces the run leaves in the output's buffer are the ones of the recursion over the steps. -/
theorem run_pieces : (kernelRun0_A c i arg2 harg2 arg3 harg3 arg4 harg4 arg5 harg5 arg6 harg6 arg7 harg7 arg8 harg8 arg9 harg9 arg10 harg10 arg11 harg11 arg12 harg12 x0 x1 x2 x3 x4 x5 x6).1 =
    l7 (loads arg2 harg2 arg3 harg3 arg4 harg4 arg5 harg5 arg6 harg6 arg7 harg7 arg8 harg8 arg10 arg11 arg12 x0 x1 x2 x3 x4 x5 x6) 32 := by
  sl_kernel_rfl

end run

end Cert.Kernel10Ideal.Hgrn

end
-- ==== Proof.HgrnLists.lean ====
/-
  The recurrence's lists of pieces, read: each unit of the scratch holds its own recursion's state, the first half's
  outputs are read back by the second half, and each piece of the output is the normed sum of the two directions.
-/
module

public import proofs.«01_k».proof.Proof.HgrnRun

@[expose] public section

noncomputable section

namespace Cert.Kernel10Ideal.Hgrn

open Cert.Kernel10Ideal Cert.Kernel10Ideal.Gen
open Idealize.ShloMosaic Idealize.ShloMosaic.TcCoe

variable {F : FTy → Type} [FloatOps F] [Named F]

/-- A load reads the last piece stored through its rectangle, past the pieces apart from it. -/
structure Reads {s : Shape} {e : EltTy} (rd : List (View.Piece (Elt F) s e) → (r : Rect s) → r.shape.Idx → Elt F e) : Prop where
  hit : ∀ r w l, rd (⟨r, w⟩ :: l) r = w
  miss : ∀ p l r, Disjoint p.1.set r.set → rd (p :: l) r = rd l r

theorem reads_cov {sp : Space} {s : Shape} {e : EltTy} (v : Memref sig .tc sp s e) :
    Reads (F := F) (fun l r => v.view.readCov l r.toLoadRect) where
  hit r w l := View.readCov_cons_toLoadRect _ r w l
  miss p l r h := View.readCov_cons_of_disjoint _ p l r.toLoadRect h

variable (L : Loads F)

structure Good : Prop where
  ow : Reads L.ow
  ob : Reads L.ob
  st : Reads L.st
  zero : ∀ r, L.st (ls L 0) r = fun _ => Scalar.ofBits .f32 0x00000000#32

theorem rc_disj {o o' : ℕ} {h h' : Bool} (ho : o < 64) (ho' : o' < 64) (hne : o ≠ o' ∨ h ≠ h') :
    Disjoint (rc o h).set (rc o' h').set := by
  rcases hne with hne | hne
  · refine Rect.unit_disjoint 0 ?_
    show 64 * (o % 64) + 64 ≤ 64 * (o' % 64) ∨ 64 * (o' % 64) + 64 ≤ 64 * (o % 64)
    omega
  · refine Rect.unit_disjoint 1 ?_
    show cond h 128 0 + 128 ≤ cond h' 128 0 ∨ cond h' 128 0 + 128 ≤ cond h 128 0
    revert hne; cases h <;> cases h' <;> decide

theorem rs_disj {h d h' d' : Bool} (hne : h ≠ h' ∨ d ≠ d') : Disjoint (rs h d).set (rs h' d').set := by
  refine Rect.unit_disjoint 0 ?_
  show cond h (cond d 3 2) (cond d 1 0) + 1 ≤ cond h' (cond d' 3 2) (cond d' 1 0) ∨ cond h' (cond d' 3 2) (cond d' 1 0) + 1 ≤ cond h (cond d 3 2) (cond d 1 0)
  revert hne; cases h <;> cases h' <;> cases d <;> cases d' <;> decide

/-- A unit's state before step p. -/
def state (h d : Bool) : ℕ → FVec F S128x128 .f32
  | 0 => fun _ => Scalar.ofBits .f32 0x00000000#32
  | p + 1 => nxt L h d (ch d p) (state h d p)

variable {L}
variable (hL : Good L)
include hL

theorem got_put (h d : Bool) (p : ℕ) (l : List (View.Piece (Elt F) S4x128x128 .f32)) :
    got L h d (put L h d p l) = nxt L h d (ch d p) (got L h d l) := by
  have e : L.st (put L h d p l) (rs h d) = shapeCast S1x128x128 (nxt L h d (ch d p) (got L h d l)) shapeCasts_S128x128_S1x128x128 :=
    hL.st.hit (rs h d) _ l
  exact (congrArg (fun x : FVec F S1x128x128 .f32 => shapeCast S128x128 x shapeCasts_S1x128x128_S128x128) e).trans (shapeCast_shapeCast _ _ _)

theorem got_other {h d h' d' : Bool} (hne : h ≠ h' ∨ d ≠ d') (p : ℕ) (l : List (View.Piece (Elt F) S4x128x128 .f32)) :
    got L h' d' (put L h d p l) = got L h' d' l := by
  have e : L.st (put L h d p l) (rs h' d') = L.st l (rs h' d') := hL.st.miss _ _ _ (rs_disj hne)
  unfold got
  rw [e]

omit hL in
theorem ls_succ (p : ℕ) : ls L (p + 1) = put L true true p (put L true false p (put L false true p (put L false false p (ls L p)))) := rfl

theorem got_ls (h d : Bool) (p : ℕ) : got L h d (ls L p) = state L h d p := by
  induction p with
  | zero => unfold got; rw [hL.zero]; rfl
  | succ p ih =>
    rw [state, ← ih, ls_succ]
    cases h <;> cases d
    · rw [got_other hL (by decide), got_other hL (by decide), got_other hL (by decide), got_put hL]
    · rw [got_other hL (by decide), got_other hL (by decide), got_put hL, got_other hL (by decide)]
    · rw [got_other hL (by decide), got_put hL, got_other hL (by decide), got_other hL (by decide)]
    · rw [got_put hL, got_other hL (by decide), got_other hL (by decide), got_other hL (by decide)]

theorem ou_eq (h d : Bool) (p : ℕ) : ou L h d p = oo L h d (ch d p) (state L h d p) := by
  rw [← got_ls hL]
  unfold ou
  congr 1
  cases h <;> cases d <;> unfold lu <;> dsimp only [cond]
  · rw [got_other hL (by decide)]
  · rw [got_other hL (by decide), got_other hL (by decide)]
  · rw [got_other hL (by decide), got_other hL (by decide), got_other hL (by decide)]

omit hL in
theorem ch_lt (d : Bool) {p : ℕ} (hp : p < 64) : ch d p < 64 := by unfold ch; cases d <;> dsimp only [cond] <;> omega

omit hL in
theorem ch_ne (d : Bool) {p q : ℕ} (hp : p < 64) (hq : q < p) : ch d p ≠ ch d q := by unfold ch; cases d <;> dsimp only [cond] <;> omega

omit hL in
theorem lo_succ (d : Bool) (n : ℕ) : lo L d (n + 1) = ⟨rc (ch d n) true, shapeCast S64x128 (ou L true d n) shapeCasts_S64x128_S64x128⟩ ::
    ⟨rc (ch d n) false, shapeCast S64x128 (ou L false d n) shapeCasts_S64x128_S64x128⟩ :: lo L d n := rfl

omit hL in
/-- A direction's outputs of step n, in front of the earlier ones. -/
theorem lo_read_last (rd : List (View.Piece (Elt F) S4096x256 .f32) → (r : Rect S4096x256) → r.shape.Idx → Elt F .f32) (hr : Reads rd)
    (h d : Bool) (n : ℕ) (hn : n < 64) : rd (lo L d (n + 1)) (rc (ch d n) h) = ou L h d n := by
  rw [lo_succ, shapeCast_self, shapeCast_self]
  have hd : Disjoint (rc (ch d n) true).set (rc (ch d n) false).set := rc_disj (ch_lt d hn) (ch_lt d hn) (.inr (by decide))
  cases h
  · exact (hr.miss ⟨rc (ch d n) true, ou L true d n⟩ _ (rc (ch d n) false) hd).trans (hr.hit (rc (ch d n) false) (ou L false d n) (lo L d n))
  · exact hr.hit (rc (ch d n) true) (ou L true d n) _

omit hL in
theorem lo_read (rd : List (View.Piece (Elt F) S4096x256 .f32) → (r : Rect S4096x256) → r.shape.Idx → Elt F .f32) (hr : Reads rd)
    (h d : Bool) (q n : ℕ) (hq : q < n) (hn : n ≤ 64) : rd (lo L d n) (rc (ch d q) h) = ou L h d q := by
  induction n with
  | zero => omega
  | succ n ih =>
    by_cases e : q = n
    · rw [e]
      exact lo_read_last rd hr h d n (by omega)
    · have hc : ch d n ≠ ch d q := ch_ne d (by omega) (by omega)
      have hd (g : Bool) : Disjoint (rc (ch d n) g).set (rc (ch d q) h).set := rc_disj (ch_lt d (by omega)) (ch_lt d (by omega)) (.inl hc)
      rw [lo_succ, shapeCast_self, shapeCast_self]
      refine (hr.miss ⟨rc (ch d n) true, ou L true d n⟩ _ (rc (ch d q) h) (hd true)).trans ?_
      refine (hr.miss ⟨rc (ch d n) false, ou L false d n⟩ _ (rc (ch d q) h) (hd false)).trans ?_
      exact ih (by omega) (by omega)

theorem oth_eq (h d : Bool) (p : ℕ) (h32 : 32 ≤ p) (hp : p < 64) : oth L h d p = ou L h (!d) (63 - p) := by
  have e : ch d p = ch (!d) (63 - p) := by unfold ch; cases d <;> simp only [Bool.not_true, Bool.not_false, cond_true, cond_false] <;> omega
  unfold oth
  rw [e]
  cases d
  · exact lo_read L.ob hL.ob h true _ 32 (by omega) (by omega)
  · exact lo_read L.ow hL.ow h false _ 32 (by omega) (by omega)

omit hL in
theorem res_hit (h d : Bool) (p : ℕ) (l : List (View.Piece (Elt F) S4096x256 .bf16)) (x : (rc (ch d p) h).shape.Idx) :
    View.canon (res L h d p :: l) ((rc (ch d p) h).emb x) = (res L h d p).2 x :=
  View.canon_cons_emb (rc (ch d p) h) _ l x

omit hL in
theorem res_miss {h d h' d' : Bool} {p p' : ℕ} (hp : 32 ≤ p ∧ p < 64) (hp' : 32 ≤ p' ∧ p' < 64)
    (hne : d ≠ d' ∨ h ≠ h' ∨ p ≠ p') (l : List (View.Piece (Elt F) S4096x256 .bf16)) (x : (rc (ch d p) h).shape.Idx) :
    View.canon (res L h' d' p' :: l) ((rc (ch d p) h).emb x) = View.canon l ((rc (ch d p) h).emb x) := by
  refine View.canon_cons_of_not_mem _ _ ?_
  have : Disjoint (rc (ch d' p') h').set (rc (ch d p) h).set := by
    refine rc_disj (ch_lt _ hp'.2) (ch_lt _ hp.2) ?_
    by_cases hh : h = h'
    · left
      subst hh
      unfold ch
      revert hne
      cases d <;> cases d' <;> simp <;> omega
    · exact .inr (fun q => hh q.symm)
  exact Finset.disjoint_right.mp this ((rc (ch d p) h).toLoadRect.idx_mem x)

omit hL in
/-- What the piece of step p in direction d and head h holds. -/
theorem l7_read (h d : Bool) (p n : ℕ) (h32 : 32 ≤ p) (hp : p < 32 + n) (hn : n ≤ 32) (x : (rc (ch d p) h).shape.Idx) :
    View.canon (l7 L n) ((rc (ch d p) h).emb x) = (res L h d p).2 x := by
  induction n with
  | zero => omega
  | succ n ih =>
    have a : 32 ≤ p ∧ p < 64 := ⟨h32, by omega⟩
    have b : 32 ≤ 32 + n ∧ 32 + n < 64 := ⟨by omega, by omega⟩
    unfold l7
    by_cases e : p = 32 + n
    · clear hp h32 ih
      subst e
      cases h <;> cases d
      · rw [res_miss a b (.inl (by decide)), res_miss a b (.inr (.inl (by decide))), res_miss a b (.inl (by decide)), res_hit]
      · rw [res_miss a b (.inr (.inl (by decide))), res_miss a b (.inr (.inl (by decide))), res_hit]
      · rw [res_miss a b (.inl (by decide)), res_hit]
      · rw [res_hit]
    · rw [res_miss a b (.inr (.inr e)), res_miss a b (.inr (.inr e)), res_miss a b (.inr (.inr e)), res_miss a b (.inr (.inr e))]
      exact ih (by omega) (by omega)

/-- The output at rows of chunk o, in the order the body adds the directions. -/
theorem l7_low (h : Bool) (o : ℕ) (ho : o < 32) (x : S64x128.Idx) : View.canon (l7 L 32) ((rc o h).emb x)
    = fin L h o (addf (oo L h true o (state L h true (63 - o))) (oo L h false o (state L h false o))) x := by
  have e : ch true (63 - o) = o := by unfold ch; simp only [cond_true]; omega
  have := l7_read (L := L) h true (63 - o) 32 (by omega) (by omega) le_rfl
  rw [e] at this
  refine (this x).trans ?_
  unfold res
  rw [oth_eq hL h true (63 - o) (by omega) (by omega), ou_eq hL, ou_eq hL, e, show 63 - (63 - o) = o by omega]
  rfl

theorem l7_high (h : Bool) (o : ℕ) (ho : 32 ≤ o) (ho' : o < 64) (x : S64x128.Idx) : View.canon (l7 L 32) ((rc o h).emb x)
    = fin L h o (addf (oo L h false o (state L h false o)) (oo L h true o (state L h true (63 - o)))) x := by
  have e : ch true (63 - o) = o := by unfold ch; simp only [cond_true]; omega
  refine (l7_read (L := L) h false o 32 ho (by omega) le_rfl x).trans ?_
  unfold res
  rw [oth_eq hL h false o ho ho', ou_eq hL, ou_eq hL]
  simp only [Bool.not_false]
  rw [e]
  rfl

end Cert.Kernel10Ideal.Hgrn

end
-- ==== Proof.HgrnReal.lean ====
/-
  The gated recurrence over the reals: run chunk by chunk with a state between the chunks, it sums over all the positions
  seen so far, each decayed by the gates since.
-/
module

public import Idealize.ShloMosaic.PureOps.Ideal

@[expose] public section

noncomputable section

namespace Cert.Hgrn

open Finset

/-- Position j' of chunk p' is seen from position j of chunk p. -/
def seen (R : Fin 64 → Fin 64 → Bool) (p' : ℕ) (j' : Fin 64) (p : ℕ) (j : Fin 64) : Prop := p' < p ∨ (p' = p ∧ R j' j = true)

instance (R : Fin 64 → Fin 64 → Bool) (p' : ℕ) (j' : Fin 64) (p : ℕ) (j : Fin 64) : Decidable (seen R p' j' p j) :=
  inferInstanceAs (Decidable (_ ∨ _))

variable (R : Fin 64 → Fin 64 → Bool) (je : Fin 64) (hje : ∀ j, R j je = true)

theorem split_sum (X : ℕ → Fin 64 → ℝ) (p : ℕ) (hp : p < 64) (j : Fin 64) :
    (∑ p' ∈ range 64, ∑ j' : Fin 64, if seen R p' j' p j then X p' j' else 0)
      = (∑ p' ∈ range p, ∑ j' : Fin 64, X p' j') + ∑ j' : Fin 64, if R j' j then X p j' else 0 := by
  have h1 : range (p + 1) ⊆ range 64 := range_subset_range.mpr hp
  rw [← sum_subset h1, sum_range_succ]
  · congr 1
    · refine sum_congr rfl fun p' hp' => sum_congr rfl fun j' _ => if_pos (Or.inl (mem_range.mp hp'))
    · refine sum_congr rfl fun j' _ => ?_
      have : seen R p j' p j ↔ R j' j = true := by simp [seen]
      simp only [this]
  · intro p' _ hn
    have hn' : ¬ p' < p + 1 := fun h => hn (mem_range.mpr h)
    refine sum_eq_zero fun j' _ => if_neg ?_
    rintro (h | ⟨h, _⟩) <;> omega

variable (lf kk q : ℕ → Fin 64 → Fin 128 → ℝ) (v : ℕ → Fin 64 → ℝ)

/-- The gates' running sum in a chunk. -/
def bsum (p : ℕ) (j : Fin 64) (k : Fin 128) : ℝ := ∑ j' : Fin 64, if R j' j then lf p j' k else 0

/-- The state before a chunk. -/
def stt : ℕ → Fin 128 → ℝ
  | 0, _ => 0
  | p + 1, k => stt p k * Real.exp (bsum R lf p je k) + ∑ j : Fin 64, v p j * (kk p j k * Real.exp (bsum R lf p je k - bsum R lf p j k))

/-- The gates' sum over the chunks before. -/
def bef (p : ℕ) (k : Fin 128) : ℝ := ∑ p' ∈ range p, bsum R lf p' je k

theorem stt_eq (p : ℕ) (k : Fin 128) : stt R je lf kk v p k
    = ∑ p' ∈ range p, ∑ j : Fin 64, v p' j * (kk p' j k * Real.exp (bef R je lf p k - (bef R je lf p' k + bsum R lf p' j k))) := by
  induction p with
  | zero => simp [stt]
  | succ p ih =>
    rw [stt, ih, sum_range_succ, sum_mul]
    congr 1
    · refine sum_congr rfl fun p' _ => ?_
      rw [sum_mul]
      refine sum_congr rfl fun j _ => ?_
      have : bef R je lf (p + 1) k = bef R je lf p k + bsum R lf p je k := sum_range_succ _ _
      rw [this, mul_assoc, mul_assoc, ← Real.exp_add]
      congr 3
      ring
    · refine sum_congr rfl fun j _ => ?_
      have : bef R je lf (p + 1) k = bef R je lf p k + bsum R lf p je k := sum_range_succ _ _
      rw [this]
      congr 3
      ring

/-- A chunk's output: its own positions, and the state. -/
def out (mid : ℕ → Fin 128 → ℝ) (p : ℕ) (j : Fin 64) : ℝ :=
  (∑ j' : Fin 64, (if R j' j then ∑ k : Fin 128, (q p j k * Real.exp (bsum R lf p j k - mid p k)) * (kk p j' k * Real.exp (mid p k - bsum R lf p j' k)) else 0) * v p j')
    + ∑ k : Fin 128, (q p j k * Real.exp (bsum R lf p j k)) * stt R je lf kk v p k

/-- The gates' sum up to a position. -/
def btot (p : ℕ) (j : Fin 64) (k : Fin 128) : ℝ := ∑ p' ∈ range 64, ∑ j' : Fin 64, if seen R p' j' p j then lf p' j' k else 0

/-- What the position's output is over all positions. -/
def full (p : ℕ) (j : Fin 64) : ℝ :=
  ∑ p' ∈ range 64, ∑ j' : Fin 64,
    if seen R p' j' p j then (∑ k : Fin 128, q p j k * kk p' j' k * Real.exp (btot R lf p j k - btot R lf p' j' k)) * v p' j' else 0

include hje in
theorem btot_eq (p : ℕ) (hp : p < 64) (j : Fin 64) (k : Fin 128) : btot R lf p j k = bef R je lf p k + bsum R lf p j k := by
  unfold btot
  rw [split_sum R (fun p' j' => lf p' j' k) p hp j]
  congr 1
  refine sum_congr rfl fun p' _ => sum_congr rfl fun j' _ => ?_
  rw [if_pos (hje j')]

include hje in
theorem out_eq (mid : ℕ → Fin 128 → ℝ) (p : ℕ) (hp : p < 64) (j : Fin 64) :
    out R je lf kk q v mid p j = full R lf kk q v p j := by
  unfold full
  rw [split_sum R (fun p' j' => (∑ k : Fin 128, q p j k * kk p' j' k * Real.exp (btot R lf p j k - btot R lf p' j' k)) * v p' j') p hp j]
  rw [out, add_comm]
  congr 1
  · simp only [stt_eq, mul_sum]
    rw [sum_comm]
    refine sum_congr rfl fun p' hp' => ?_
    rw [sum_comm]
    refine sum_congr rfl fun j' _ => ?_
    rw [sum_mul]
    refine sum_congr rfl fun k _ => ?_
    rw [btot_eq R je hje lf p hp, btot_eq R je hje lf p' (by have := mem_range.mp hp'; omega),
      show bef R je lf p k + bsum R lf p j k - (bef R je lf p' k + bsum R lf p' j' k)
        = bsum R lf p j k + (bef R je lf p k - (bef R je lf p' k + bsum R lf p' j' k)) by ring, Real.exp_add]
    ring
  · refine sum_congr rfl fun j' _ => ?_
    by_cases h : R j' j = true
    · rw [if_pos h, if_pos h]
      congr 1
      refine sum_congr rfl fun k _ => ?_
      rw [btot_eq R je hje lf p hp, btot_eq R je hje lf p hp,
        show bef R je lf p k + bsum R lf p j k - (bef R je lf p k + bsum R lf p j' k)
          = (bsum R lf p j k - mid p k) + (mid p k - bsum R lf p j' k) by ring, Real.exp_add]
      ring
    · rw [if_neg h, if_neg h, zero_mul]

/-! ## The positions in the order a direction visits them -/

theorem sum_chunks (G : ℕ → ℝ) (n : ℕ) : ∑ s ∈ range (64 * n), G s = ∑ o ∈ range n, ∑ j : Fin 64, G (64 * o + j.val) := by
  induction n with
  | zero => simp
  | succ n ih => rw [Nat.mul_succ, sum_range_add, ih, sum_range_succ _ n, sum_range (fun x => G (64 * n + x))]

theorem sum_rows (d : Bool) (G : ℕ → ℝ) : (∑ s : Fin 4096, G s.val) = ∑ p ∈ range 64, ∑ j : Fin 64, G (64 * (cond d (63 - p) p) + j.val) := by
  rw [← sum_range (fun s => G s), show 4096 = 64 * 64 from rfl, sum_chunks]
  cases d
  · rfl
  · exact (sum_range_reflect (fun o => ∑ j : Fin 64, G (64 * o + j.val)) 64).symm

/-- The row that step p visits at place j. -/
def pos (d : Bool) (p : ℕ) (j : Fin 64) : ℕ := 64 * (cond d (63 - p) p) + j.val

/-- Row s is seen from row t. -/
def see (d : Bool) (s t : ℕ) : Bool := cond d (decide (t ≤ s)) (decide (s ≤ t))

/-- … and in a chunk, place j' from place j. -/
def place (d : Bool) (j' j : Fin 64) : Bool := see d j'.val j.val

theorem place_last (d : Bool) (j : Fin 64) : place d j (cond d 0 63) = true := by
  unfold place see
  cases d <;> simp only [cond_true, cond_false, decide_eq_true_eq]
  · show j.val ≤ 63; omega
  · exact Nat.zero_le _

theorem see_pos (d : Bool) {p p' : ℕ} (hp : p < 64) (hp' : p' < 64) (j j' : Fin 64) :
    see d (pos d p' j') (pos d p j) = true ↔ seen (place d) p' j' p j := by
  unfold see pos seen place see
  cases d <;> simp only [cond_true, cond_false, decide_eq_true_eq] <;> omega

/-! ## A head's data and its output -/

/-- The logistic function. -/
def sg (x : ℝ) : ℝ := 1 / (1 + Real.exp (-x))
/-- The gate's logarithm and its complement, from its lower bound and its logit. -/
def gateLog (lb x : ℝ) : ℝ := Real.log (lb + (1 - lb) * sg x)
def gateKey (lb x : ℝ) : ℝ := (1 - lb) * sg (-x)
/-- The lower bound from two logits. -/
def lower (a b : ℝ) : ℝ := Real.exp a / (Real.exp a + Real.exp b)

/-- One head's rows, and its lower bounds. -/
structure Dat where
  q : ℕ → Fin 128 → ℝ
  f : ℕ → Fin 128 → ℝ
  v : ℕ → Fin 128 → ℝ
  lb : Fin 128 → ℝ

namespace Dat
variable (D : Dat) (d : Bool)

def lfP (p : ℕ) (j : Fin 64) (k : Fin 128) : ℝ := gateLog (D.lb k) (D.f (pos d p j) k)
def kkP (p : ℕ) (j : Fin 64) (k : Fin 128) : ℝ := gateKey (D.lb k) (D.f (pos d p j) k)
def qP (p : ℕ) (j : Fin 64) (k : Fin 128) : ℝ := D.q (pos d p j) k
def vP (c : Fin 128) (p : ℕ) (j : Fin 64) : ℝ := D.v (pos d p j) c

/-- The head's output in one direction, at place j of step p. -/
def run (p : ℕ) (j : Fin 64) (c : Fin 128) : ℝ := full (place d) (D.lfP d) (D.kkP d) (D.qP d) (D.vP d c) p j

theorem run_eq_out (mid : ℕ → Fin 128 → ℝ) (p : ℕ) (hp : p < 64) (j : Fin 64) (c : Fin 128) :
    out (place d) (cond d 0 63) (D.lfP d) (D.kkP d) (D.qP d) (D.vP d c) mid p j = D.run d p j c :=
  out_eq (place d) (cond d 0 63) (place_last d) _ _ _ _ mid p hp j

/-- The gates' sum over the rows seen. -/
def tot (t : ℕ) (k : Fin 128) : ℝ := ∑ s : Fin 4096, if see d s.val t = true then gateLog (D.lb k) (D.f s.val k) else 0

theorem tot_eq (p : ℕ) (hp : p < 64) (j : Fin 64) (k : Fin 128) : D.tot d (pos d p j) k = btot (place d) (D.lfP d) p j k := by
  unfold tot btot
  rw [sum_rows d (fun s => if see d s (pos d p j) = true then gateLog (D.lb k) (D.f s k) else 0)]
  refine sum_congr rfl fun p' hp' => sum_congr rfl fun j' _ => ?_
  exact if_congr (see_pos d hp (mem_range.mp hp') j j') rfl rfl

/-- The output in one direction is the sum over the rows seen. -/
theorem run_eq_rows (p : ℕ) (hp : p < 64) (j : Fin 64) (c : Fin 128) :
    (∑ s : Fin 4096, D.v s.val c * if see d s.val (pos d p j) = true then
      ∑ k : Fin 128, D.q (pos d p j) k * gateKey (D.lb k) (D.f s.val k) * Real.exp (D.tot d (pos d p j) k - D.tot d s.val k) else 0)
      = D.run d p j c := by
  unfold run full
  rw [sum_rows d (fun s => D.v s c * if see d s (pos d p j) = true then
    ∑ k : Fin 128, D.q (pos d p j) k * gateKey (D.lb k) (D.f s k) * Real.exp (D.tot d (pos d p j) k - D.tot d s k) else 0)]
  refine sum_congr rfl fun p' hp' => sum_congr rfl fun j' _ => ?_
  show D.v (pos d p' j') c * (if see d (pos d p' j') (pos d p j) = true then
    ∑ k : Fin 128, D.q (pos d p j) k * gateKey (D.lb k) (D.f (pos d p' j') k) * Real.exp (D.tot d (pos d p j) k - D.tot d (pos d p' j') k) else 0) = _
  rw [if_congr (see_pos d hp (mem_range.mp hp') j j') rfl rfl]
  by_cases h : seen (place d) p' j' p j
  · rw [if_pos h, if_pos h, mul_comm]
    congr 1
    refine sum_congr rfl fun k _ => ?_
    rw [D.tot_eq d p hp, D.tot_eq d p' (mem_range.mp hp')]
    rfl
  · rw [if_neg h, if_neg h, mul_zero]

end Dat

/-! ## The gate as the kernel computes it -/

theorem sg_tanh (x : ℝ) : (1 / 2) * (1 + Real.tanh ((1 / 2) * x)) = sg x := by
  have h : Real.exp (-x) = Real.exp (-((1 / 2) * x)) * Real.exp (-((1 / 2) * x)) := by rw [← Real.exp_add]; congr 1; ring
  have a := Real.exp_pos ((1 / 2) * x)
  unfold sg
  rw [Real.tanh_eq_sinh_div_cosh, Real.sinh_eq, Real.cosh_eq, h, Real.exp_neg]
  field_simp
  ring

theorem sg_pos (x : ℝ) : 0 < sg x := by unfold sg; positivity

theorem sg_neg (x : ℝ) : sg (-x) = 1 - sg x := by
  unfold sg
  rw [neg_neg, Real.exp_neg]
  have := Real.exp_pos x
  field_simp
  ring

theorem lower_pos (a b : ℝ) : 0 < lower a b := by unfold lower; positivity
theorem lower_lt (a b : ℝ) : lower a b < 1 := by
  unfold lower
  have := Real.exp_pos a
  have := Real.exp_pos b
  rw [div_lt_one (by positivity)]
  linarith

theorem lower_shift (a b m : ℝ) : Real.exp (a - m) / (Real.exp (a - m) + Real.exp (b - m)) = lower a b := by
  unfold lower
  have := Real.exp_pos a
  have := Real.exp_pos b
  have := Real.exp_pos m
  rw [Real.exp_sub, Real.exp_sub]
  field_simp

theorem gate_key (lb x : ℝ) : (1 / 2) * (1 - lb) - (1 / 2) * (1 - lb) * Real.tanh ((1 / 2) * x) = gateKey lb x := by
  unfold gateKey
  rw [sg_neg, ← sg_tanh]
  ring

theorem gate_arg (lb x : ℝ) : (1 / 2) * (1 + lb) + (1 / 2) * (1 - lb) * Real.tanh ((1 / 2) * x) = lb + (1 - lb) * sg x := by
  rw [← sg_tanh]
  ring

theorem arg_pos (lb x : ℝ) (h0 : 0 < lb) (h1 : lb < 1) : 0 < lb + (1 - lb) * sg x := by
  have := sg_pos x
  have : 0 < 1 - lb := by linarith
  positivity

/-- A power of two of a real over log 2 is the exponential. -/
theorem two_rpow (x : ℝ) : Real.rpow 2 (x * (Real.log 2)⁻¹) = Real.exp x := by
  have h2 : Real.log 2 ≠ 0 := (Real.log_pos (by norm_num)).ne'
  show (2 : ℝ) ^ (x * (Real.log 2)⁻¹) = _
  rw [Real.rpow_def_of_pos (by norm_num)]
  congr 1
  field_simp

/-- A head's row divided by its root mean square, scaled and gated. -/
def normed (s : Fin 128 → EReal) (n g : EReal) (c : Fin 128) : EReal :=
  s c * Idealize.ShloMosaic.Ideal.rsqrt
    (Idealize.ShloMosaic.Ideal.div (∑ x : Fin 128, s x * s x) (Idealize.ShloMosaic.Ideal.ofBits .f32 0x43000000#32)
      + Idealize.ShloMosaic.Ideal.ofBits .f32 0x358637BD#32) * n * g

end Cert.Hgrn

end
-- ==== Proof.HgrnBlock.lean ====
/-
  The recurrence's body over the reals: at finite loads each chunk's gate, running sum, output and state is real, and they
  are the steps of the recurrence over the reals.
-/
module

public import proofs.«01_k».proof.Proof.HgrnLists
public import proofs.«01_k».proof.Proof.HgrnReal
public import Idealize.ShloMosaic.Lib.Pointwise
public import Idealize.ShloMosaic.Lib.Pipeline.ValueKit

@[expose] public section

noncomputable section

namespace Cert.Kernel10Ideal.Hgrn

open Cert.Kernel10Ideal Cert.Kernel10Ideal.Gen
open Idealize.ShloMosaic Idealize.ShloMosaic.TcCoe

/-- A column of head h in a block of two heads. -/
def col (h : Bool) (k : Fin 128) : Fin 256 := cond h ⟨128 + k.val, by omega⟩ ⟨k.val, by omega⟩

theorem half_eq : (half : Ideal .f32) = ((1 / 2 : ℝ) : EReal) := by
  show Ideal.ofBits .f32 0x3F000000#32 = _
  simp [Ideal.ofBits, Ideal.ieee, -EReal.coe_mul]; norm_num
theorem one_eq : (one : Ideal .f32) = ((1 : ℝ) : EReal) := by
  show Ideal.ofBits .f32 0x3F800000#32 = _
  simp [Ideal.ofBits, Ideal.ieee, -EReal.coe_mul]; norm_num

/-- The named constant is the real it stands for. -/
theorem log2_e : Named.named (F := Ideal) κ "log2_e" (φ := .f32) 0x3FB8AA3B#32 = (((Real.log 2)⁻¹ : ℝ) : EReal) :=
  IdealRules.named_const.ideal_named_scalar _ _ _ _ rfl

theorem sum_coe {n : ℕ} (f : Fin n → ℝ) : (∑ i, (f i : EReal)) = ((∑ i, f i : ℝ) : EReal) := by
  induction n with
  | zero => simp
  | succ n ih => rw [Fin.sum_univ_succ, Fin.sum_univ_succ, ih, EReal.coe_add]

theorem word_le : ∀ (i : Fin 128) (j : Fin 64), IntOp.cmpi .sle (IntOp.andi (BitVec.ofNat 32 i.val) 63#32) (BitVec.ofNat 32 j.val)
    = BitVec.ofBool (decide (i.val % 64 ≤ j.val)) := by decide +kernel
theorem word_ge : ∀ (i : Fin 128) (j : Fin 64), IntOp.cmpi .sge (IntOp.andi (BitVec.ofNat 32 i.val) 63#32) (BitVec.ofNat 32 j.val)
    = BitVec.ofBool (decide (j.val ≤ i.val % 64)) := by decide +kernel

theorem mask_le : ∀ (i j : Fin 64), IntOp.cmpi .sle (BitVec.ofNat 32 i.val) (BitVec.ofNat 32 j.val) = BitVec.ofBool (decide (i.val ≤ j.val)) := by
  decide +kernel
theorem mask_ge : ∀ (i j : Fin 64), IntOp.cmpi .sge (BitVec.ofNat 32 i.val) (BitVec.ofNat 32 j.val) = BitVec.ofBool (decide (j.val ≤ i.val)) := by
  decide +kernel

theorem select_ofBool (b : Bool) (x y : EReal) : Scalar.select (BitVec.ofBool b) x y = if b = true then x else y := by cases b <;> rfl

theorem hd_apply (h : Bool) (x : FVec Ideal S1x256 .f32) (j : Fin 64) (k : Fin 128) : hd h x (ix2 j k) = x (ix2 0 (col h k)) := by
  cases h <;> unfold hd col <;> simp only [cond_true, cond_false] <;> pointwise []

theorem lb_apply (l0 l1 : FVec Ideal S1x256 .f32) (k : Fin 256) (a b : ℝ) (ha : l0 (ix2 0 k) = (a : EReal)) (hb : l1 (ix2 0 k) = (b : EReal)) :
    lb l0 l1 (ix2 0 k) = ((Cert.Hgrn.lower a b : ℝ) : EReal) := by
  pointwise [lb]
  have hm : max (a : EReal) (b : EReal) = ((max a b : ℝ) : EReal) := (EReal.coe_strictMono.monotone.map_max).symm
  rw [ha, hb, hm, ← EReal.coe_sub, ← EReal.coe_sub, Ideal.exp_coe, Ideal.exp_coe, ← EReal.coe_add]
  have h0 : 0 < Real.exp (a - max a b) + Real.exp (b - max a b) := by positivity
  unfold Ideal.div
  rw [if_neg (by exact_mod_cast h0.ne'), ← Cert.Hgrn.lower_shift a b (max a b), ← EReal.coe_inv, ← EReal.coe_mul, div_eq_mul_inv]

theorem lbd_apply (L : Loads Ideal) (d : Bool) (k : Fin 256) (l : Fin 4 → ℝ)
    (hl : ∀ i, (L.l (Rect.unit (s := S4x256) ![0, 0] S4x256.size inb_S4x256_S4x256_0_0) : FVec Ideal S4x256 .f32) (ix2 i k) = (l i : EReal)) :
    lbd L d (ix2 0 k) = ((Cert.Hgrn.lower (l (cond d 2 0)) (l (cond d 3 1)) : ℝ) : EReal) := by
  have h (i : Fin 4) : lbl L (ix2 i k) = (l i : EReal) := by
    exact (congrFun (shapeCast_self (s := S4x256) _ shapeCasts_S4x256_S4x256) (ix2 i k)).trans (hl i)
  cases d
  · refine lb_apply _ _ k _ _ ?_ ?_ <;> pointwise [] <;> exact h _
  · refine lb_apply _ _ k _ _ ?_ ?_ <;> pointwise [] <;> exact h _

theorem tri_apply (d : Bool) (j : Fin 64) (i : Fin 128) :
    tri (F := Ideal) d (ix2 j i) = if Cert.Hgrn.place d ⟨i.val % 64, by omega⟩ j = true then 1 else 0 := by
  cases d
  · unfold tri
    simp only [cond_false]
    pointwise [col2]
    rw [word_le, select_ofBool, one_eq]
    rfl
  · unfold tri
    simp only [cond_true]
    pointwise [col2]
    rw [word_ge, select_ofBool, one_eq]
    rfl

theorem mask_apply (d : Bool) (j i : Fin 64) (x : EReal) :
    Scalar.select (mask d (ix2 j i)) x 0 = if Cert.Hgrn.place d i j = true then x else 0 := by
  cases d
  · unfold mask
    simp only [cond_false]
    pointwise []
    rw [mask_le, select_ofBool]
    rfl
  · unfold mask
    simp only [cond_true]
    pointwise []
    rw [mask_ge, select_ofBool]
    rfl

theorem split_lo (x : FVec Ideal S64x128 .f32) (j : Fin 64) (k : Fin 128) : split x (ix2 ⟨j.val, by omega⟩ k) = x (ix2 j k) := by
  unfold split
  pointwise [hi]

theorem split_hi (x : FVec Ideal S64x128 .f32) (j : Fin 64) (k : Fin 128) : split x (ix2 ⟨64 + j.val, by omega⟩ k) = x (ix2 j k) - x (ix2 j k) := by
  unfold split
  pointwise [hi]

theorem bend_apply (d : Bool) (b : FVec Ideal S64x128 .f32) (k : Fin 128) : bend d b (ix2 0 k) = b (ix2 (cond d 0 63) k) := by
  cases d <;> unfold bend <;> simp only [cond_true, cond_false] <;> pointwise []

theorem bmid_apply (d : Bool) (b : FVec Ideal S64x128 .f32) (j : Fin 64) (k : Fin 128) : bmid d b (ix2 j k) = b (ix2 (cond d 32 31) k) := by
  cases d <;> unfold bmid <;> simp only [cond_true, cond_false] <;> pointwise []

/-- The loads are the rows of the heads. -/
structure Vals (L : Loads Ideal) (D : Bool → Bool → Cert.Hgrn.Dat) : Prop where
  q : ∀ h d o, o < 64 → ∀ j k, (L.q (rc o h) : FVec Ideal S64x128 .bf16) (ix2 j k) = ((D h d).q (64 * o + j.val) k : EReal)
  f : ∀ h d o, o < 64 → ∀ j k, gate L h d o (ix2 j k) = ((D h d).f (64 * o + j.val) k : EReal)
  v : ∀ h d o, o < 64 → ∀ j k, (L.v (rc o h) : FVec Ideal S64x128 .bf16) (ix2 j k) = ((D h d).v (64 * o + j.val) k : EReal)
  lb : ∀ h d k, lbd L d (ix2 0 (col h k)) = ((D h d).lb k : EReal)
  lb0 : ∀ h d k, 0 < (D h d).lb k
  lb1 : ∀ h d k, (D h d).lb k < 1

variable {L : Loads Ideal} {D : Bool → Bool → Cert.Hgrn.Dat} (V : Vals L D) (h d : Bool) (p : ℕ) (hp : p < 64)
include V hp

theorem ct_apply (j : Fin 64) (k : Fin 128) : ct L h d (ch d p) (ix2 j k)
    = (((1 / 2) * (1 - (D h d).lb k) * Real.tanh ((1 / 2) * (D h d).f (Cert.Hgrn.pos d p j) k) : ℝ) : EReal) := by
  unfold ct
  pointwise [hd_apply, c1]
  rw [V.lb, V.f h d _ (ch_lt d hp), half_eq, one_eq, ← EReal.coe_sub, ← EReal.coe_mul, ← EReal.coe_mul, Ideal.tanh_coe, ← EReal.coe_mul]
  rfl

theorem kk_apply (j : Fin 64) (k : Fin 128) : kk L h d (ch d p) (ix2 j k) = ((D h d).kkP d p j k : EReal) := by
  unfold kk
  pointwise [hd_apply, c1]
  rw [ct_apply V h d p hp, V.lb, half_eq, one_eq, ← EReal.coe_sub, ← EReal.coe_mul, ← EReal.coe_sub, Cert.Hgrn.gate_key]
  rfl

theorem lf_apply (j : Fin 64) (k : Fin 128) : lf L h d (ch d p) (ix2 j k) = ((D h d).lfP d p j k : EReal) := by
  unfold lf
  pointwise [hd_apply, c0]
  rw [ct_apply V h d p hp, V.lb, half_eq, one_eq, ← EReal.coe_add, ← EReal.coe_mul, ← EReal.coe_add, Cert.Hgrn.gate_arg, Ideal.log_coe,
    if_neg (not_le.mpr (Cert.Hgrn.arg_pos _ _ (V.lb0 h d k) (V.lb1 h d k)))]
  rfl

/-- The chunk's running sum of the gates, over log 2. -/
theorem bb_apply (j : Fin 64) (k : Fin 128) : bb L h d (ch d p) (ix2 j k)
    = ((Cert.Hgrn.bsum (Cert.Hgrn.place d) ((D h d).lfP d) p j k * (Real.log 2)⁻¹ : ℝ) : EReal) := by
  unfold bb
  pointwise []
  rw [log2_e, EReal.coe_mul]
  congr 1
  have e : (∑ x : Fin 128, tri (F := Ideal) d (ix2 j x) * split (lf L h d (ch d p)) (ix2 x k))
      = (∑ i : Fin 64, tri (F := Ideal) d (ix2 j ⟨i.val, by omega⟩) * split (lf L h d (ch d p)) (ix2 ⟨i.val, by omega⟩ k))
        + ∑ i : Fin 64, tri (F := Ideal) d (ix2 j ⟨64 + i.val, by omega⟩) * split (lf L h d (ch d p)) (ix2 ⟨64 + i.val, by omega⟩ k) :=
    Fin.sum_univ_add (M := EReal) (a := 64) (b := 64) fun x : Fin 128 => tri (F := Ideal) d (ix2 j x) * split (lf L h d (ch d p)) (ix2 x k)
  rw [e]
  have e2 : (∑ i : Fin 64, tri (F := Ideal) d (ix2 j ⟨64 + i.val, by omega⟩) * split (lf L h d (ch d p)) (ix2 ⟨64 + i.val, by omega⟩ k)) = 0 := by
    refine Finset.sum_eq_zero fun i _ => ?_
    rw [split_hi, lf_apply V h d p hp, ← EReal.coe_sub, sub_self, EReal.coe_zero, mul_zero]
  rw [e2, add_zero]
  unfold Cert.Hgrn.bsum
  rw [← sum_coe]
  refine Finset.sum_congr rfl fun i _ => ?_
  rw [split_lo, lf_apply V h d p hp, tri_apply]
  have hi : (⟨i.val % 64, by omega⟩ : Fin 64) = i := Fin.ext (Nat.mod_eq_of_lt i.isLt)
  show (if Cert.Hgrn.place d ⟨i.val % 64, _⟩ j = true then (1 : EReal) else 0) * _ = _
  rw [hi]
  by_cases c : Cert.Hgrn.place d i j = true
  · rw [if_pos c, if_pos c, one_mul]
  · rw [if_neg c, if_neg c, zero_mul, EReal.coe_zero]

omit hp in
/-- The running sum at a place, as a real. -/
def bs (D : Cert.Hgrn.Dat) (d : Bool) (p : ℕ) (j : Fin 64) (k : Fin 128) : ℝ := Cert.Hgrn.bsum (Cert.Hgrn.place d) (D.lfP d) p j k

theorem exp_diff (i j : Fin 64) (k : Fin 128) : FloatOps.exp2 (F := Ideal) (φ := .f32) (bb L h d (ch d p) (ix2 i k) - bb L h d (ch d p) (ix2 j k))
    = ((Real.exp (bs (D h d) d p i k - bs (D h d) d p j k) : ℝ) : EReal) := by
  rw [bb_apply V h d p hp, bb_apply V h d p hp, ← EReal.coe_sub, ← sub_mul]
  show Ideal.exp2 _ = _
  rw [Ideal.exp2_coe, Cert.Hgrn.two_rpow]
  rfl

theorem exp_one (j : Fin 64) (k : Fin 128) : FloatOps.exp2 (F := Ideal) (φ := .f32) (bb L h d (ch d p) (ix2 j k)) = ((Real.exp (bs (D h d) d p j k) : ℝ) : EReal) := by
  rw [bb_apply V h d p hp]
  show Ideal.exp2 _ = _
  rw [Ideal.exp2_coe, Cert.Hgrn.two_rpow]
  rfl

theorem qf_apply (j : Fin 64) (k : Fin 128) : qf L h (ch d p) (ix2 j k) = ((D h d).qP d p j k : EReal) :=
  V.q h d _ (ch_lt d hp) j k

theorem qd_apply (j : Fin 64) (k : Fin 128) : qd L h d (ch d p) (ix2 j k)
    = (((D h d).qP d p j k * Real.exp (bs (D h d) d p j k) : ℝ) : EReal) := by
  unfold qd
  pointwise [hi]
  rw [qf_apply V h d p hp, exp_one V h d p hp, ← EReal.coe_mul]

theorem ke_apply (j : Fin 64) (k : Fin 128) : ke L h d (ch d p) (ix2 j k)
    = (((D h d).kkP d p j k * Real.exp (bs (D h d) d p (cond d 0 63) k - bs (D h d) d p j k) : ℝ) : EReal) := by
  unfold ke
  pointwise [hi, bend_apply]
  rw [kk_apply V h d p hp, exp_diff V h d p hp, ← EReal.coe_mul]

theorem qm_apply (j : Fin 64) (k : Fin 128) : qm L h d (ch d p) (ix2 j k)
    = (((D h d).qP d p j k * Real.exp (bs (D h d) d p j k - bs (D h d) d p (cond d 32 31) k) : ℝ) : EReal) := by
  unfold qm
  pointwise [hi, bmid_apply]
  rw [qf_apply V h d p hp, exp_diff V h d p hp, ← EReal.coe_mul]

theorem km_apply (j : Fin 64) (k : Fin 128) : km L h d (ch d p) (ix2 j k)
    = (((D h d).kkP d p j k * Real.exp (bs (D h d) d p (cond d 32 31) k - bs (D h d) d p j k) : ℝ) : EReal) := by
  unfold km
  pointwise [hi, bmid_apply]
  rw [kk_apply V h d p hp, exp_diff V h d p hp, ← EReal.coe_mul]

theorem att_apply (j i : Fin 64) : att L h d (ch d p) (ix2 j i)
    = ((if Cert.Hgrn.place d i j = true then ∑ k : Fin 128,
        ((D h d).qP d p j k * Real.exp (bs (D h d) d p j k - bs (D h d) d p (cond d 32 31) k))
          * ((D h d).kkP d p i k * Real.exp (bs (D h d) d p (cond d 32 31) k - bs (D h d) d p i k)) else 0 : ℝ) : EReal) := by
  unfold att
  pointwise []
  rw [mask_apply]
  by_cases c : Cert.Hgrn.place d i j = true
  · rw [if_pos c, if_pos c, ← sum_coe]
    refine Finset.sum_congr rfl fun k _ => ?_
    rw [qm_apply V h d p hp, km_apply V h d p hp, ← EReal.coe_mul]
  · rw [if_neg c, if_neg c, EReal.coe_zero]

omit hp in
/-- The state before a step is the recurrence's. -/
theorem state_apply (p : ℕ) (hp : p ≤ 64) (c k : Fin 128) : state L h d p (ix2 c k)
    = ((Cert.Hgrn.stt (Cert.Hgrn.place d) (cond d 0 63) ((D h d).lfP d) ((D h d).kkP d) ((D h d).vP d c) p k : ℝ) : EReal) := by
  induction p with
  | zero =>
    show Ideal.ofBits .f32 0x00000000#32 = _
    rw [Ideal.ofBits_zero_f32]
    rfl
  | succ p ih =>
    have hp' : p < 64 := hp
    unfold state nxt Cert.Hgrn.stt
    pointwise []
    rw [ih (by omega), bend_apply]
    rw [exp_one V h d p hp', EReal.coe_add, EReal.coe_mul, ← sum_coe]
    congr 1
    refine Finset.sum_congr rfl fun j _ => ?_
    rw [ke_apply V h d p hp', show vv L h (ch d p) (ix2 j c) = ((D h d).vP d c p j : EReal) from V.v h d _ (ch_lt d hp') j c, ← EReal.coe_mul]
    rfl

/-- A chunk's output is the head's. -/
theorem oo_apply (j : Fin 64) (c : Fin 128) : oo L h d (ch d p) (state L h d p) (ix2 j c) = (((D h d).run d p j c : ℝ) : EReal) := by
  rw [← (D h d).run_eq_out d (fun p k => bs (D h d) d p (cond d 32 31) k) p hp j c]
  unfold oo Cert.Hgrn.out
  pointwise []
  rw [EReal.coe_add, ← sum_coe, ← sum_coe]
  congr 1
  · refine Finset.sum_congr rfl fun i _ => ?_
    rw [att_apply V h d p hp, show vv L h (ch d p) (ix2 i c) = ((D h d).vP d c p i : EReal) from V.v h d _ (ch_lt d hp) i c, ← EReal.coe_mul]
    rfl
  · refine Finset.sum_congr rfl fun k _ => ?_
    rw [qd_apply V h d p hp, state_apply V h d p (by omega), ← EReal.coe_mul]
    rfl

omit hp V in
theorem fin_apply (h : Bool) (o : ℕ) (s : FVec Ideal S64x128 .f32) (j : Fin 64) (c : Fin 128) : fin L h o s (ix2 j c)
    = Cert.Hgrn.normed (fun x => s (ix2 j x)) ((L.n (Rect.unit (s := S1x128) ![0, 0] S1x128.size inb_S1x128_S1x128_0_0) : FVec Ideal S1x128 .f32) (ix2 0 c))
      ((L.g (rc o h) : FVec Ideal S64x128 .bf16) (ix2 j c)) c := by
  unfold fin Cert.Hgrn.normed
  pointwise []

omit hp in
/-- The output's rows of chunk o: the normed sum of the two directions. -/
theorem out_apply (hL : Good L) (h : Bool) (o : ℕ) (ho : o < 64) (j : Fin 64) (c : Fin 128) :
    View.canon (l7 L 32) ((rc o h).emb (ix2 j c))
      = Cert.Hgrn.normed (fun x => (((D h false).run false o j x + (D h true).run true (63 - o) j x : ℝ) : EReal))
        ((L.n (Rect.unit (s := S1x128) ![0, 0] S1x128.size inb_S1x128_S1x128_0_0) : FVec Ideal S1x128 .f32) (ix2 0 c))
        ((L.g (rc o h) : FVec Ideal S64x128 .bf16) (ix2 j c)) c := by
  have ef (x : Fin 128) : oo L h false o (state L h false o) (ix2 j x) = (((D h false).run false o j x : ℝ) : EReal) :=
    oo_apply V h false o ho j x
  have et (x : Fin 128) : oo L h true o (state L h true (63 - o)) (ix2 j x) = (((D h true).run true (63 - o) j x : ℝ) : EReal) := by
    have e : ch true (63 - o) = o := by unfold ch; simp only [cond_true]; omega
    have := oo_apply V h true (63 - o) (by omega) j x
    rwa [e] at this
  by_cases h32 : o < 32
  · rw [l7_low hL h o h32, fin_apply]
    congr 1
    funext x
    show oo L h true o (state L h true (63 - o)) (ix2 j x) + oo L h false o (state L h false o) (ix2 j x) = _
    rw [ef, et, EReal.coe_add, add_comm]
  · rw [l7_high hL h o (by omega) ho, fin_apply]
    congr 1
    funext x
    show oo L h false o (state L h false o) (ix2 j x) + oo L h true o (state L h true (63 - o)) (ix2 j x) = _
    rw [ef, et, EReal.coe_add]

end Cert.Kernel10Ideal.Hgrn

end
-- ==== Proof.HgrnRef.lean ====
/-
  The recurrence's reference read at an index: at finite arguments, the normed sum over the rows seen in each direction.
-/
module

public import proofs.«01_k».proof.Proof.HgrnReal
public import Idealize.ShloMosaic.Lib.Pointwise
public import Idealize.ShloMosaic.Lib.WordCmp
public import proofs.«01_k».proof.Proof.Gen.Reference10Ideal.Read

@[expose] public section

noncomputable section

open Idealize.ShloMosaic Idealize.ShloMosaic.TcCoe Idealize.SL.Sem

namespace Cert.Hgrn

open Cert.Reference10Ideal Cert.Reference10Ideal.Read

variable (x : FVec Ideal S8192x4096 .bf16) (og : FVec Ideal S8192x1024 .bf16) (lg : FVec Ideal S2x2x1024 .f32)
  (g : FVec Ideal S1x128 .f32)

/-- Row s of a batch. -/
def row (b : Fin 2) (s : ℕ) : Fin 8192 := ⟨b.val * 4096 + s % 4096, by omega⟩

theorem row_eq (b : Fin 2) (s : Fin 4096) : row b s.val = ⟨b.val * 4096 + s.val, by omega⟩ :=
  Fin.ext (by show b.val * 4096 + s.val % 4096 = _; rw [Nat.mod_eq_of_lt s.isLt])

/-- A head's data in one direction, of the arguments. -/
def dat (b : Fin 2) (h : Fin 8) (d : Bool) : Dat where
  q s k := (x (ix2 (row b s) ⟨h.val * 128 + k.val, by omega⟩)).toReal
  f s k := (x (ix2 (row b s) ⟨cond d 2048 1024 + h.val * 128 + k.val, by cases d <;> simp only [cond_true, cond_false] <;> omega⟩)).toReal
  v s k := (x (ix2 (row b s) ⟨3072 + h.val * 128 + k.val, by omega⟩)).toReal
  lb k := lower (lg (ix3 (cond d 1 0) 0 ⟨h.val * 128 + k.val, by omega⟩)).toReal (lg (ix3 (cond d 1 0) 1 ⟨h.val * 128 + k.val, by omega⟩)).toReal

theorem lb_pos (b : Fin 2) (h : Fin 8) (d : Bool) (k : Fin 128) : 0 < (dat x lg b h d).lb k := lower_pos _ _

theorem lb_lt (b : Fin 2) (h : Fin 8) (d : Bool) (k : Fin 128) : (dat x lg b h d).lb k < 1 := lower_lt _ _

theorem sum_coe {n : ℕ} (f : Fin n → ℝ) : (∑ i, (f i : EReal)) = ((∑ i, f i : ℝ) : EReal) := by
  induction n with
  | zero => simp
  | succ n ih => rw [Fin.sum_univ_succ, Fin.sum_univ_succ, ih, EReal.coe_add]

theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

theorem lower_coe (a b : ℝ) : Ideal.div (Ideal.exp (a : EReal)) (Ideal.exp (a : EReal) + Ideal.exp (b : EReal)) = ((lower a b : ℝ) : EReal) := by
  rw [Ideal.exp_coe, Ideal.exp_coe, ← EReal.coe_add, div_coe _ _ (by positivity)]
  rfl

theorem sg_coe (a : ℝ) : Ideal.div 1 (1 + Ideal.exp (-(a : EReal))) = ((sg a : ℝ) : EReal) := by
  rw [← EReal.coe_neg, Ideal.exp_coe, ← EReal.coe_one, ← EReal.coe_add, div_coe _ _ (by positivity)]
  rfl

theorem gateLog_coe (lb a : ℝ) (h0 : 0 < lb) (h1 : lb < 1) :
    Ideal.log ((lb : EReal) + (1 - (lb : EReal)) * Ideal.div 1 (1 + Ideal.exp (-(a : EReal)))) = ((gateLog lb a : ℝ) : EReal) := by
  rw [sg_coe, ← EReal.coe_one, ← EReal.coe_sub, ← EReal.coe_mul, ← EReal.coe_add, Ideal.log_coe, if_neg (not_le.mpr (arg_pos lb a h0 h1))]
  rfl

theorem gateKey_coe (lb a : ℝ) : (1 - (lb : EReal)) * Ideal.div 1 (1 + Ideal.exp (-(-(a : EReal)))) = ((gateKey lb a : ℝ) : EReal) := by
  rw [← EReal.coe_neg, sg_coe, ← EReal.coe_one, ← EReal.coe_sub, ← EReal.coe_mul]
  rfl

theorem uitofp_ofBool (b : Bool) : FloatOps.uitofp (F := Ideal) .f32 (BitVec.ofBool b) = if b = true then ((1 : ℝ) : EReal) else ((0 : ℝ) : EReal) := by
  cases b
  · show (((BitVec.ofBool false).toNat : ℝ) : EReal) = _
    simp
  · show (((BitVec.ofBool true).toNat : ℝ) : EReal) = _
    simp

theorem select_ofBool (b : Bool) (x y : EReal) : Scalar.select (BitVec.ofBool b) x y = if b = true then x else y := by cases b <;> rfl

section finite
variable (hx : ∀ i, x i = ((x i).toReal : EReal)) (hl : ∀ i, lg i = ((lg i).toReal : EReal))
variable (b : Fin 2) (t : Fin 4096) (h : Fin 8) (k : Fin 128)

include hx in
theorem q_apply (d : Bool) : val_main_v3 (F := Ideal) x (ix4 b t h k) = ((dat x lg b h d).q t.val k : EReal) := by
  pointwise [val_main_v3, val_main_v2, val_main_v1, val_main_v0]
  rw [hx, ← row_eq b t]
  rfl
include hx in
theorem f_apply : val_main_v5 (F := Ideal) x (ix4 b t h k) = ((dat x lg b h false).f t.val k : EReal) := by
  pointwise [val_main_v5, val_main_v4, val_main_v1, val_main_v0]
  rw [hx, ← row_eq b t]
  rfl
include hx in
theorem f'_apply : val_main_v7 (F := Ideal) x (ix4 b t h k) = ((dat x lg b h true).f t.val k : EReal) := by
  pointwise [val_main_v7, val_main_v6, val_main_v1, val_main_v0]
  rw [hx, ← row_eq b t]
  rfl
include hx in
theorem v_apply (d : Bool) : val_main_v9 (F := Ideal) x (ix4 b t h k) = ((dat x lg b h d).v t.val k : EReal) := by
  pointwise [val_main_v9, val_main_v8, val_main_v1, val_main_v0]
  rw [hx, ← row_eq b t]
  rfl

include hl in
theorem lb_apply (d : Bool) : val_main_v19 (F := Ideal) lg (ix3 (cond d 1 0) h k) = ((dat x lg b h d).lb k : EReal) := by
  pointwise [val_main_v19, val_main_v18, val_main_v17, val_main_v16, val_main_v15, val_main_v14, val_main_v13, val_main_v12, val_main_v11, val_main_v10]
  rw [hl (ix3 (cond d 1 0) 0 _), hl (ix3 (cond d 1 0) 1 _), lower_coe]
  rfl

include hx hl in
theorem log_apply : val_main_v43 (F := Ideal) x lg (ix4 b t h k) = ((gateLog ((dat x lg b h false).lb k) ((dat x lg b h false).f t.val k) : ℝ) : EReal) := by
  have e := lb_apply x lg hl b h k false
  simp only [cond_false] at e
  pointwise [val_main_v43, val_main_v42, val_main_v41, val_main_v40, val_main_v39, val_main_v38, val_main_v37, val_main_v36,
    val_main_v35, val_main_v34, val_main_v33, val_main_v32, val_main_v31, val_main_v30, val_main_v29, val_main_v25, val_main_v24,
    val_main_cst, val_main_cst_0, val_main_cst_1]
  rw [e, f_apply x lg hx, gateLog_coe _ _ (lb_pos x lg b h _ k) (lb_lt x lg b h _ k)]
include hx hl in
theorem log'_apply : val_main_v95 (F := Ideal) x lg (ix4 b t h k) = ((gateLog ((dat x lg b h true).lb k) ((dat x lg b h true).f t.val k) : ℝ) : EReal) := by
  have e := lb_apply x lg hl b h k true
  simp only [cond_true] at e
  pointwise [val_main_v95, val_main_v94, val_main_v93, val_main_v92, val_main_v91, val_main_v90, val_main_v89, val_main_v88,
    val_main_v87, val_main_v86, val_main_v85, val_main_v84, val_main_v83, val_main_v82, val_main_v81, val_main_v77, val_main_v76,
    val_main_cst_7, val_main_cst_8, val_main_cst_9]
  rw [e, f'_apply x lg hx, gateLog_coe _ _ (lb_pos x lg b h _ k) (lb_lt x lg b h _ k)]

include hx hl in
theorem key_apply : val_main_v55 (F := Ideal) x lg (ix4 b t h k) = ((gateKey ((dat x lg b h false).lb k) ((dat x lg b h false).f t.val k) : ℝ) : EReal) := by
  have e := lb_apply x lg hl b h k false
  simp only [cond_false] at e
  pointwise [val_main_v55, val_main_v54, val_main_v53, val_main_v52, val_main_v51, val_main_v50, val_main_v49, val_main_v48,
    val_main_v47, val_main_v46, val_main_v45, val_main_v44, val_main_v25, val_main_v24, val_main_cst_2, val_main_cst_3, val_main_cst_4]
  rw [e, f_apply x lg hx, gateKey_coe]
include hx hl in
theorem key'_apply : val_main_v107 (F := Ideal) x lg (ix4 b t h k) = ((gateKey ((dat x lg b h true).lb k) ((dat x lg b h true).f t.val k) : ℝ) : EReal) := by
  have e := lb_apply x lg hl b h k true
  simp only [cond_true] at e
  pointwise [val_main_v107, val_main_v106, val_main_v105, val_main_v104, val_main_v103, val_main_v102, val_main_v101, val_main_v100,
    val_main_v99, val_main_v98, val_main_v97, val_main_v96, val_main_v77, val_main_v76, val_main_cst_10, val_main_cst_11, val_main_cst_12]
  rw [e, f'_apply x lg hx, gateKey_coe]

omit h k b in
theorem mask_apply (s : Fin 4096) : val_main_v28 (F := Ideal) (ix2 t s) = BitVec.ofBool (see false s.val t.val) := by
  pointwise [val_main_v28, val_main_v27, val_main_v26, val_main_v23, val_main_v22, val_main_v21, val_main_v20]
  exact WordCmp.cmpi_sle_ofNat (a := s.val) (b := t.val) (by omega) (by omega)
omit h k b in
theorem mask'_apply (s : Fin 4096) : val_main_v80 (F := Ideal) (ix2 t s) = BitVec.ofBool (see true s.val t.val) := by
  pointwise [val_main_v80, val_main_v79, val_main_v78, val_main_v23, val_main_v22, val_main_v21, val_main_v20]
  exact WordCmp.cmpi_sge_ofNat (a := s.val) (b := t.val) (by omega) (by omega)

include hx hl in
theorem tot_apply : val_main_v58 (F := Ideal) x lg (ix4 b t h k) = ((dat x lg b h false).tot false t.val k : EReal) := by
  unfold Dat.tot
  rw [← sum_coe]
  pointwise [val_main_v58, val_main_v57, val_main_v56]
  refine Finset.sum_congr rfl fun s _ => ?_
  rw [mask_apply, uitofp_ofBool, log_apply x lg hx hl]
  split <;> simp
include hx hl in
theorem tot'_apply : val_main_v110 (F := Ideal) x lg (ix4 b t h k) = ((dat x lg b h true).tot true t.val k : EReal) := by
  unfold Dat.tot
  rw [← sum_coe]
  pointwise [val_main_v110, val_main_v109, val_main_v108]
  refine Finset.sum_congr rfl fun s _ => ?_
  rw [mask'_apply, uitofp_ofBool, log'_apply x lg hx hl]
  split <;> simp

/-- The sum over the rows seen, as the reference writes it. -/
theorem rows_coe (D : Dat) (d : Bool) (t : ℕ) (c : Fin 128) (w : Fin 4096 → EReal) (a : Fin 4096 → EReal) (z : EReal) (hz : z = 0)
    (hw : ∀ s, w s = (D.v s.val c : EReal))
    (ha : ∀ s, a s = ((∑ k : Fin 128, D.q t k * gateKey (D.lb k) (D.f s.val k) * Real.exp (D.tot d t k - D.tot d s.val k) : ℝ) : EReal)) :
    (∑ s : Fin 4096, w s * if see d s.val t = true then a s else z)
      = ((∑ s : Fin 4096, D.v s.val c * if see d s.val t = true then
          ∑ k : Fin 128, D.q t k * gateKey (D.lb k) (D.f s.val k) * Real.exp (D.tot d t k - D.tot d s.val k) else 0 : ℝ) : EReal) := by
  rw [← sum_coe]
  refine Finset.sum_congr rfl fun s _ => ?_
  rw [hw, ha, EReal.coe_mul]
  congr 1
  by_cases e : see d s.val t = true
  · rw [if_pos e, if_pos e]
  · rw [if_neg e, if_neg e, hz, EReal.coe_zero]

/-- The direction's output at a row: the recurrence's at the step that visits it. -/
def dirOut (D : Dat) (d : Bool) (t : ℕ) (c : Fin 128) : ℝ := D.run d (cond d (63 - t / 64) (t / 64)) ⟨t % 64, by omega⟩ c

omit t in
theorem dirOut_eq (D : Dat) (d : Bool) (t : ℕ) (ht : t < 4096) (c : Fin 128) :
    (∑ s : Fin 4096, D.v s.val c * if see d s.val t = true then
          ∑ k : Fin 128, D.q t k * gateKey (D.lb k) (D.f s.val k) * Real.exp (D.tot d t k - D.tot d s.val k) else 0) = dirOut D d t c := by
  have e : pos d (cond d (63 - t / 64) (t / 64)) ⟨t % 64, by omega⟩ = t := by
    unfold pos
    cases d <;> simp only [cond_true, cond_false] <;> omega
  have := D.run_eq_rows d (cond d (63 - t / 64) (t / 64)) (by cases d <;> simp only [cond_true, cond_false] <;> omega) ⟨t % 64, by omega⟩ c
  rw [e] at this
  exact this

include hx hl in
theorem out_apply : val_main_v75 (F := Ideal) x lg (ix4 b t h k) = ((dirOut (dat x lg b h false) false t.val k : ℝ) : EReal) := by
  rw [← dirOut_eq _ _ _ t.isLt]
  pointwise [val_main_v75, val_main_v74, val_main_v73, val_main_v72, val_main_v71, val_main_v70, val_main_v69, val_main_v68, val_main_v67,
    val_main_v66, val_main_v65, val_main_v64, val_main_v63, val_main_v62, val_main_v61, val_main_v60, val_main_v59,
    val_main_call0_v2, val_main_call0_v1, val_main_call0_v0, val_main_cst_5, val_main_cst_6]
  simp only [mask_apply, select_ofBool]
  refine rows_coe (dat x lg b h false) false t.val k _ _ _ Ideal.ofBits_zero_f32 (fun s => v_apply x lg hx b s h k false) fun s => ?_
  rw [← sum_coe]
  refine Finset.sum_congr rfl fun i _ => ?_
  rw [q_apply x lg hx b t h i false, key_apply x lg hx hl, tot_apply x lg hx hl, tot_apply x lg hx hl, ← EReal.coe_mul, ← EReal.coe_sub, Ideal.exp_coe, ← EReal.coe_mul]
include hx hl in
theorem out'_apply : val_main_v127 (F := Ideal) x lg (ix4 b t h k) = ((dirOut (dat x lg b h true) true t.val k : ℝ) : EReal) := by
  rw [← dirOut_eq _ _ _ t.isLt]
  pointwise [val_main_v127, val_main_v126, val_main_v125, val_main_v124, val_main_v123, val_main_v122, val_main_v121, val_main_v120, val_main_v119,
    val_main_v118, val_main_v117, val_main_v116, val_main_v115, val_main_v114, val_main_v113, val_main_v112, val_main_v111,
    val_main_call1_v2, val_main_call1_v1, val_main_call1_v0, val_main_cst_13, val_main_cst_14]
  simp only [mask'_apply, select_ofBool]
  refine rows_coe (dat x lg b h true) true t.val k _ _ _ Ideal.ofBits_zero_f32 (fun s => v_apply x lg hx b s h k true) fun s => ?_
  rw [← sum_coe]
  refine Finset.sum_congr rfl fun i _ => ?_
  rw [q_apply x lg hx b t h i true, key'_apply x lg hx hl, tot'_apply x lg hx hl, tot'_apply x lg hx hl, ← EReal.coe_mul, ← EReal.coe_sub, Ideal.exp_coe, ← EReal.coe_mul]

include hx hl in
theorem sum_apply : val_main_v128 (F := Ideal) x lg (ix4 b t h k)
    = ((dirOut (dat x lg b h false) false t.val k + dirOut (dat x lg b h true) true t.val k : ℝ) : EReal) := by
  pointwise [val_main_v128]
  rw [out_apply x lg hx hl, out'_apply x lg hx hl, ← EReal.coe_add]

end finite

/-- The result's value at a row and a column. -/
def spec (r : Fin 8192) (c : Fin 1024) : EReal :=
  normed (fun k => ((dirOut (dat x lg ⟨r.val / 4096, by omega⟩ ⟨c.val / 128, by omega⟩ false) false (r.val % 4096) k
      + dirOut (dat x lg ⟨r.val / 4096, by omega⟩ ⟨c.val / 128, by omega⟩ true) true (r.val % 4096) k : ℝ) : EReal))
    (g (ix2 0 ⟨c.val % 128, by omega⟩)) (og (ix2 r c)) ⟨c.val % 128, by omega⟩

theorem ref_apply (hx : ∀ i, x i = ((x i).toReal : EReal)) (hl : ∀ i, lg i = ((lg i).toReal : EReal)) (r : Fin 8192) (c : Fin 1024) :
    val_main_v145 (F := Ideal) x og lg g (ix2 r c) = spec x og lg g r c := by
  unfold spec normed
  pointwise [val_main_v145, val_main_v144, val_main_v143, val_main_v142, val_main_v141, val_main_v140, val_main_v139, val_main_v138,
    val_main_v137, val_main_v136, val_main_v135, val_main_v134, val_main_v133, val_main_v132, val_main_v131, val_main_v130, val_main_v129,
    val_main_cst_15, val_main_cst_16, val_main_cst_17]
  simp only [sum_apply x lg hx hl]

end Cert.Hgrn

end
-- ==== Proof.HgrnArray.lean ====
/-
  The recurrence's result array, read at an index, from the argument arrays.
-/
module

public import proofs.«01_k».proof.Proof.HgrnBlock
public import proofs.«01_k».proof.Proof.HgrnRef
public import Idealize.ShloMosaic.Lib.Pipeline.ValueKit
public import Idealize.ShloMosaic.Lib.StableHlo.ReadAt

@[expose] public section

noncomputable section

open Idealize.ShloMosaic Idealize.ShloMosaic.TcCoe Idealize.SL.Sem

namespace Cert.Kernel10Ideal.Hgrn

open Cert.Kernel10Ideal Cert.Kernel10Ideal.Gen

/-- Rows 64·o to 64·o+63 of a head, read through their rectangle. -/
theorem ld_rc {e : EltTy} {Val : EltTy → Type} (X : S4096x256.Idx → Val e) (o : ℕ) (ho : o < 64) (h : Bool) (j : Fin 64) (k : Fin 128) :
    View.ld X (rc o h) (ix2 j k) = X (ix2 ⟨64 * o + j.val, by omega⟩ (col h k)) := by
  refine View.ld_unit_apply_of X _ _ _ (ix2 j k) _ fun a => ?_
  match a with
  | ⟨0, _⟩ => show 64 * o + j.val = 64 * (o % 64) + j.val; rw [Nat.mod_eq_of_lt ho]
  | ⟨1, _⟩ => cases h
              · show k.val = 0 + k.val; omega
              · rfl

theorem emb_rc (o : ℕ) (ho : o < 64) (h : Bool) (j : Fin 64) (k : Fin 128) :
    (rc o h).emb (ix2 j k) = ix2 ⟨64 * o + j.val, by omega⟩ (col h k) :=
  ld_rc (e := .i1) (Val := fun _ => S4096x256.Idx) (fun i => i) o ho h j k

theorem exists_row (r : Fin 4096) : ∃ (o : ℕ) (j : Fin 64) (_ : o < 64), r = ⟨64 * o + j.val, by omega⟩ :=
  ⟨r.val / 64, ⟨r.val % 64, by omega⟩, by omega, Fin.ext (by show r.val = 64 * (r.val / 64) + r.val % 64; omega)⟩

theorem exists_col (q : Fin 256) : ∃ (h : Bool) (k : Fin 128), q = col h k := by
  by_cases e : q.val < 128
  · exact ⟨false, ⟨q.val, e⟩, rfl⟩
  · exact ⟨true, ⟨q.val - 128, by omega⟩, Fin.ext (by show q.val = 128 + (q.val - 128); omega)⟩

theorem hz : (![0, 0] : Fin 2 → ℕ) = fun _ => 0 := funext fun a => by fin_cases a <;> rfl
theorem hz3 : (![0, 0, 0] : Fin 3 → ℕ) = fun _ => 0 := funext fun a => by fin_cases a <;> rfl

section run
variable (arg2 : Memref sig .tc .vmem S4096x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S4x256 .f32) (harg7 : arg7.IsWhole) (arg8 : Memref sig .tc .vmem S1x128 .f32) (harg8 : arg8.IsWhole) (arg10 : Memref sig .tc .vmem S4096x256 .f32) (arg11 : Memref sig .tc .vmem S4096x256 .f32) (arg12 : Memref sig .tc .vmem S4x128x128 .f32)
    (x0 : Vec Ideal S4096x256 .bf16) (x1 : Vec Ideal S4096x256 .bf16) (x2 : Vec Ideal S4096x256 .bf16) (x3 : Vec Ideal S4096x256 .bf16) (x4 : Vec Ideal S4096x256 .bf16) (x5 : Vec Ideal S4x256 .f32) (x6 : Vec Ideal S1x128 .f32)

theorem good_loads : Good (loads arg2 harg2 arg3 harg3 arg4 harg4 arg5 harg5 arg6 harg6 arg7 harg7 arg8 harg8 arg10 arg11 arg12 x0 x1 x2 x3 x4 x5 x6) where
  ow := reads_cov _
  ob := reads_cov _
  st := reads_cov _
  zero r := by
    show arg12.view.readCov (ls (loads arg2 harg2 arg3 harg3 arg4 harg4 arg5 harg5 arg6 harg6 arg7 harg7 arg8 harg8 arg10 arg11 arg12 x0 x1 x2 x3 x4 x5 x6) 0) r.toLoadRect = _
    rw [View.readCov_eq_canon']
    funext j
    unfold ls rw0
    rw [View.canon_unit_zero hz3]
    rfl

theorem ld_whole {m : Memref sig .tc .vmem S4096x256 .bf16} (hm : m.IsWhole) (X : S4096x256.Idx → Elt Ideal .bf16)
    (o : ℕ) (ho : o < 64) (h : Bool) (j : Fin 64) (k : Fin 128) :
    m.view.readAt (Elt Ideal) (rc o h).toLoadRect (hm.unread X) (ix2 j k) = X (ix2 ⟨64 * o + j.val, by omega⟩ (col h k)) := by
  refine (congrFun (View.readAt_eq_ld _ _ (rc o h)) (ix2 j k)).trans ?_
  rw [hm.read_unread]
  exact ld_rc X o ho h j k

theorem l_loads (i : Fin 4) (k : Fin 256) : ((loads arg2 harg2 arg3 harg3 arg4 harg4 arg5 harg5 arg6 harg6 arg7 harg7 arg8 harg8 arg10 arg11 arg12 x0 x1 x2 x3 x4 x5 x6).l (Rect.unit (s := S4x256) ![0, 0] S4x256.size inb_S4x256_S4x256_0_0) : FVec Ideal S4x256 .f32) (ix2 i k)
    = x5 (ix2 i k) := by
  refine (congrFun (View.readAt_eq_ld arg7.view (harg7.unread x5) (Rect.unit (s := S4x256) ![0, 0] S4x256.size inb_S4x256_S4x256_0_0)) (ix2 i k)).trans ?_
  rw [harg7.read_unread]
  exact congrFun (View.ld_unit_zero (S := S4x256) hz _ x5) (ix2 i k)

theorem n_loads (i : Fin 1) (k : Fin 128) : ((loads arg2 harg2 arg3 harg3 arg4 harg4 arg5 harg5 arg6 harg6 arg7 harg7 arg8 harg8 arg10 arg11 arg12 x0 x1 x2 x3 x4 x5 x6).n (Rect.unit (s := S1x128) ![0, 0] S1x128.size inb_S1x128_S1x128_0_0) : FVec Ideal S1x128 .f32) (ix2 i k)
    = x6 (ix2 i k) := by
  refine (congrFun (View.readAt_eq_ld arg8.view (harg8.unread x6) (Rect.unit (s := S1x128) ![0, 0] S1x128.size inb_S1x128_S1x128_0_0)) (ix2 i k)).trans ?_
  rw [harg8.read_unread]
  exact congrFun (View.ld_unit_zero (S := S1x128) hz _ x6) (ix2 i k)

variable (x : FVec Ideal S8192x4096 .bf16) (lg : FVec Ideal S2x2x1024 .f32)

/-- The head's number. -/
def hn (p : ℕ) (hp : p < 4) (h : Bool) : Fin 8 := ⟨p * 2 + cond h 1 0, by cases h <;> simp only [cond_true, cond_false] <;> omega⟩

theorem vals_loads (b : Fin 2) (p : ℕ) (hp : p < 4)
    (hx : ∀ i, x i = ((x i).toReal : EReal)) (hl : ∀ i, lg i = ((lg i).toReal : EReal))
    (h0 : ∀ (r : Fin 4096) (k : Fin 256), x0 (ix2 r k) = x (ix2 (Cert.Hgrn.row b r.val) ⟨p * 256 + k.val, by omega⟩))
    (h1 : ∀ (r : Fin 4096) (k : Fin 256), x1 (ix2 r k) = x (ix2 (Cert.Hgrn.row b r.val) ⟨1024 + p * 256 + k.val, by omega⟩))
    (h2 : ∀ (r : Fin 4096) (k : Fin 256), x2 (ix2 r k) = x (ix2 (Cert.Hgrn.row b r.val) ⟨2048 + p * 256 + k.val, by omega⟩))
    (h3 : ∀ (r : Fin 4096) (k : Fin 256), x3 (ix2 r k) = x (ix2 (Cert.Hgrn.row b r.val) ⟨3072 + p * 256 + k.val, by omega⟩))
    (h5 : ∀ (i : Fin 4) (k : Fin 256), x5 (ix2 i k) = lg (ix3 ⟨i.val / 2, by omega⟩ ⟨i.val % 2, by omega⟩ ⟨p * 256 + k.val, by omega⟩)) :
    Vals (loads arg2 harg2 arg3 harg3 arg4 harg4 arg5 harg5 arg6 harg6 arg7 harg7 arg8 harg8 arg10 arg11 arg12 x0 x1 x2 x3 x4 x5 x6) (fun h d => Cert.Hgrn.dat x lg b (hn p hp h) d) where
  q h d o ho j k := by
    refine (ld_whole harg2 x0 o ho h j k).trans ?_
    rw [h0, hx]
    refine congrArg (fun i => ((x (ix2 _ i)).toReal : EReal)) (Fin.ext ?_)
    cases h <;> simp only [col, hn, cond_true, cond_false] <;> omega
  f h d o ho j k := by
    cases d
    · refine (ld_whole harg3 x1 o ho h j k).trans ?_
      rw [h1, hx]
      refine congrArg (fun i => ((x (ix2 _ i)).toReal : EReal)) (Fin.ext ?_)
      cases h <;> simp only [col, hn, cond_true, cond_false] <;> omega
    · refine (ld_whole harg4 x2 o ho h j k).trans ?_
      rw [h2, hx]
      refine congrArg (fun i => ((x (ix2 _ i)).toReal : EReal)) (Fin.ext ?_)
      cases h <;> simp only [col, hn, cond_true, cond_false] <;> omega
  v h d o ho j k := by
    refine (ld_whole harg5 x3 o ho h j k).trans ?_
    rw [h3, hx]
    refine congrArg (fun i => ((x (ix2 _ i)).toReal : EReal)) (Fin.ext ?_)
    cases h <;> simp only [col, hn, cond_true, cond_false] <;> omega
  lb h d k := by
    refine (lbd_apply (loads arg2 harg2 arg3 harg3 arg4 harg4 arg5 harg5 arg6 harg6 arg7 harg7 arg8 harg8 arg10 arg11 arg12 x0 x1 x2 x3 x4 x5 x6) d (col h k) (fun i => (lg (ix3 ⟨i.val / 2, by omega⟩ ⟨i.val % 2, by omega⟩ ⟨p * 256 + (col h k).val, by omega⟩)).toReal)
      fun i => ?_).trans ?_
    · rw [l_loads, h5, hl]
      rfl
    · have e : (⟨p * 256 + (col h k).val, by omega⟩ : Fin 1024) = ⟨(hn p hp h).val * 128 + k.val, by omega⟩ := by
        apply Fin.ext
        cases h <;> simp only [col, hn, cond_true, cond_false] <;> omega
      cases d <;> simp only [cond_true, cond_false, e] <;> rfl
  lb0 h d k := Cert.Hgrn.lb_pos x lg b _ d k
  lb1 h d k := Cert.Hgrn.lb_lt x lg b _ d k

end run

variable (m : (ℓ : Loc nD τ sig) → Buf (Elt Ideal) ℓ) (c : Dev nD)

theorem e0 : ∀ t : Fin cfg0.N, win0_0.index t = ![t.val / 4, t.val % 4] := by decide +kernel
theorem e1 : ∀ t : Fin cfg0.N, win0_1.index t = ![t.val / 4, 4 + t.val % 4] := by decide +kernel
theorem e2 : ∀ t : Fin cfg0.N, win0_2.index t = ![t.val / 4, 8 + t.val % 4] := by decide +kernel
theorem e3 : ∀ t : Fin cfg0.N, win0_3.index t = ![t.val / 4, 12 + t.val % 4] := by decide +kernel
theorem e4 : ∀ t : Fin cfg0.N, win0_4.index t = ![t.val / 4, t.val % 4] := by decide +kernel
theorem e5 : ∀ t : Fin cfg0.N, win0_5.index t = ![0, t.val % 4] := by decide +kernel
theorem e6 : ∀ t : Fin cfg0.N, win0_6.index t = ![0, 0] := by decide +kernel
theorem e7 : ∀ t : Fin cfg0.N, win0_7.index t = ![t.val / 4, t.val % 4] := by decide +kernel

theorem V_l (i : Fin 4) (k : Fin 1024) : V m c main_v0 (ix2 i k)
    = m ((c : Thread nD τ).loc main_arg2) (ix3 ⟨i.val / 2, by omega⟩ ⟨i.val % 2, by omega⟩ k) := by
  unfold V
  after_reads_at

theorem V_n (k : Fin 128) : V m c main_v2 (ix2 0 k) = m ((c : Thread nD τ).loc main_arg3) (ix2 0 k) := by
  unfold V
  after_reads_at

theorem q_blk (t : Fin cfg0.N) (r : Fin 4096) (k : Fin 256) (hb : t.val / 4 * 4096 + r.val < 8192) (hk : t.val % 4 * 256 + k.val < 4096) :
    iblk m c 0 t (ix2 r k) = m ((c : Thread nD τ).loc main_arg0) (ix2 ⟨t.val / 4 * 4096 + r.val, hb⟩ ⟨t.val % 4 * 256 + k.val, hk⟩) := by
  rw [← V_main_arg0 m c]
  blk_ext [iblk, e0]

theorem fw_blk (t : Fin cfg0.N) (r : Fin 4096) (k : Fin 256) (hb : t.val / 4 * 4096 + r.val < 8192) (hk : 1024 + t.val % 4 * 256 + k.val < 4096) :
    iblk m c 1 t (ix2 r k) = m ((c : Thread nD τ).loc main_arg0) (ix2 ⟨t.val / 4 * 4096 + r.val, hb⟩ ⟨1024 + t.val % 4 * 256 + k.val, hk⟩) := by
  rw [← V_main_arg0 m c]
  blk_ext [iblk, e1]

theorem bw_blk (t : Fin cfg0.N) (r : Fin 4096) (k : Fin 256) (hb : t.val / 4 * 4096 + r.val < 8192) (hk : 2048 + t.val % 4 * 256 + k.val < 4096) :
    iblk m c 2 t (ix2 r k) = m ((c : Thread nD τ).loc main_arg0) (ix2 ⟨t.val / 4 * 4096 + r.val, hb⟩ ⟨2048 + t.val % 4 * 256 + k.val, hk⟩) := by
  rw [← V_main_arg0 m c]
  blk_ext [iblk, e2]

theorem v_blk (t : Fin cfg0.N) (r : Fin 4096) (k : Fin 256) (hb : t.val / 4 * 4096 + r.val < 8192) (hk : 3072 + t.val % 4 * 256 + k.val < 4096) :
    iblk m c 3 t (ix2 r k) = m ((c : Thread nD τ).loc main_arg0) (ix2 ⟨t.val / 4 * 4096 + r.val, hb⟩ ⟨3072 + t.val % 4 * 256 + k.val, hk⟩) := by
  rw [← V_main_arg0 m c]
  blk_ext [iblk, e3]

theorem g_blk (t : Fin cfg0.N) (r : Fin 4096) (k : Fin 256) (hb : t.val / 4 * 4096 + r.val < 8192) (hk : t.val % 4 * 256 + k.val < 1024) :
    iblk m c 4 t (ix2 r k) = m ((c : Thread nD τ).loc main_arg1) (ix2 ⟨t.val / 4 * 4096 + r.val, hb⟩ ⟨t.val % 4 * 256 + k.val, hk⟩) := by
  rw [← V_main_arg1 m c]
  blk_ext [iblk, e4]

theorem l_blk (t : Fin cfg0.N) (i : Fin 4) (k : Fin 256) (hk : t.val % 4 * 256 + k.val < 1024) :
    iblk m c 5 t (ix2 i k) = m ((c : Thread nD τ).loc main_arg2) (ix3 ⟨i.val / 2, by omega⟩ ⟨i.val % 2, by omega⟩ ⟨t.val % 4 * 256 + k.val, hk⟩) := by
  rw [← V_l m c]
  blk_ext [iblk, e5]

theorem n_blk (t : Fin cfg0.N) (k : Fin 128) : iblk m c 6 t (ix2 0 k) = m ((c : Thread nD τ).loc main_arg3) (ix2 0 k) := by
  rw [← V_n m c]
  blk_ext [iblk, e6]

variable (hx : ∀ i, (m ((c : Thread nD τ).loc main_arg0) : FVec Ideal S8192x4096 .bf16) i
    = (((m ((c : Thread nD τ).loc main_arg0) : FVec Ideal S8192x4096 .bf16) i).toReal : EReal))
  (hl : ∀ i, (m ((c : Thread nD τ).loc main_arg2) : FVec Ideal S2x2x1024 .f32) i
    = (((m ((c : Thread nD τ).loc main_arg2) : FVec Ideal S2x2x1024 .f32) i).toReal : EReal))

include hx hl in
/-- A row and a column of a block of the output. -/
theorem out_blk (t : Fin cfg0.N) (o : ℕ) (ho : o < 64) (h : Bool) (j : Fin 64) (k : Fin 128)
    (hr : t.val / 4 * 4096 + (64 * o + j.val) < 8192) (hk : t.val % 4 * 256 + (col h k).val < 1024) :
    outsAt0 (F := Ideal) m c t (ix2 ⟨64 * o + j.val, by omega⟩ (col h k))
      = Cert.Hgrn.spec (m ((c : Thread nD τ).loc main_arg0)) (m ((c : Thread nD τ).loc main_arg1)) (m ((c : Thread nD τ).loc main_arg2))
        (m ((c : Thread nD τ).loc main_arg3)) ⟨t.val / 4 * 4096 + (64 * o + j.val), hr⟩ ⟨t.val % 4 * 256 + (col h k).val, hk⟩ := by
  have ht : t.val < 8 := t.isLt
  have hp : t.val % 4 < 4 := by omega
  have hb (r : Fin 4096) : t.val / 4 * 4096 + r.val < 8192 := by omega
  have er (r : Fin 4096) : (⟨t.val / 4 * 4096 + r.val, hb r⟩ : Fin 8192) = Cert.Hgrn.row ⟨t.val / 4, by omega⟩ r.val :=
    (Cert.Hgrn.row_eq ⟨t.val / 4, by omega⟩ r).symm
  unfold outsAt0 out0_A_7
  rw [View.read_writes_junk_eq_canon, run_pieces, ← emb_rc o ho h j k]
  rw [out_apply (vals_loads _ _ _ _ _ _ _ _ _ _ _ _ _ _ _ _ _ _ _ _ _ _ _ _ (m ((c : Thread nD τ).loc main_arg0)) (m ((c : Thread nD τ).loc main_arg2))
    ⟨t.val / 4, by omega⟩ (t.val % 4) hp hx hl
    (fun r k => (q_blk m c t r k (hb r) (by omega)).trans (by rw [er]))
    (fun r k => (fw_blk m c t r k (hb r) (by omega)).trans (by rw [er]))
    (fun r k => (bw_blk m c t r k (hb r) (by omega)).trans (by rw [er]))
    (fun r k => (v_blk m c t r k (hb r) (by omega)).trans (by rw [er]))
    (fun i k => l_blk m c t i k (by omega))) (good_loads _ _ _ _ _ _ _ _ _ _ _ _ _ _ _ _ _ _ _ _ _ _ _ _) h o ho j k]
  have hc : (col h k).val = cond h 1 0 * 128 + k.val := by cases h <;> simp only [col, cond_true, cond_false] <;> omega
  have c8 : (⟨(t.val % 4 * 256 + (col h k).val) / 128, by omega⟩ : Fin 8) = hn (t.val % 4) hp h :=
    Fin.ext (by show (t.val % 4 * 256 + (col h k).val) / 128 = t.val % 4 * 2 + cond h 1 0; cases h <;> simp only [hc, cond_true, cond_false] <;> omega)
  have k8 : (⟨(t.val % 4 * 256 + (col h k).val) % 128, by omega⟩ : Fin 128) = k := Fin.ext (by show (t.val % 4 * 256 + (col h k).val) % 128 = k.val; cases h <;> simp only [hc, cond_true, cond_false] <;> omega)
  have b2 : (⟨(t.val / 4 * 4096 + (64 * o + j.val)) / 4096, by omega⟩ : Fin 2) = ⟨t.val / 4, by omega⟩ := Fin.ext (by show (t.val / 4 * 4096 + (64 * o + j.val)) / 4096 = t.val / 4; omega)
  have tm : (t.val / 4 * 4096 + (64 * o + j.val)) % 4096 = 64 * o + j.val := by omega
  have eg : (loads (F := Ideal) (ms0_0 t) (hs0_0 t) (ms0_1 t) (hs0_1 t) (ms0_2 t) (hs0_2 t) (ms0_3 t) (hs0_3 t) (ms0_4 t) (hs0_4 t) (ms0_5 t) (hs0_5 t)
      (ms0_6 t) (hs0_6 t) scM0_0 scM0_1 scM0_2 (iblk m c 0 t) (iblk m c 1 t) (iblk m c 2 t) (iblk m c 3 t) (iblk m c 4 t) (iblk m c 5 t) (iblk m c 6 t)).g
      (rc o h) (ix2 j k) = m ((c : Thread nD τ).loc main_arg1) (ix2 ⟨t.val / 4 * 4096 + (64 * o + j.val), hr⟩ ⟨t.val % 4 * 256 + (col h k).val, hk⟩) :=
    (ld_whole (hs0_4 t) (iblk m c 4 t) o ho h j k).trans (g_blk m c t ⟨64 * o + j.val, by omega⟩ (col h k) hr hk)
  refine (congrArg (fun z => Cert.Hgrn.normed _ _ z k) eg).trans ?_
  rw [n_loads, n_blk]
  unfold Cert.Hgrn.spec
  simp only [c8, k8, b2, tm]
  have f1 (D : Cert.Hgrn.Dat) (y : Fin 128) : Cert.Hgrn.dirOut D false (64 * o + j.val) y = D.run false o j y := by
    unfold Cert.Hgrn.dirOut
    have e1 : (64 * o + j.val) / 64 = o := by omega
    have e2 : (⟨(64 * o + j.val) % 64, by omega⟩ : Fin 64) = j := Fin.ext (by show (64 * o + j.val) % 64 = j.val; omega)
    simp only [cond_false, e1, e2]
  have f2 (D : Cert.Hgrn.Dat) (y : Fin 128) : Cert.Hgrn.dirOut D true (64 * o + j.val) y = D.run true (63 - o) j y := by
    unfold Cert.Hgrn.dirOut
    have e1 : (64 * o + j.val) / 64 = o := by omega
    have e2 : (⟨(64 * o + j.val) % 64, by omega⟩ : Fin 64) = j := Fin.ext (by show (64 * o + j.val) % 64 = j.val; omega)
    simp only [cond_true, e1, e2]
  simp only [f1, f2]

include hx hl in
/-- The result array after the run. -/
theorem final : (dats m 0 c).arrAt 7 cfg0.N = fun i => Cert.Hgrn.spec (m ((c : Thread nD τ).loc main_arg0))
    (m ((c : Thread nD τ).loc main_arg1)) (m ((c : Thread nD τ).loc main_arg2)) (m ((c : Thread nD τ).loc main_arg3)) (i 0) (i 1) := by
  refine (dats m 0 c).arrAt_eq_of_covers 7 _ (by decide +kernel) fun t hf y => ?_
  have ht : t.val < 8 := t.isLt
  obtain ⟨r, q, rfl⟩ : ∃ (r : Fin 4096) (q : Fin 256), y = ix2 r q := ⟨y 0, y 1, eq_ix2 _⟩
  have hr : t.val / 4 * 4096 + r.val < 8192 := by omega
  have hk : t.val % 4 * 256 + q.val < 1024 := by omega
  have h0 : (win0_7.blk t).view.emb (ix2 r q) 0 = (⟨t.val / 4 * 4096 + r.val, hr⟩ : Fin 8192) := by
    apply Fin.ext; blk_simp [e7]
  have h1 : (win0_7.blk t).view.emb (ix2 r q) 1 = (⟨t.val % 4 * 256 + q.val, hk⟩ : Fin 1024) := by
    apply Fin.ext; blk_simp [e7]
  blk_simp
  rw [after0_7, h0, h1]
  obtain ⟨o, j, ho, rfl⟩ := exists_row r
  obtain ⟨h, k, rfl⟩ := exists_col q
  exact out_blk m c hx hl t o ho h j k hr hk

end Cert.Kernel10Ideal.Hgrn

end
-- ==== Proof.HgrnClaim.lean ====
/-
  The recurrence computes its reference on finite projections and logits.
-/
module

public import proofs.«01_k».proof.Proof.HgrnArray
public import proofs.«01_k».proof.Proof.Gen.Kernel10Ideal.Value
public import proofs.«01_k».proof.Proof.Gen.Reference10Ideal.Run
public import Idealize.ShloMosaic.Lib.ReduceAll
public import proofs.«01_k».proof.Defs

@[expose] public section

noncomputable section

open Idealize.ShloMosaic Idealize.ShloMosaic.TcCoe Idealize.SL.Sem

namespace Cert.Hgrn

/-- The side conditions of the precondition's operations. -/
theorem pre_facts : Cert.Pre_finite.Facts where
  bitsLt_bf16_f32 := by decide
  bcast_S_S8192x4096 := by decide
  reducesTo_S8192x4096_S_d0_1 := by decide
  h_S_ := by decide
  bcast_S_S2x2x1024 := by decide
  reducesTo_S2x2x1024_S_d0_1_2 := by decide

theorem inf_eq : Ideal.ofBits .f32 0x7F800000#32 = ⊤ := by simp [Ideal.ofBits, Ideal.ieee]

/-- A value of magnitude below the infinity is a real number. -/
theorem finite_of_lt (x : EReal) (h : Ideal.cmp .olt (max x (-x)) (Ideal.ofBits .f32 0x7F800000#32) = 1#1) : x = (x.toReal : EReal) := by
  have h' : max x (-x) < Ideal.ofBits .f32 0x7F800000#32 := by
    by_contra e
    unfold Ideal.cmp at h
    simp only [decide_eq_false e] at h
    exact absurd h (by decide)
  rw [inf_eq] at h'
  have a : x ≠ ⊤ := fun e => by subst e; exact absurd h' (by simp)
  have b : x ≠ ⊥ := fun e => by subst e; exact absurd h' (by simp)
  exact (EReal.coe_toReal a b).symm

instance : Subsingleton Cert.Pre_finite.S_.Idx := ⟨fun _ _ => funext fun a => a.elim0⟩

/-- The precondition read: the projections and the logits are real numbers. -/
theorem finite_of_pre [Cert.Pre_finite.Facts] (x : FVec Ideal Cert.Pre_finite.S8192x4096 .bf16) (og : FVec Ideal Cert.Pre_finite.S8192x1024 .bf16)
    (lg : FVec Ideal Cert.Pre_finite.S2x2x1024 .f32) (g : FVec Ideal Cert.Pre_finite.S1x128 .f32)
    (h : Cert.Pre_finite.fn (F := Ideal) x og lg g = fun _ => 1#1) :
    (∀ i, x i = ((x i).toReal : EReal)) ∧ ∀ i, lg i = ((lg i).toReal : EReal) := by
  have h' := IntOp.andi_eq_one.1 (congrFun h ix0)
  exact ⟨fun i => finite_of_lt (x i) (Host.reduce_andi_all _ _ _ _ ix0 h'.1 i), fun i => finite_of_lt (lg i) (Host.reduce_andi_all _ _ _ _ ix0 h'.2 i)⟩

theorem preserves : Cert.preserves_Kernel10_Kernel10Ideal :=
  IdealRules.named_const.statement Cert.Kernel10Ideal.κ "log2_e" .f32 0x3FB8AA3B#32 (((Real.log 2)⁻¹ : ℝ) : EReal) rfl

theorem algebraic : Cert.algebraic_Kernel10Ideal_Reference10Ideal_pre_finite (hKernel10Ideal := Cert.Kernel10Ideal.Gen.facts)
    (hReference10Ideal := Cert.Reference10Ideal.Gen.facts) (hPre_finite := pre_facts) := by
  intro m g m' g' hpre hagree
  have hf (c : Dev _) := @finite_of_pre pre_facts _ _ _ _ (hpre c)
  refine ⟨fun c i => spec (m ((c.tc : Thread _ _).loc Cert.Kernel10Ideal.main_arg0))
      (m ((c.tc : Thread _ _).loc Cert.Kernel10Ideal.main_arg1)) (m ((c.tc : Thread _ _).loc Cert.Kernel10Ideal.main_arg2))
      (m ((c.tc : Thread _ _).loc Cert.Kernel10Ideal.main_arg3)) (i 0) (i 1), ?_, ?_⟩
  · exact (θ_run _ _ _).mono (fun _ h c => ⟨(h c).1.trans (Cert.Kernel10Ideal.Hgrn.final m c (hf c).1 (hf c).2), (h c).2⟩)
      (Cert.Kernel10Ideal.Value.run_blocks m g)
  · refine (θ_run _ _ _).mono (fun _ h c => ⟨(h c).1.trans ?_, (h c).2⟩)
      (Cert.Reference10Ideal.Value.run m' g')
    refine (Cert.Reference10Ideal.Read.val_main_v145_eq _ _).trans ?_
    rw [(hagree c).1, (hagree c).2.1, (hagree c).2.2.1, (hagree c).2.2.2]
    funext i
    obtain ⟨r, k, rfl⟩ : ∃ (r : Fin 8192) (k : Fin 1024), i = ix2 r k := ⟨i 0, i 1, eq_ix2 _⟩
    exact ref_apply _ _ _ _ (hf c).1 (hf c).2 r k

end Cert.Hgrn

end
-- ==== Proof.lean ====
/-
  The claim, from the frames of the programs and the value claims of the calls.
-/
module

public import proofs.«01_k».proof.Proof.Gen.Kernel.Frame
public import proofs.«01_k».proof.Proof.Gen.KernelIdeal.Frame
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Reference2Ideal.Run
public import proofs.«01_k».proof.Proof.Ff2Bits
public import proofs.«01_k».proof.Proof.Ff2Body
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Reference10Ideal.Run
public import proofs.«01_k».proof.Proof.SguClaim
public import proofs.«01_k».proof.Proof.Ff1Claim
public import proofs.«01_k».proof.Proof.Ff2Claim
public import proofs.«01_k».proof.Proof.MixClaim
public import proofs.«01_k».proof.Proof.SigClaim
public import proofs.«01_k».proof.Proof.GeluClaim
public import proofs.«01_k».proof.Proof.LinClaim
public import proofs.«01_k».proof.Proof.SiluClaim
public import proofs.«01_k».proof.Proof.ModClaim
public import proofs.«01_k».proof.Proof.HgrnClaim
public import proofs.«01_k».proof.Defs

@[expose] public section

noncomputable section

namespace Cert.Proof

open Idealize.ShloMosaic Idealize.SL.Sem

theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Hgrn.pre_facts,
    fun m ρ _ => Cert.Kernel.Gen.frame m ρ,
    fun m ρ _ => Cert.KernelIdeal.Gen.frame m ρ,
    fun m ρ _ => (θ_run Cert.ReferenceIdeal.defs _ _).mono (fun r h => ⟨fun c => (h c).2, sem_eq_zero_of_no_sems (by decide) r.2⟩)
      (Cert.ReferenceIdeal.Value.run (F := Ideal) m ρ),
    fun m ρ _ => Cert.Kernel2.Gen.frame m ρ,
    fun m ρ _ => Cert.Kernel2Ideal.Gen.frame m ρ,
    fun m ρ _ => (θ_run Cert.Reference2Ideal.defs _ _).mono (fun r h => ⟨fun c => (h c).2.2, sem_eq_zero_of_no_sems (by decide) r.2⟩)
      (Cert.Reference2Ideal.Value.run (F := Ideal) m ρ),
    fun m ρ _ => Cert.Kernel3.Ff2.frame m ρ,
    fun m ρ _ => Cert.Kernel3Ideal.Ff2.frame m ρ,
    fun m ρ _ => (θ_run Cert.Reference3Ideal.defs _ _).mono (fun r h => ⟨fun c => (h c).2, sem_eq_zero_of_no_sems (by decide) r.2⟩)
      (Cert.Reference3Ideal.Value.run (F := Ideal) m ρ),
    fun m ρ _ => Cert.Kernel4.Gen.frame m ρ,
    fun m ρ _ => Cert.Kernel4Ideal.Gen.frame m ρ,
    fun m ρ _ => (θ_run Cert.Reference4Ideal.defs _ _).mono (fun r h => ⟨fun c => (h c).2.2, sem_eq_zero_of_no_sems (by decide) r.2⟩)
      (Cert.Reference4Ideal.Value.run (F := Ideal) m ρ),
    fun m ρ _ => Cert.Kernel5.Gen.frame m ρ,
    fun m ρ _ => Cert.Kernel5Ideal.Gen.frame m ρ,
    fun m ρ _ => (θ_run Cert.Reference5Ideal.defs _ _).mono (fun r h => ⟨fun c => (h c).2.2, sem_eq_zero_of_no_sems (by decide) r.2⟩)
      (Cert.Reference5Ideal.Value.run (F := Ideal) m ρ),
    fun m ρ _ => Cert.Kernel6.Gen.frame m ρ,
    fun m ρ _ => Cert.Kernel6Ideal.Gen.frame m ρ,
    fun m ρ _ => (θ_run Cert.Reference6Ideal.defs _ _).mono (fun r h => ⟨fun c => (h c).2.2, sem_eq_zero_of_no_sems (by decide) r.2⟩)
      (Cert.Reference6Ideal.Value.run (F := Ideal) m ρ),
    fun m ρ _ => Cert.Kernel7.Gen.frame m ρ,
    fun m ρ _ => Cert.Kernel7Ideal.Gen.frame m ρ,
    fun m ρ _ => (θ_run Cert.Reference7Ideal.defs _ _).mono (fun r h => ⟨fun c => (h c).2.2.2, sem_eq_zero_of_no_sems (by decide) r.2⟩)
      (Cert.Reference7Ideal.Value.run (F := Ideal) m ρ),
    fun m ρ _ => Cert.Kernel8.Gen.frame m ρ,
    fun m ρ _ => Cert.Kernel8Ideal.Gen.frame m ρ,
    fun m ρ _ => (θ_run Cert.Reference8Ideal.defs _ _).mono (fun r h => ⟨fun c => (h c).2.2, sem_eq_zero_of_no_sems (by decide) r.2⟩)
      (Cert.Reference8Ideal.Value.run (F := Ideal) m ρ),
    fun m ρ _ => Cert.Kernel9.Gen.frame m ρ,
    fun m ρ _ => Cert.Kernel9Ideal.Gen.frame m ρ,
    fun m ρ _ => (θ_run Cert.Reference9Ideal.defs _ _).mono (fun r h => ⟨fun c => (h c).2, sem_eq_zero_of_no_sems (by decide) r.2⟩)
      (Cert.Reference9Ideal.Value.run (F := Ideal) m ρ),
    fun m ρ _ => Cert.Kernel10.Gen.frame m ρ,
    fun m ρ _ => Cert.Kernel10Ideal.Gen.frame m ρ,
    fun m ρ _ => Cert.Kernel10Ideal.Gen.frame m ρ,
    fun m ρ _ => (θ_run Cert.Reference10Ideal.defs _ _).mono (fun r h => ⟨fun c => (h c).2, sem_eq_zero_of_no_sems (by decide) r.2⟩)
      (Cert.Reference10Ideal.Value.run (F := Ideal) m ρ),
    fun m ρ _ => (θ_run Cert.Reference10Ideal.defs _ _).mono (fun r h => ⟨fun c => (h c).2, sem_eq_zero_of_no_sems (by decide) r.2⟩)
      (Cert.Reference10Ideal.Value.run (F := Ideal) m ρ),
    trivial,
    Cert.Sgu.algebraic,
    trivial,
    Cert.Ff1.algebraic,
    trivial,
    Cert.Ff2.algebraic,
    trivial,
    Cert.Mix.algebraic,
    trivial,
    Cert.Sig.algebraic,
    Cert.Gelu.preserves,
    Cert.Gelu.algebraic,
    Cert.Lin.preserves,
    Cert.Lin.algebraic,
    trivial,
    Cert.Silu.algebraic,
    trivial,
    Cert.Mod.algebraic,
    Cert.Hgrn.preserves,
    Cert.Hgrn.algebraic⟩

end Cert.Proof

end
